-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attn [hPre_idx_pre : Cert.Pre_idx_pre.Facts] (m : (ℓ : Loc Cert.Attn.nD Cert.Attn.τ Cert.Attn.sig) → Buf (Elt Bits) ℓ) : Prop :=
  ∀ c : Dev Cert.Attn.nD,
    (Cert.Pre_idx_pre.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3))) = (fun _ => 1#1)

def Pre_AttnIdeal [hPre_idx_pre : Cert.Pre_idx_pre.Facts] (m : (ℓ : Loc Cert.AttnIdeal.nD Cert.AttnIdeal.τ Cert.AttnIdeal.sig) → Buf (Elt Ideal) ℓ) : Prop :=
  ∀ c : Dev Cert.AttnIdeal.nD,
    (Cert.Pre_idx_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnIdeal_attn_pre [hPre_attn_pre : Cert.Pre_attn_pre.Facts] (m : (ℓ : Loc Cert.AttnIdeal.nD Cert.AttnIdeal.τ Cert.AttnIdeal.sig) → Buf (Elt Ideal) ℓ) : Prop :=
  ∀ c : Dev Cert.AttnIdeal.nD,
    (Cert.Pre_attn_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_pre [hPre_attn_pre : Cert.Pre_attn_pre.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_pre.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Attn [hAttn : Cert.Attn.Facts] [hPre_idx_pre : Cert.Pre_idx_pre.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] [hPre_idx_pre : Cert.Pre_idx_pre.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_pre [hAttnIdeal : Cert.AttnIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_pre m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_attn_pre [hAttnReferenceIdeal : Cert.AttnReferenceIdeal.Facts] [hPre_attn_pre : Cert.Pre_attn_pre.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_pre m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Attn_AttnIdeal : Prop :=
  True

def algebraic_AttnIdeal_AttnReferenceIdeal_pre_attn_pre [hAttnIdeal : Cert.AttnIdeal.Facts] [hAttnReferenceIdeal : Cert.AttnReferenceIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_attn_pre m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v85) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnReferenceIdeal : Cert.AttnReferenceIdeal.Facts) (hPre_idx_pre : Cert.Pre_idx_pre.Facts) (hPre_attn_pre : Cert.Pre_attn_pre.Facts),
    quiescent_Kernel (hKernel := hKernel)
    ∧ quiescent_KernelIdeal (hKernelIdeal := hKernelIdeal)
    ∧ quiescent_ReferenceIdeal (hReferenceIdeal := hReferenceIdeal)
    ∧ quiescent_Attn (hAttn := hAttn) (hPre_idx_pre := hPre_idx_pre)
    ∧ quiescent_AttnIdeal (hAttnIdeal := hAttnIdeal) (hPre_idx_pre := hPre_idx_pre)
    ∧ quiescent_AttnIdeal_pre_attn_pre (hAttnIdeal := hAttnIdeal) (hPre_attn_pre := hPre_attn_pre)
    ∧ quiescent_AttnReferenceIdeal (hAttnReferenceIdeal := hAttnReferenceIdeal)
    ∧ quiescent_AttnReferenceIdeal_pre_attn_pre (hAttnReferenceIdeal := hAttnReferenceIdeal) (hPre_attn_pre := hPre_attn_pre)
    ∧ preserves_Kernel_KernelIdeal
    ∧ algebraic_KernelIdeal_ReferenceIdeal (hKernelIdeal := hKernelIdeal) (hReferenceIdeal := hReferenceIdeal)
    ∧ preserves_Attn_AttnIdeal
    ∧ algebraic_AttnIdeal_AttnReferenceIdeal_pre_attn_pre (hAttnIdeal := hAttnIdeal) (hAttnReferenceIdeal := hAttnReferenceIdeal) (hPre_attn_pre := hPre_attn_pre)
-- ==== Pre_attn_pre.lean ====
abbrev S12x64x128 : Shape := ⟨3, ![12, 64, 128]⟩
abbrev S12x8192x64 : Shape := ⟨3, ![12, 8192, 64]⟩
abbrev S128x12x64 : Shape := ⟨3, ![128, 12, 64]⟩
abbrev S_ : Shape := ⟨0, ![]⟩

class Facts : Prop where
  bcast_S_S12x64x128 : S_.BroadcastsInDim S12x64x128 (![] : Fin 0 → Fin S12x64x128.rank)
  reducesTo_S12x64x128_S_d0_1_2 : S12x64x128.ReducesTo [0, 1, 2] S_
  h_S_ : 0 < S_.numel
  bcast_S_S128x12x64 : S_.BroadcastsInDim S128x12x64 (![] : Fin 0 → Fin S128x12x64.rank)
  reducesTo_S128x12x64_S_d0_1_2 : S128x12x64.ReducesTo [0, 1, 2] S_

variable [Facts]

def fn {F : FTy → Type} [FloatOps F] (main_arg0 : IVec S12x64x128 32) (main_arg1 : FVec F S12x8192x64 .f32) (main_arg2 : FVec F S12x8192x64 .f32) (main_arg3 : FVec F S128x12x64 .f32) : IVec S_ 1 :=
  let main_c : IVec S_ 32 := constantI S_ 32 0#32
  let main_v0 : IVec S12x64x128 32 := broadcastInDim S12x64x128 ![] bcast_S_S12x64x128 main_c
  let main_v1 : IVec S12x64x128 1 := cmpi .sge main_arg0 main_v0
  let main_c_0 : IVec S_ 1 := constantI S_ 1 1#1
  let main_v2 : IVec S_ 1 := (fun x v => Host.reduce IntOp.andi x v reducesTo_S12x64x128_S_d0_1_2 h_S_) main_v1 main_c_0
  let main_c_1 : IVec S_ 32 := constantI S_ 32 8192#32
  let main_v3 : IVec S12x64x128 32 := broadcastInDim S12x64x128 ![] bcast_S_S12x64x128 main_c_1
  let main_v4 : IVec S12x64x128 1 := cmpi .slt main_arg0 main_v3
  let main_c_2 : IVec S_ 1 := constantI S_ 1 1#1
  let main_v5 : IVec S_ 1 := (fun x v => Host.reduce IntOp.andi x v reducesTo_S12x64x128_S_d0_1_2 h_S_) main_v4 main_c_2
  let main_v6 : IVec S_ 1 := andi main_v2 main_v5
  let main_cst : FVec F S_ .f32 := constant S_ .f32 0x00000000#32
  let main_v7 : FVec F S128x12x64 .f32 := broadcastInDim S128x12x64 ![] bcast_S_S128x12x64 main_cst
  let main_v8 : IVec S128x12x64 1 := cmpf .oeq main_arg3 main_v7
  let main_c_3 : IVec S_ 1 := constantI S_ 1 1#1
  let main_v9 : IVec S_ 1 := (fun x v => Host.reduce IntOp.andi x v reducesTo_S128x12x64_S_d0_1_2 h_S_) main_v8 main_c_3
  let main_v10 : IVec S_ 1 := andi main_v6 main_v9
  main_v10
-- ==== Pre_idx_pre.lean ====
abbrev S12x64x128 : Shape := ⟨3, ![12, 64, 128]⟩
abbrev S12x8192x64 : Shape := ⟨3, ![12, 8192, 64]⟩
abbrev S128x12x64 : Shape := ⟨3, ![128, 12, 64]⟩
abbrev S_ : Shape := ⟨0, ![]⟩

class Facts : Prop where
  bcast_S_S12x64x128 : S_.BroadcastsInDim S12x64x128 (![] : Fin 0 → Fin S12x64x128.rank)
  reducesTo_S12x64x128_S_d0_1_2 : S12x64x128.ReducesTo [0, 1, 2] S_
  h_S_ : 0 < S_.numel

variable [Facts]

def fn {F : FTy → Type} [FloatOps F] (main_arg0 : IVec S12x64x128 32) (main_arg1 : FVec F S12x8192x64 .f32) (main_arg2 : FVec F S12x8192x64 .f32) (main_arg3 : FVec F S128x12x64 .f32) : IVec S_ 1 :=
  let main_c : IVec S_ 32 := constantI S_ 32 0#32
  let main_v0 : IVec S12x64x128 32 := broadcastInDim S12x64x128 ![] bcast_S_S12x64x128 main_c
  let main_v1 : IVec S12x64x128 1 := cmpi .sge main_arg0 main_v0
  let main_c_0 : IVec S_ 1 := constantI S_ 1 1#1
  let main_v2 : IVec S_ 1 := (fun x v => Host.reduce IntOp.andi x v reducesTo_S12x64x128_S_d0_1_2 h_S_) main_v1 main_c_0
  let main_c_1 : IVec S_ 32 := constantI S_ 32 8192#32
  let main_v3 : IVec S12x64x128 32 := broadcastInDim S12x64x128 ![] bcast_S_S12x64x128 main_c_1
  let main_v4 : IVec S12x64x128 1 := cmpi .slt main_arg0 main_v3
  let main_c_2 : IVec S_ 1 := constantI S_ 1 1#1
  let main_v5 : IVec S_ 1 := (fun x v => Host.reduce IntOp.andi x v reducesTo_S12x64x128_S_d0_1_2 h_S_) main_v4 main_c_2
  let main_v6 : IVec S_ 1 := andi main_v2 main_v5
  main_v6
-- ==== Kernel.lean ====
abbrev S12x8192x64 : Shape := ⟨3, ![12, 8192, 64]⟩
abbrev S12x64x64 : Shape := ⟨3, ![12, 64, 64]⟩
abbrev S12x1x64 : Shape := ⟨3, ![12, 1, 64]⟩
abbrev S1x2048x64 : Shape := ⟨3, ![1, 2048, 64]⟩
abbrev S1x64x64 : Shape := ⟨3, ![1, 64, 64]⟩
abbrev S1x1x64 : Shape := ⟨3, ![1, 1, 64]⟩
abbrev S64x64 : Shape := ⟨2, ![64, 64]⟩
abbrev S64x1 : Shape := ⟨2, ![64, 1]⟩
abbrev S1x64 : Shape := ⟨2, ![1, 64]⟩
abbrev S2048x64 : Shape := ⟨2, ![2048, 64]⟩
abbrev S2048 : Shape := ⟨1, ![2048]⟩
abbrev S2048x1 : Shape := ⟨2, ![2048, 1]⟩
abbrev S64 : Shape := ⟨1, ![64]⟩

abbrev nBuf : Space → Nat
  | .hbm => 5
  | .vmem => 14
  | .smem => 0
  | _ => 0

abbrev bufTy : (tb : Table) → Fin (tcTables nBuf tb) → BufTy
  | .hbm, ⟨0, _⟩ => ⟨S12x8192x64, .f32⟩
  | .hbm, ⟨1, _⟩ => ⟨S12x64x64, .f32⟩
  | .hbm, ⟨2, _⟩ => ⟨S12x64x64, .f32⟩
  | .hbm, ⟨3, _⟩ => ⟨S12x8192x64, .f32⟩
  | .hbm, ⟨4, _⟩ => ⟨S12x1x64, .f32⟩
  | .local _ .vmem, ⟨0, _⟩ => ⟨S1x2048x64, .f32⟩
  | .local _ .vmem, ⟨1, _⟩ => ⟨S1x2048x64, .f32⟩
  | .local _ .vmem, ⟨2, _⟩ => ⟨S1x64x64, .f32⟩
  | .local _ .vmem, ⟨3, _⟩ => ⟨S1x64x64, .f32⟩
  | .local _ .vmem, ⟨4, _⟩ => ⟨S1x64x64, .f32⟩
  | .local _ .vmem, ⟨5, _⟩ => ⟨S1x64x64, .f32⟩
  | .local _ .vmem, ⟨6, _⟩ => ⟨S1x2048x64, .f32⟩
  | .local _ .vmem, ⟨7, _⟩ => ⟨S1x2048x64, .f32⟩
  | .local _ .vmem, ⟨8, _⟩ => ⟨S1x1x64, .f32⟩
  | .local _ .vmem, ⟨9, _⟩ => ⟨S1x1x64, .f32⟩
  | .local _ .vmem, ⟨10, _⟩ => ⟨S64x64, .f32⟩
  | .local _ .vmem, ⟨11, _⟩ => ⟨S64x64, .f32⟩
  | .local _ .vmem, ⟨12, _⟩ => ⟨S64x1, .f32⟩
  | .local _ .vmem, ⟨13, _⟩ => ⟨S1x64, .f32⟩
  | _, _ => ⟨S12x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![12, 10, 4], ![false, false, false]⟩

def k0_cond3 (i : grid0.Coords) : BitVec 1 :=
  let arg1 : BitVec 32 := BitVec.ofNat 32 (i 1).val
  let c9_i32_10 : BitVec 32 := 9#32
  let v22 : BitVec 1 := Scalar.cmpi .eq arg1 c9_i32_10
  let v23 : BitVec 32 := Scalar.extui v22
  let c0_i32_11 : BitVec 32 := 0#32
  let v24 : BitVec 1 := Scalar.cmpi .ne v23 c0_i32_11
  v24

def k0_cond6 (i : grid0.Coords) : BitVec 1 :=
  let arg1 : BitVec 32 := BitVec.ofNat 32 (i 1).val
  let c9_i32_28 : BitVec 32 := 9#32
  let v57 : BitVec 1 := Scalar.cmpi .eq arg1 c9_i32_28
  let arg2 : BitVec 32 := BitVec.ofNat 32 (i 2).val
  let c3_i32_29 : BitVec 32 := 3#32
  let v58 : BitVec 1 := Scalar.cmpi .eq arg2 c3_i32_29
  let v59 : BitVec 1 := Scalar.andi v57 v58
  let v60 : BitVec 32 := Scalar.extui v59
  let c0_i32_30 : BitVec 32 := 0#32
  let v61 : BitVec 1 := Scalar.cmpi .ne v60 c0_i32_30
  v61

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 1 := Scalar.cmpi .eq arg1 c9_i32
  let c0_i32 : BitVec 32 := 0#32
  let v1 : BitVec 32 := Scalar.select v0 arg2 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== ReferenceIdeal.lean ====
abbrev S12x8192x64 : Shape := ⟨3, ![12, 8192, 64]⟩
abbrev S12x64x64 : Shape := ⟨3, ![12, 64, 64]⟩
abbrev S_ : Shape := ⟨0, ![]⟩
abbrev S12x8192 : Shape := ⟨2, ![12, 8192]⟩
abbrev S12x8192x1 : Shape := ⟨3, ![12, 8192, 1]⟩
abbrev S12x64 : Shape := ⟨2, ![12, 64]⟩
abbrev S12x64x1 : Shape := ⟨3, ![12, 64, 1]⟩
abbrev S1x1x64 : Shape := ⟨3, ![1, 1, 64]⟩
abbrev S12 : Shape := ⟨1, ![12]⟩
abbrev S12x1 : Shape := ⟨2, ![12, 1]⟩
abbrev S12x8192x2 : Shape := ⟨3, ![12, 8192, 2]⟩
abbrev S12x1x64 : Shape := ⟨3, ![12, 1, 64]⟩

abbrev nBuf : Space → Nat
  | .hbm => 334
  | .vmem => 0
  | .smem => 0
  | _ => 0

abbrev hbmTy0_0 (i : Nat) : BufTy := match i % 128 with
  | 0 => ⟨S12x8192x64, .f32⟩
  | 1 => ⟨S12x64x64, .f32⟩
  | 2 => ⟨S12x64x64, .f32⟩
  | 3 => ⟨S12x8192x64, .f32⟩
  | 4 => ⟨S_, .f32⟩
  | 5 => ⟨S12x8192, .f32⟩
  | 6 => ⟨S12x8192x1, .f32⟩
  | 7 => ⟨S12x8192x1, .f32⟩
  | 8 => ⟨S_, .f32⟩
  | 9 => ⟨S12x8192x1, .f32⟩
  | 10 => ⟨S12x8192x1, .f32⟩
  | 11 => ⟨S12x8192x64, .f32⟩
  | 12 => ⟨S12x8192x64, .f32⟩
  | 13 => ⟨S12x64x64, .f32⟩
  | 14 => ⟨S_, .f32⟩
  | 15 => ⟨S12x64, .f32⟩
  | 16 => ⟨S12x64x1, .f32⟩
  | 17 => ⟨S12x64x1, .f32⟩
  | 18 => ⟨S_, .f32⟩
  | 19 => ⟨S12x64x1, .f32⟩
  | 20 => ⟨S12x64x1, .f32⟩
  | 21 => ⟨S12x64x64, .f32⟩
  | 22 => ⟨S12x64x64, .f32⟩
  | 23 => ⟨S12x8192x64, .f32⟩
  | 24 => ⟨S12x8192x64, .i32⟩
  | 25 => ⟨S_, .f32⟩
  | 26 => ⟨S_, .i32⟩
  | 27 => ⟨S12x8192, .f32⟩
  | 28 => ⟨S12x8192, .i32⟩
  | 29 => ⟨S12x8192x1, .i32⟩
  | 30 => ⟨S1x1x64, .i32⟩
  | 31 => ⟨S12x8192x64, .i32⟩
  | 32 => ⟨S12x8192x64, .i32⟩
  | 33 => ⟨S12x8192x64, .i1⟩
  | 34 => ⟨S12x8192x64, .f32⟩
  | 35 => ⟨S_, .f32⟩
  | 36 => ⟨S12x64, .f32⟩
  | 37 => ⟨S12x64x64, .f32⟩
  | 38 => ⟨S12x64x64, .f32⟩
  | 39 => ⟨S_, .f32⟩
  | 40 => ⟨S12x64, .f32⟩
  | 41 => ⟨S12x64x1, .f32⟩
  | 42 => ⟨S12x64x1, .f32⟩
  | 43 => ⟨S_, .f32⟩
  | 44 => ⟨S12x64x1, .f32⟩
  | 45 => ⟨S12x64x1, .f32⟩
  | 46 => ⟨S12x64x64, .f32⟩
  | 47 => ⟨S12x64x64, .f32⟩
  | 48 => ⟨S_, .f32⟩
  | 49 => ⟨S12x64, .f32⟩
  | 50 => ⟨S12x64, .i1⟩
  | 51 => ⟨S12x64x1, .i1⟩
  | 52 => ⟨S12x64x64, .i1⟩
  | 53 => ⟨S12x64x64, .f32⟩
  | 54 => ⟨S12x8192x64, .f32⟩
  | 55 => ⟨S12x8192x64, .i32⟩
  | 56 => ⟨S_, .f32⟩
  | 57 => ⟨S_, .i32⟩
  | 58 => ⟨S12x8192, .f32⟩
  | 59 => ⟨S12x8192, .i32⟩
  | 60 => ⟨S12x8192x1, .i32⟩
  | 61 => ⟨S1x1x64, .i32⟩
  | 62 => ⟨S12x8192x64, .i32⟩
  | 63 => ⟨S12x8192x64, .i32⟩
  | 64 => ⟨S12x8192x64, .i1⟩
  | 65 => ⟨S12x8192x64, .f32⟩
  | 66 => ⟨S_, .f32⟩
  | 67 => ⟨S12x64, .f32⟩
  | 68 => ⟨S12x64x64, .f32⟩
  | 69 => ⟨S12x64x64, .f32⟩
  | 70 => ⟨S_, .f32⟩
  | 71 => ⟨S12x64, .f32⟩
  | 72 => ⟨S12x64x1, .f32⟩
  | 73 => ⟨S12x64x1, .f32⟩
  | 74 => ⟨S_, .f32⟩
  | 75 => ⟨S12x64x1, .f32⟩
  | 76 => ⟨S12x64x1, .f32⟩
  | 77 => ⟨S12x64x64, .f32⟩
  | 78 => ⟨S12x64x64, .f32⟩
  | 79 => ⟨S_, .f32⟩
  | 80 => ⟨S12x64, .f32⟩
  | 81 => ⟨S12x64, .i1⟩
  | 82 => ⟨S12x64x1, .i1⟩
  | 83 => ⟨S12x64x64, .i1⟩
  | 84 => ⟨S12x64x64, .f32⟩
  | 85 => ⟨S12x8192x64, .f32⟩
  | 86 => ⟨S12x8192x64, .i32⟩
  | 87 => ⟨S_, .f32⟩
  | 88 => ⟨S_, .i32⟩
  | 89 => ⟨S12x8192, .f32⟩
  | 90 => ⟨S12x8192, .i32⟩
  | 91 => ⟨S12x8192x1, .i32⟩
  | 92 => ⟨S1x1x64, .i32⟩
  | 93 => ⟨S12x8192x64, .i32⟩
  | 94 => ⟨S12x8192x64, .i32⟩
  | 95 => ⟨S12x8192x64, .i1⟩
  | 96 => ⟨S12x8192x64, .f32⟩
  | 97 => ⟨S_, .f32⟩
  | 98 => ⟨S12x64, .f32⟩
  | 99 => ⟨S12x64x64, .f32⟩
  | 100 => ⟨S12x64x64, .f32⟩
  | 101 => ⟨S_, .f32⟩
  | 102 => ⟨S12x64, .f32⟩
  | 103 => ⟨S12x64x1, .f32⟩
  | 104 => ⟨S12x64x1, .f32⟩
  | 105 => ⟨S_, .f32⟩
  | 106 => ⟨S12x64x1, .f32⟩
  | 107 => ⟨S12x64x1, .f32⟩
  | 108 => ⟨S12x64x64, .f32⟩
  | 109 => ⟨S12x64x64, .f32⟩
  | 110 => ⟨S_, .f32⟩
  | 111 => ⟨S12x64, .f32⟩
  | 112 => ⟨S12x64, .i1⟩
  | 113 => ⟨S12x64x1, .i1⟩
  | 114 => ⟨S12x64x64, .i1⟩
  | 115 => ⟨S12x64x64, .f32⟩
  | 116 => ⟨S12x8192x64, .f32⟩
  | 117 => ⟨S12x8192x64, .i32⟩
  | 118 => ⟨S_, .f32⟩
  | 119 => ⟨S_, .i32⟩
  | 120 => ⟨S12x8192, .f32⟩
  | 121 => ⟨S12x8192, .i32⟩
  | 122 => ⟨S12x8192x1, .i32⟩
  | 123 => ⟨S1x1x64, .i32⟩
  | 124 => ⟨S12x8192x64, .i32⟩
  | 125 => ⟨S12x8192x64, .i32⟩
  | 126 => ⟨S12x8192x64, .i1⟩
  | 127 => ⟨S12x8192x64, .f32⟩
  | _ => ⟨S12x8192x64, .f32⟩

abbrev hbmTy0_1 (i : Nat) : BufTy := match i % 128 with
  | 0 => ⟨S_, .f32⟩
  | 1 => ⟨S12x64, .f32⟩
  | 2 => ⟨S12x64x64, .f32⟩
  | 3 => ⟨S12x64x64, .f32⟩
  | 4 => ⟨S_, .f32⟩
  | 5 => ⟨S12x64, .f32⟩
  | 6 => ⟨S12x64x1, .f32⟩
  | 7 => ⟨S12x64x1, .f32⟩
  | 8 => ⟨S_, .f32⟩
  | 9 => ⟨S12x64x1, .f32⟩
  | 10 => ⟨S12x64x1, .f32⟩
  | 11 => ⟨S12x64x64, .f32⟩
  | 12 => ⟨S12x64x64, .f32⟩
  | 13 => ⟨S_, .f32⟩
  | 14 => ⟨S12x64, .f32⟩
  | 15 => ⟨S12x64, .i1⟩
  | 16 => ⟨S12x64x1, .i1⟩
  | 17 => ⟨S12x64x64, .i1⟩
  | 18 => ⟨S12x64x64, .f32⟩
  | 19 => ⟨S12x8192x64, .f32⟩
  | 20 => ⟨S12x8192x64, .i32⟩
  | 21 => ⟨S_, .f32⟩
  | 22 => ⟨S_, .i32⟩
  | 23 => ⟨S12x8192, .f32⟩
  | 24 => ⟨S12x8192, .i32⟩
  | 25 => ⟨S12x8192x1, .i32⟩
  | 26 => ⟨S1x1x64, .i32⟩
  | 27 => ⟨S12x8192x64, .i32⟩
  | 28 => ⟨S12x8192x64, .i32⟩
  | 29 => ⟨S12x8192x64, .i1⟩
  | 30 => ⟨S12x8192x64, .f32⟩
  | 31 => ⟨S_, .f32⟩
  | 32 => ⟨S12x64, .f32⟩
  | 33 => ⟨S12x64x64, .f32⟩
  | 34 => ⟨S12x64x64, .f32⟩
  | 35 => ⟨S_, .f32⟩
  | 36 => ⟨S12x64, .f32⟩
  | 37 => ⟨S12x64x1, .f32⟩
  | 38 => ⟨S12x64x1, .f32⟩
  | 39 => ⟨S_, .f32⟩
  | 40 => ⟨S12x64x1, .f32⟩
  | 41 => ⟨S12x64x1, .f32⟩
  | 42 => ⟨S12x64x64, .f32⟩
  | 43 => ⟨S12x64x64, .f32⟩
  | 44 => ⟨S_, .f32⟩
  | 45 => ⟨S12x64, .f32⟩
  | 46 => ⟨S12x64, .i1⟩
  | 47 => ⟨S12x64x1, .i1⟩
  | 48 => ⟨S12x64x64, .i1⟩
  | 49 => ⟨S12x64x64, .f32⟩
  | 50 => ⟨S12x8192x64, .f32⟩
  | 51 => ⟨S12x8192x64, .i32⟩
  | 52 => ⟨S_, .f32⟩
  | 53 => ⟨S_, .i32⟩
  | 54 => ⟨S12x8192, .f32⟩
  | 55 => ⟨S12x8192, .i32⟩
  | 56 => ⟨S12x8192x1, .i32⟩
  | 57 => ⟨S1x1x64, .i32⟩
  | 58 => ⟨S12x8192x64, .i32⟩
  | 59 => ⟨S12x8192x64, .i32⟩
  | 60 => ⟨S12x8192x64, .i1⟩
  | 61 => ⟨S12x8192x64, .f32⟩
  | 62 => ⟨S_, .f32⟩
  | 63 => ⟨S12x64, .f32⟩
  | 64 => ⟨S12x64x64, .f32⟩
  | 65 => ⟨S12x64x64, .f32⟩
  | 66 => ⟨S_, .f32⟩
  | 67 => ⟨S12x64, .f32⟩
  | 68 => ⟨S12x64x1, .f32⟩
  | 69 => ⟨S12x64x1, .f32⟩
  | 70 => ⟨S_, .f32⟩
  | 71 => ⟨S12x64x1, .f32⟩
  | 72 => ⟨S12x64x1, .f32⟩
  | 73 => ⟨S12x64x64, .f32⟩
  | 74 => ⟨S12x64x64, .f32⟩
  | 75 => ⟨S_, .f32⟩
  | 76 => ⟨S12x64, .f32⟩
  | 77 => ⟨S12x64, .i1⟩
  | 78 => ⟨S12x64x1, .i1⟩
  | 79 => ⟨S12x64x64, .i1⟩
  | 80 => ⟨S12x64x64, .f32⟩
  | 81 => ⟨S12x8192x64, .f32⟩
  | 82 => ⟨S12x8192x64, .i32⟩
  | 83 => ⟨S_, .f32⟩
  | 84 => ⟨S_, .i32⟩
  | 85 => ⟨S12x8192, .f32⟩
  | 86 => ⟨S12x8192, .i32⟩
  | 87 => ⟨S12x8192x1, .i32⟩
  | 88 => ⟨S1x1x64, .i32⟩
  | 89 => ⟨S12x8192x64, .i32⟩
  | 90 => ⟨S12x8192x64, .i32⟩
  | 91 => ⟨S12x8192x64, .i1⟩
  | 92 => ⟨S12x8192x64, .f32⟩
  | 93 => ⟨S_, .f32⟩
  | 94 => ⟨S12x64, .f32⟩
  | 95 => ⟨S12x64x64, .f32⟩
  | 96 => ⟨S12x64x64, .f32⟩
  | 97 => ⟨S_, .f32⟩
  | 98 => ⟨S12x64, .f32⟩
  | 99 => ⟨S12x64x1, .f32⟩
  | 100 => ⟨S12x64x1, .f32⟩
  | 101 => ⟨S_, .f32⟩
  | 102 => ⟨S12x64x1, .f32⟩
  | 103 => ⟨S12x64x1, .f32⟩
  | 104 => ⟨S12x64x64, .f32⟩
  | 105 => ⟨S12x64x64, .f32⟩
  | 106 => ⟨S_, .f32⟩
  | 107 => ⟨S12x64, .f32⟩
  | 108 => ⟨S12x64, .i1⟩
  | 109 => ⟨S12x64x1, .i1⟩
  | 110 => ⟨S12x64x64, .i1⟩
  | 111 => ⟨S12x64x64, .f32⟩
  | 112 => ⟨S12x8192x64, .f32⟩
  | 113 => ⟨S12x8192x64, .i32⟩
  | 114 => ⟨S_, .f32⟩
  | 115 => ⟨S_, .i32⟩
  | 116 => ⟨S12x8192, .f32⟩
  | 117 => ⟨S12x8192, .i32⟩
  | 118 => ⟨S12x8192x1, .i32⟩
  | 119 => ⟨S1x1x64, .i32⟩
  | 120 => ⟨S12x8192x64, .i32⟩
  | 121 => ⟨S12x8192x64, .i32⟩
  | 122 => ⟨S12x8192x64, .i1⟩
  | 123 => ⟨S12x8192x64, .f32⟩
  | 124 => ⟨S_, .f32⟩
  | 125 => ⟨S12x64, .f32⟩
  | 126 => ⟨S12x64x64, .f32⟩
  | 127 => ⟨S12x64x64, .f32⟩
  | _ => ⟨S12x8192x64, .f32⟩

abbrev hbmTy0_2 (i : Nat) : BufTy := match i % 128 with
  | 0 => ⟨S_, .f32⟩
  | 1 => ⟨S12x64, .f32⟩
  | 2 => ⟨S12x64x1, .f32⟩
  | 3 => ⟨S12x64x1, .f32⟩
  | 4 => ⟨S_, .f32⟩
  | 5 => ⟨S12x64x1, .f32⟩
  | 6 => ⟨S12x64x1, .f32⟩
  | 7 => ⟨S12x64x64, .f32⟩
  | 8 => ⟨S12x64x64, .f32⟩
  | 9 => ⟨S_, .f32⟩
  | 10 => ⟨S12x64, .f32⟩
  | 11 => ⟨S12x64, .i1⟩
  | 12 => ⟨S12x64x1, .i1⟩
  | 13 => ⟨S12x64x64, .i1⟩
  | 14 => ⟨S12x64x64, .f32⟩
  | 15 => ⟨S12x8192x64, .f32⟩
  | 16 => ⟨S12x8192x64, .i32⟩
  | 17 => ⟨S_, .f32⟩
  | 18 => ⟨S_, .i32⟩
  | 19 => ⟨S12x8192, .f32⟩
  | 20 => ⟨S12x8192, .i32⟩
  | 21 => ⟨S12x8192x1, .i32⟩
  | 22 => ⟨S1x1x64, .i32⟩
  | 23 => ⟨S12x8192x64, .i32⟩
  | 24 => ⟨S12x8192x64, .i32⟩
  | 25 => ⟨S12x8192x64, .i1⟩
  | 26 => ⟨S12x8192x64, .f32⟩
  | 27 => ⟨S_, .f32⟩
  | 28 => ⟨S12x64, .f32⟩
  | 29 => ⟨S12x64x64, .f32⟩
  | 30 => ⟨S12x64x64, .f32⟩
  | 31 => ⟨S_, .f32⟩
  | 32 => ⟨S12x64, .f32⟩
  | 33 => ⟨S12x64x1, .f32⟩
  | 34 => ⟨S12x64x1, .f32⟩
  | 35 => ⟨S_, .f32⟩
  | 36 => ⟨S12x64x1, .f32⟩
  | 37 => ⟨S12x64x1, .f32⟩
  | 38 => ⟨S12x64x64, .f32⟩
  | 39 => ⟨S12x64x64, .f32⟩
  | 40 => ⟨S_, .f32⟩
  | 41 => ⟨S12x64, .f32⟩
  | 42 => ⟨S12x64, .i1⟩
  | 43 => ⟨S12x64x1, .i1⟩
  | 44 => ⟨S12x64x64, .i1⟩
  | 45 => ⟨S12x64x64, .f32⟩
  | 46 => ⟨S12x8192x64, .f32⟩
  | 47 => ⟨S12x8192x64, .i32⟩
  | 48 => ⟨S_, .f32⟩
  | 49 => ⟨S_, .i32⟩
  | 50 => ⟨S12x8192, .f32⟩
  | 51 => ⟨S12x8192, .i32⟩
  | 52 => ⟨S12, .i32⟩
  | 53 => ⟨S12x1, .i32⟩
  | 54 => ⟨S_, .i32⟩
  | 55 => ⟨S12x1, .i32⟩
  | 56 => ⟨S12x1, .i1⟩
  | 57 => ⟨S_, .i32⟩
  | 58 => ⟨S12x1, .i32⟩
  | 59 => ⟨S12x1, .i32⟩
  | 60 => ⟨S12x1, .i32⟩
  | 61 => ⟨S_, .i32⟩
  | 62 => ⟨S12x8192, .i32⟩
  | 63 => ⟨S12x8192, .i1⟩
  | 64 => ⟨S_, .i32⟩
  | 65 => ⟨S12x8192, .i32⟩
  | 66 => ⟨S12x8192, .i32⟩
  | 67 => ⟨S12x8192, .i32⟩
  | 68 => ⟨S12x8192, .i32⟩
  | 69 => ⟨S12x8192x1, .i32⟩
  | 70 => ⟨S12x8192x1, .i32⟩
  | 71 => ⟨S12x8192x2, .i32⟩
  | 72 => ⟨S12x8192x64, .f32⟩
  | 73 => ⟨S12x8192x64, .f32⟩
  | 74 => ⟨S12x8192x64, .f32⟩
  | 75 => ⟨S_, .f32⟩
  | 76 => ⟨S12x64, .f32⟩
  | 77 => ⟨S12x1x64, .f32⟩
  | _ => ⟨S12x8192x64, .f32⟩

abbrev hbmTy (i : Nat) : BufTy := match i / 128 with
  | 0 => hbmTy0_0 i
  | 1 => hbmTy0_1 i
  | 2 => hbmTy0_2 i
  | _ => ⟨S12x8192x64, .f32⟩

abbrev bufTy : (tb : Table) → Fin (tcTables nBuf tb) → BufTy
  | .hbm, ⟨i, _⟩ => hbmTy i
  | _, _ => ⟨S12x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_call1_v0 : Ref sig .tc := ⟨.hbm, 24, rfl⟩
abbrev main_call0_call1_cst : Ref sig .tc := ⟨.hbm, 25, rfl⟩
abbrev main_call0_call1_c : Ref sig .tc := ⟨.hbm, 26, rfl⟩
abbrev main_call0_call1_v1_0 : Ref sig .tc := ⟨.hbm, 27, rfl⟩
abbrev main_call0_v1 : Ref sig .tc := ⟨.hbm, 28, rfl⟩
abbrev main_call0_call2_v0 : Ref sig .tc := ⟨.hbm, 29, rfl⟩
abbrev main_call0_call2_v1 : Ref sig .tc := ⟨.hbm, 30, rfl⟩
abbrev main_call0_call2_v2 : Ref sig .tc := ⟨.hbm, 31, rfl⟩
abbrev main_call0_call2_v3 : Ref sig .tc := ⟨.hbm, 32, rfl⟩
abbrev main_call0_call2_v4 : Ref sig .tc := ⟨.hbm, 33, rfl⟩
abbrev main_call0_v2 : Ref sig .tc := ⟨.hbm, 34, rfl⟩
abbrev main_call0_cst : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_cst_0 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_cst_1 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_cst_2 : Ref sig .tc := ⟨.hbm, 48, rfl⟩
abbrev main_call0_v13 : Ref sig .tc := ⟨.hbm, 49, rfl⟩
abbrev main_call0_v14 : Ref sig .tc := ⟨.hbm, 50, rfl⟩
abbrev main_call0_v15 : Ref sig .tc := ⟨.hbm, 51, rfl⟩
abbrev main_call0_call3_v0 : Ref sig .tc := ⟨.hbm, 52, rfl⟩
abbrev main_v16 : Ref sig .tc := ⟨.hbm, 53, rfl⟩
abbrev main_call1_v0 : Ref sig .tc := ⟨.hbm, 54, rfl⟩
abbrev main_call1_call1_v0 : Ref sig .tc := ⟨.hbm, 55, rfl⟩
abbrev main_call1_call1_cst : Ref sig .tc := ⟨.hbm, 56, rfl⟩
abbrev main_call1_call1_c : Ref sig .tc := ⟨.hbm, 57, rfl⟩
abbrev main_call1_call1_v1_0 : Ref sig .tc := ⟨.hbm, 58, rfl⟩
abbrev main_call1_v1 : Ref sig .tc := ⟨.hbm, 59, rfl⟩
abbrev main_call1_call2_v0 : Ref sig .tc := ⟨.hbm, 60, rfl⟩
abbrev main_call1_call2_v1 : Ref sig .tc := ⟨.hbm, 61, rfl⟩
abbrev main_call1_call2_v2 : Ref sig .tc := ⟨.hbm, 62, rfl⟩
abbrev main_call1_call2_v3 : Ref sig .tc := ⟨.hbm, 63, rfl⟩
abbrev main_call1_call2_v4 : Ref sig .tc := ⟨.hbm, 64, rfl⟩
abbrev main_call1_v2 : Ref sig .tc := ⟨.hbm, 65, rfl⟩
abbrev main_call1_cst : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_cst_0 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_cst_1 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_cst_2 : Ref sig .tc := ⟨.hbm, 79, rfl⟩
abbrev main_call1_v13 : Ref sig .tc := ⟨.hbm, 80, rfl⟩
abbrev main_call1_v14 : Ref sig .tc := ⟨.hbm, 81, rfl⟩
abbrev main_call1_v15 : Ref sig .tc := ⟨.hbm, 82, rfl⟩
abbrev main_call1_call3_v0 : Ref sig .tc := ⟨.hbm, 83, rfl⟩
abbrev main_v17 : Ref sig .tc := ⟨.hbm, 84, rfl⟩
abbrev main_call2_v0 : Ref sig .tc := ⟨.hbm, 85, rfl⟩
abbrev main_call2_call1_v0 : Ref sig .tc := ⟨.hbm, 86, rfl⟩
abbrev main_call2_call1_cst : Ref sig .tc := ⟨.hbm, 87, rfl⟩
abbrev main_call2_call1_c : Ref sig .tc := ⟨.hbm, 88, rfl⟩
abbrev main_call2_call1_v1_0 : Ref sig .tc := ⟨.hbm, 89, rfl⟩
abbrev main_call2_v1 : Ref sig .tc := ⟨.hbm, 90, rfl⟩
abbrev main_call2_call2_v0 : Ref sig .tc := ⟨.hbm, 91, rfl⟩
abbrev main_call2_call2_v1 : Ref sig .tc := ⟨.hbm, 92, rfl⟩
abbrev main_call2_call2_v2 : Ref sig .tc := ⟨.hbm, 93, rfl⟩
abbrev main_call2_call2_v3 : Ref sig .tc := ⟨.hbm, 94, rfl⟩
abbrev main_call2_call2_v4 : Ref sig .tc := ⟨.hbm, 95, rfl⟩
abbrev main_call2_v2 : Ref sig .tc := ⟨.hbm, 96, rfl⟩
abbrev main_call2_cst : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_cst_0 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_cst_1 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_v12 : Ref sig .tc := ⟨.hbm, 109, rfl⟩
abbrev main_call2_cst_2 : Ref sig .tc := ⟨.hbm, 110, rfl⟩
abbrev main_call2_v13 : Ref sig .tc := ⟨.hbm, 111, rfl⟩
abbrev main_call2_v14 : Ref sig .tc := ⟨.hbm, 112, rfl⟩
abbrev main_call2_v15 : Ref sig .tc := ⟨.hbm, 113, rfl⟩
abbrev main_call2_call3_v0 : Ref sig .tc := ⟨.hbm, 114, rfl⟩
abbrev main_v18 : Ref sig .tc := ⟨.hbm, 115, rfl⟩
abbrev main_call3_v0 : Ref sig .tc := ⟨.hbm, 116, rfl⟩
abbrev main_call3_call1_v0 : Ref sig .tc := ⟨.hbm, 117, rfl⟩
abbrev main_call3_call1_cst : Ref sig .tc := ⟨.hbm, 118, rfl⟩
abbrev main_call3_call1_c : Ref sig .tc := ⟨.hbm, 119, rfl⟩
abbrev main_call3_call1_v1_0 : Ref sig .tc := ⟨.hbm, 120, rfl⟩
abbrev main_call3_v1 : Ref sig .tc := ⟨.hbm, 121, rfl⟩
abbrev main_call3_call2_v0 : Ref sig .tc := ⟨.hbm, 122, rfl⟩
abbrev main_call3_call2_v1 : Ref sig .tc := ⟨.hbm, 123, rfl⟩
abbrev main_call3_call2_v2 : Ref sig .tc := ⟨.hbm, 124, rfl⟩
abbrev main_call3_call2_v3 : Ref sig .tc := ⟨.hbm, 125, rfl⟩
abbrev main_call3_call2_v4 : Ref sig .tc := ⟨.hbm, 126, rfl⟩
abbrev main_call3_v2 : Ref sig .tc := ⟨.hbm, 127, rfl⟩
abbrev main_call3_cst : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_cst_0 : Ref sig .tc := ⟨.hbm, 132, rfl⟩
abbrev main_call3_v6 : Ref sig .tc := ⟨.hbm, 133, rfl⟩
abbrev main_call3_v7 : Ref sig .tc := ⟨.hbm, 134, rfl⟩
abbrev main_call3_v8 : Ref sig .tc := ⟨.hbm, 135, rfl⟩
abbrev main_call3_cst_1 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_v12 : Ref sig .tc := ⟨.hbm, 140, rfl⟩
abbrev main_call3_cst_2 : Ref sig .tc := ⟨.hbm, 141, rfl⟩
abbrev main_call3_v13 : Ref sig .tc := ⟨.hbm, 142, rfl⟩
abbrev main_call3_v14 : Ref sig .tc := ⟨.hbm, 143, rfl⟩
abbrev main_call3_v15 : Ref sig .tc := ⟨.hbm, 144, rfl⟩
abbrev main_call3_call3_v0 : Ref sig .tc := ⟨.hbm, 145, rfl⟩
abbrev main_v19 : Ref sig .tc := ⟨.hbm, 146, rfl⟩
abbrev main_call4_v0 : Ref sig .tc := ⟨.hbm, 147, rfl⟩
abbrev main_call4_call1_v0 : Ref sig .tc := ⟨.hbm, 148, rfl⟩
abbrev main_call4_call1_cst : Ref sig .tc := ⟨.hbm, 149, rfl⟩
abbrev main_call4_call1_c : Ref sig .tc := ⟨.hbm, 150, rfl⟩
abbrev main_call4_call1_v1_0 : Ref sig .tc := ⟨.hbm, 151, rfl⟩
abbrev main_call4_v1 : Ref sig .tc := ⟨.hbm, 152, rfl⟩
abbrev main_call4_call2_v0 : Ref sig .tc := ⟨.hbm, 153, rfl⟩
abbrev main_call4_call2_v1 : Ref sig .tc := ⟨.hbm, 154, rfl⟩
abbrev main_call4_call2_v2 : Ref sig .tc := ⟨.hbm, 155, rfl⟩
abbrev main_call4_call2_v3 : Ref sig .tc := ⟨.hbm, 156, rfl⟩
abbrev main_call4_call2_v4 : Ref sig .tc := ⟨.hbm, 157, rfl⟩
abbrev main_call4_v2 : Ref sig .tc := ⟨.hbm, 158, rfl⟩
abbrev main_call4_cst : Ref sig .tc := ⟨.hbm, 159, rfl⟩
abbrev main_call4_v3 : Ref sig .tc := ⟨.hbm, 160, rfl⟩
abbrev main_call4_v4 : Ref sig .tc := ⟨.hbm, 161, rfl⟩
abbrev main_call4_v5 : Ref sig .tc := ⟨.hbm, 162, rfl⟩
abbrev main_call4_cst_0 : Ref sig .tc := ⟨.hbm, 163, rfl⟩
abbrev main_call4_v6 : Ref sig .tc := ⟨.hbm, 164, rfl⟩
abbrev main_call4_v7 : Ref sig .tc := ⟨.hbm, 165, rfl⟩
abbrev main_call4_v8 : Ref sig .tc := ⟨.hbm, 166, rfl⟩
abbrev main_call4_cst_1 : Ref sig .tc := ⟨.hbm, 167, rfl⟩
abbrev main_call4_v9 : Ref sig .tc := ⟨.hbm, 168, rfl⟩
abbrev main_call4_v10 : Ref sig .tc := ⟨.hbm, 169, rfl⟩
abbrev main_call4_v11 : Ref sig .tc := ⟨.hbm, 170, rfl⟩
abbrev main_call4_v12 : Ref sig .tc := ⟨.hbm, 171, rfl⟩
abbrev main_call4_cst_2 : Ref sig .tc := ⟨.hbm, 172, rfl⟩
abbrev main_call4_v13 : Ref sig .tc := ⟨.hbm, 173, rfl⟩
abbrev main_call4_v14 : Ref sig .tc := ⟨.hbm, 174, rfl⟩
abbrev main_call4_v15 : Ref sig .tc := ⟨.hbm, 175, rfl⟩
abbrev main_call4_call3_v0 : Ref sig .tc := ⟨.hbm, 176, rfl⟩
abbrev main_v20 : Ref sig .tc := ⟨.hbm, 177, rfl⟩
abbrev main_call5_v0 : Ref sig .tc := ⟨.hbm, 178, rfl⟩
abbrev main_call5_call1_v0 : Ref sig .tc := ⟨.hbm, 179, rfl⟩
abbrev main_call5_call1_cst : Ref sig .tc := ⟨.hbm, 180, rfl⟩
abbrev main_call5_call1_c : Ref sig .tc := ⟨.hbm, 181, rfl⟩
abbrev main_call5_call1_v1_0 : Ref sig .tc := ⟨.hbm, 182, rfl⟩
abbrev main_call5_v1 : Ref sig .tc := ⟨.hbm, 183, rfl⟩
abbrev main_call5_call2_v0 : Ref sig .tc := ⟨.hbm, 184, rfl⟩
abbrev main_call5_call2_v1 : Ref sig .tc := ⟨.hbm, 185, rfl⟩
abbrev main_call5_call2_v2 : Ref sig .tc := ⟨.hbm, 186, rfl⟩
abbrev main_call5_call2_v3 : Ref sig .tc := ⟨.hbm, 187, rfl⟩
abbrev main_call5_call2_v4 : Ref sig .tc := ⟨.hbm, 188, rfl⟩
abbrev main_call5_v2 : Ref sig .tc := ⟨.hbm, 189, rfl⟩
abbrev main_call5_cst : Ref sig .tc := ⟨.hbm, 190, rfl⟩
abbrev main_call5_v3 : Ref sig .tc := ⟨.hbm, 191, rfl⟩
abbrev main_call5_v4 : Ref sig .tc := ⟨.hbm, 192, rfl⟩
abbrev main_call5_v5 : Ref sig .tc := ⟨.hbm, 193, rfl⟩
abbrev main_call5_cst_0 : Ref sig .tc := ⟨.hbm, 194, rfl⟩
abbrev main_call5_v6 : Ref sig .tc := ⟨.hbm, 195, rfl⟩
abbrev main_call5_v7 : Ref sig .tc := ⟨.hbm, 196, rfl⟩
abbrev main_call5_v8 : Ref sig .tc := ⟨.hbm, 197, rfl⟩
abbrev main_call5_cst_1 : Ref sig .tc := ⟨.hbm, 198, rfl⟩
abbrev main_call5_v9 : Ref sig .tc := ⟨.hbm, 199, rfl⟩
abbrev main_call5_v10 : Ref sig .tc := ⟨.hbm, 200, rfl⟩
abbrev main_call5_v11 : Ref sig .tc := ⟨.hbm, 201, rfl⟩
abbrev main_call5_v12 : Ref sig .tc := ⟨.hbm, 202, rfl⟩
abbrev main_call5_cst_2 : Ref sig .tc := ⟨.hbm, 203, rfl⟩
abbrev main_call5_v13 : Ref sig .tc := ⟨.hbm, 204, rfl⟩
abbrev main_call5_v14 : Ref sig .tc := ⟨.hbm, 205, rfl⟩
abbrev main_call5_v15 : Ref sig .tc := ⟨.hbm, 206, rfl⟩
abbrev main_call5_call3_v0 : Ref sig .tc := ⟨.hbm, 207, rfl⟩
abbrev main_v21 : Ref sig .tc := ⟨.hbm, 208, rfl⟩
abbrev main_call6_v0 : Ref sig .tc := ⟨.hbm, 209, rfl⟩
abbrev main_call6_call1_v0 : Ref sig .tc := ⟨.hbm, 210, rfl⟩
abbrev main_call6_call1_cst : Ref sig .tc := ⟨.hbm, 211, rfl⟩
abbrev main_call6_call1_c : Ref sig .tc := ⟨.hbm, 212, rfl⟩
abbrev main_call6_call1_v1_0 : Ref sig .tc := ⟨.hbm, 213, rfl⟩
abbrev main_call6_v1 : Ref sig .tc := ⟨.hbm, 214, rfl⟩
abbrev main_call6_call2_v0 : Ref sig .tc := ⟨.hbm, 215, rfl⟩
abbrev main_call6_call2_v1 : Ref sig .tc := ⟨.hbm, 216, rfl⟩
abbrev main_call6_call2_v2 : Ref sig .tc := ⟨.hbm, 217, rfl⟩
abbrev main_call6_call2_v3 : Ref sig .tc := ⟨.hbm, 218, rfl⟩
abbrev main_call6_call2_v4 : Ref sig .tc := ⟨.hbm, 219, rfl⟩
abbrev main_call6_v2 : Ref sig .tc := ⟨.hbm, 220, rfl⟩
abbrev main_call6_cst : Ref sig .tc := ⟨.hbm, 221, rfl⟩
abbrev main_call6_v3 : Ref sig .tc := ⟨.hbm, 222, rfl⟩
abbrev main_call6_v4 : Ref sig .tc := ⟨.hbm, 223, rfl⟩
abbrev main_call6_v5 : Ref sig .tc := ⟨.hbm, 224, rfl⟩
abbrev main_call6_cst_0 : Ref sig .tc := ⟨.hbm, 225, rfl⟩
abbrev main_call6_v6 : Ref sig .tc := ⟨.hbm, 226, rfl⟩
abbrev main_call6_v7 : Ref sig .tc := ⟨.hbm, 227, rfl⟩
abbrev main_call6_v8 : Ref sig .tc := ⟨.hbm, 228, rfl⟩
abbrev main_call6_cst_1 : Ref sig .tc := ⟨.hbm, 229, rfl⟩
abbrev main_call6_v9 : Ref sig .tc := ⟨.hbm, 230, rfl⟩
abbrev main_call6_v10 : Ref sig .tc := ⟨.hbm, 231, rfl⟩
abbrev main_call6_v11 : Ref sig .tc := ⟨.hbm, 232, rfl⟩
abbrev main_call6_v12 : Ref sig .tc := ⟨.hbm, 233, rfl⟩
abbrev main_call6_cst_2 : Ref sig .tc := ⟨.hbm, 234, rfl⟩
abbrev main_call6_v13 : Ref sig .tc := ⟨.hbm, 235, rfl⟩
abbrev main_call6_v14 : Ref sig .tc := ⟨.hbm, 236, rfl⟩
abbrev main_call6_v15 : Ref sig .tc := ⟨.hbm, 237, rfl⟩
abbrev main_call6_call3_v0 : Ref sig .tc := ⟨.hbm, 238, rfl⟩
abbrev main_v22 : Ref sig .tc := ⟨.hbm, 239, rfl⟩
abbrev main_call7_v0 : Ref sig .tc := ⟨.hbm, 240, rfl⟩
abbrev main_call7_call1_v0 : Ref sig .tc := ⟨.hbm, 241, rfl⟩
abbrev main_call7_call1_cst : Ref sig .tc := ⟨.hbm, 242, rfl⟩
abbrev main_call7_call1_c : Ref sig .tc := ⟨.hbm, 243, rfl⟩
abbrev main_call7_call1_v1_0 : Ref sig .tc := ⟨.hbm, 244, rfl⟩
abbrev main_call7_v1 : Ref sig .tc := ⟨.hbm, 245, rfl⟩
abbrev main_call7_call2_v0 : Ref sig .tc := ⟨.hbm, 246, rfl⟩
abbrev main_call7_call2_v1 : Ref sig .tc := ⟨.hbm, 247, rfl⟩
abbrev main_call7_call2_v2 : Ref sig .tc := ⟨.hbm, 248, rfl⟩
abbrev main_call7_call2_v3 : Ref sig .tc := ⟨.hbm, 249, rfl⟩
abbrev main_call7_call2_v4 : Ref sig .tc := ⟨.hbm, 250, rfl⟩
abbrev main_call7_v2 : Ref sig .tc := ⟨.hbm, 251, rfl⟩
abbrev main_call7_cst : Ref sig .tc := ⟨.hbm, 252, rfl⟩
abbrev main_call7_v3 : Ref sig .tc := ⟨.hbm, 253, rfl⟩
abbrev main_call7_v4 : Ref sig .tc := ⟨.hbm, 254, rfl⟩
abbrev main_call7_v5 : Ref sig .tc := ⟨.hbm, 255, rfl⟩
abbrev main_call7_cst_0 : Ref sig .tc := ⟨.hbm, 256, rfl⟩
abbrev main_call7_v6 : Ref sig .tc := ⟨.hbm, 257, rfl⟩
abbrev main_call7_v7 : Ref sig .tc := ⟨.hbm, 258, rfl⟩
abbrev main_call7_v8 : Ref sig .tc := ⟨.hbm, 259, rfl⟩
abbrev main_call7_cst_1 : Ref sig .tc := ⟨.hbm, 260, rfl⟩
abbrev main_call7_v9 : Ref sig .tc := ⟨.hbm, 261, rfl⟩
abbrev main_call7_v10 : Ref sig .tc := ⟨.hbm, 262, rfl⟩
abbrev main_call7_v11 : Ref sig .tc := ⟨.hbm, 263, rfl⟩
abbrev main_call7_v12 : Ref sig .tc := ⟨.hbm, 264, rfl⟩
abbrev main_call7_cst_2 : Ref sig .tc := ⟨.hbm, 265, rfl⟩
abbrev main_call7_v13 : Ref sig .tc := ⟨.hbm, 266, rfl⟩
abbrev main_call7_v14 : Ref sig .tc := ⟨.hbm, 267, rfl⟩
abbrev main_call7_v15 : Ref sig .tc := ⟨.hbm, 268, rfl⟩
abbrev main_call7_call3_v0 : Ref sig .tc := ⟨.hbm, 269, rfl⟩
abbrev main_v23 : Ref sig .tc := ⟨.hbm, 270, rfl⟩
abbrev main_call8_v0 : Ref sig .tc := ⟨.hbm, 271, rfl⟩
abbrev main_call8_call1_v0 : Ref sig .tc := ⟨.hbm, 272, rfl⟩
abbrev main_call8_call1_cst : Ref sig .tc := ⟨.hbm, 273, rfl⟩
abbrev main_call8_call1_c : Ref sig .tc := ⟨.hbm, 274, rfl⟩
abbrev main_call8_call1_v1_0 : Ref sig .tc := ⟨.hbm, 275, rfl⟩
abbrev main_call8_v1 : Ref sig .tc := ⟨.hbm, 276, rfl⟩
abbrev main_call8_call2_v0 : Ref sig .tc := ⟨.hbm, 277, rfl⟩
abbrev main_call8_call2_v1 : Ref sig .tc := ⟨.hbm, 278, rfl⟩
abbrev main_call8_call2_v2 : Ref sig .tc := ⟨.hbm, 279, rfl⟩
abbrev main_call8_call2_v3 : Ref sig .tc := ⟨.hbm, 280, rfl⟩
abbrev main_call8_call2_v4 : Ref sig .tc := ⟨.hbm, 281, rfl⟩
abbrev main_call8_v2 : Ref sig .tc := ⟨.hbm, 282, rfl⟩
abbrev main_call8_cst : Ref sig .tc := ⟨.hbm, 283, rfl⟩
abbrev main_call8_v3 : Ref sig .tc := ⟨.hbm, 284, rfl⟩
abbrev main_call8_v4 : Ref sig .tc := ⟨.hbm, 285, rfl⟩
abbrev main_call8_v5 : Ref sig .tc := ⟨.hbm, 286, rfl⟩
abbrev main_call8_cst_0 : Ref sig .tc := ⟨.hbm, 287, rfl⟩
abbrev main_call8_v6 : Ref sig .tc := ⟨.hbm, 288, rfl⟩
abbrev main_call8_v7 : Ref sig .tc := ⟨.hbm, 289, rfl⟩
abbrev main_call8_v8 : Ref sig .tc := ⟨.hbm, 290, rfl⟩
abbrev main_call8_cst_1 : Ref sig .tc := ⟨.hbm, 291, rfl⟩
abbrev main_call8_v9 : Ref sig .tc := ⟨.hbm, 292, rfl⟩
abbrev main_call8_v10 : Ref sig .tc := ⟨.hbm, 293, rfl⟩
abbrev main_call8_v11 : Ref sig .tc := ⟨.hbm, 294, rfl⟩
abbrev main_call8_v12 : Ref sig .tc := ⟨.hbm, 295, rfl⟩
abbrev main_call8_cst_2 : Ref sig .tc := ⟨.hbm, 296, rfl⟩
abbrev main_call8_v13 : Ref sig .tc := ⟨.hbm, 297, rfl⟩
abbrev main_call8_v14 : Ref sig .tc := ⟨.hbm, 298, rfl⟩
abbrev main_call8_v15 : Ref sig .tc := ⟨.hbm, 299, rfl⟩
abbrev main_call8_call3_v0 : Ref sig .tc := ⟨.hbm, 300, rfl⟩
abbrev main_v24 : Ref sig .tc := ⟨.hbm, 301, rfl⟩
abbrev main_v25 : Ref sig .tc := ⟨.hbm, 302, rfl⟩
abbrev main_call10_v0 : Ref sig .tc := ⟨.hbm, 303, rfl⟩
abbrev main_call10_cst : Ref sig .tc := ⟨.hbm, 304, rfl⟩
abbrev main_call10_c : Ref sig .tc := ⟨.hbm, 305, rfl⟩
abbrev main_call10_v1_0 : Ref sig .tc := ⟨.hbm, 306, rfl⟩
abbrev main_v26 : Ref sig .tc := ⟨.hbm, 307, rfl⟩
abbrev main_v27 : Ref sig .tc := ⟨.hbm, 308, rfl⟩
abbrev main_v28 : Ref sig .tc := ⟨.hbm, 309, rfl⟩
abbrev main_c : Ref sig .tc := ⟨.hbm, 310, rfl⟩
abbrev main_v29 : Ref sig .tc := ⟨.hbm, 311, rfl⟩
abbrev main_v30 : Ref sig .tc := ⟨.hbm, 312, rfl⟩
abbrev main_c_3 : Ref sig .tc := ⟨.hbm, 313, rfl⟩
abbrev main_v31 : Ref sig .tc := ⟨.hbm, 314, rfl⟩
abbrev main_v32 : Ref sig .tc := ⟨.hbm, 315, rfl⟩
abbrev main_v33 : Ref sig .tc := ⟨.hbm, 316, rfl⟩
abbrev main_c_4 : Ref sig .tc := ⟨.hbm, 317, rfl⟩
abbrev main_v34 : Ref sig .tc := ⟨.hbm, 318, rfl⟩
abbrev main_v35 : Ref sig .tc := ⟨.hbm, 319, rfl⟩
abbrev main_c_5 : Ref sig .tc := ⟨.hbm, 320, rfl⟩
abbrev main_v36 : Ref sig .tc := ⟨.hbm, 321, rfl⟩
abbrev main_v37 : Ref sig .tc := ⟨.hbm, 322, rfl⟩
abbrev main_v38 : Ref sig .tc := ⟨.hbm, 323, rfl⟩
abbrev main_v39 : Ref sig .tc := ⟨.hbm, 324, rfl⟩
abbrev main_v40 : Ref sig .tc := ⟨.hbm, 325, rfl⟩
abbrev main_v41 : Ref sig .tc := ⟨.hbm, 326, rfl⟩
abbrev main_v42 : Ref sig .tc := ⟨.hbm, 327, rfl⟩
abbrev main_v43 : Ref sig .tc := ⟨.hbm, 328, rfl⟩
abbrev main_v44 : Ref sig .tc := ⟨.hbm, 329, rfl⟩
abbrev main_v45 : Ref sig .tc := ⟨.hbm, 330, rfl⟩
abbrev main_cst_6 : Ref sig .tc := ⟨.hbm, 331, rfl⟩
abbrev main_v46 : Ref sig .tc := ⟨.hbm, 332, rfl⟩
abbrev main_v47 : Ref sig .tc := ⟨.hbm, 333, rfl⟩

abbrev nD : Nat := 1
abbrev τ : Topo := Topo.v7x

variable {F : FTy → Type} [FloatOps F]
-- ==== Attn.lean ====
abbrev S12x64x128 : Shape := ⟨3, ![12, 64, 128]⟩
abbrev S12x8192x64 : Shape := ⟨3, ![12, 8192, 64]⟩
abbrev S128x12x64 : Shape := ⟨3, ![128, 12, 64]⟩
abbrev S1x64x128 : Shape := ⟨3, ![1, 64, 128]⟩
abbrev S1x8192x64 : Shape := ⟨3, ![1, 8192, 64]⟩
abbrev S128x64 : Shape := ⟨2, ![128, 64]⟩
abbrev S8192x64 : Shape := ⟨2, ![8192, 64]⟩
abbrev S8192x1 : Shape := ⟨2, ![8192, 1]⟩
abbrev S2048x64 : Shape := ⟨2, ![2048, 64]⟩
abbrev S2048x1 : Shape := ⟨2, ![2048, 1]⟩
abbrev S1x1x1 : Shape := ⟨3, ![1, 1, 1]⟩
abbrev S1x1x64 : Shape := ⟨3, ![1, 1, 64]⟩
abbrev S1x64 : Shape := ⟨2, ![1, 64]⟩
abbrev S128 : Shape := ⟨1, ![128]⟩
abbrev S128x1 : Shape := ⟨2, ![128, 1]⟩
abbrev S128x128 : Shape := ⟨2, ![128, 128]⟩
abbrev S1x1 : Shape := ⟨2, ![1, 1]⟩
abbrev S1x2048x64 : Shape := ⟨3, ![1, 2048, 64]⟩

abbrev nBuf : Space → Nat
  | .hbm => 5
  | .vmem => 11
  | .smem => 2
  | _ => 0

abbrev bufTy : (tb : Table) → Fin (tcTables nBuf tb) → BufTy
  | .hbm, ⟨0, _⟩ => ⟨S12x64x128, .i32⟩
  | .hbm, ⟨1, _⟩ => ⟨S12x8192x64, .f32⟩
  | .hbm, ⟨2, _⟩ => ⟨S12x8192x64, .f32⟩
  | .hbm, ⟨3, _⟩ => ⟨S128x12x64, .f32⟩
  | .hbm, ⟨4, _⟩ => ⟨S12x8192x64, .f32⟩
  | .local _ .vmem, ⟨0, _⟩ => ⟨S1x8192x64, .f32⟩
  | .local _ .vmem, ⟨1, _⟩ => ⟨S1x8192x64, .f32⟩
  | .local _ .vmem, ⟨2, _⟩ => ⟨S1x8192x64, .f32⟩
  | .local _ .vmem, ⟨3, _⟩ => ⟨S1x8192x64, .f32⟩
  | .local _ .vmem, ⟨4, _⟩ => ⟨S1x8192x64, .f32⟩
  | .local _ .vmem, ⟨5, _⟩ => ⟨S1x8192x64, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S8192x64, .f32⟩
  | .local _ .vmem, ⟨10, _⟩ => ⟨S8192x1, .f32⟩
  | .local _ .smem, ⟨0, _⟩ => ⟨S1x64x128, .i32⟩
  | .local _ .smem, ⟨1, _⟩ => ⟨S1x64x128, .i32⟩
  | _, _ => ⟨S12x64x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 64], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_20 : BitVec 32 := 0#32
  let c4_i32 : BitVec 32 := 4#32
  let v39 : BitVec 32 := Scalar.addi c0_i32_20 c4_i32
  let c1_i32_21 : BitVec 32 := 1#32
  ⟨c0_i32_20, v39, c1_i32_21⟩
def k0_off1 (k0_t1 : Fin k0_t1_loop.trips) : Fin 2 → Nat :=
  let c0_i32_20 : BitVec 32 := 0#32
  let c1_i32_21 : BitVec 32 := 1#32
  let arg11 : BitVec 32 := Scf.iv c0_i32_20 c1_i32_21 k0_t1
  let c2048_i32 : BitVec 32 := 2048#32
  let v41 : BitVec 32 := Scalar.muli arg11 c2048_i32
  let v42 : Index := Scalar.indexCast v41
  let c0_24 : Index := 0#32
  ![v42.toNat, 0]
def k0_off2 (k0_t1 : Fin k0_t1_loop.trips) : Fin 2 → Nat :=
  let c0_i32_20 : BitVec 32 := 0#32
  let c1_i32_21 : BitVec 32 := 1#32
  let arg11 : BitVec 32 := Scf.iv c0_i32_20 c1_i32_21 k0_t1
  let c2048_i32_26 : BitVec 32 := 2048#32
  let v47 : BitVec 32 := Scalar.muli arg11 c2048_i32_26
  let v48 : Index := Scalar.indexCast v47
  let c0_27 : Index := 0#32
  ![v48.toNat, 0]
@[reducible] def k0_t2_loop : Scf.Loop 32 :=
  let c0_i32_1 : BitVec 32 := 0#32
  let c128_i32 : BitVec 32 := 128#32
  let v3 : BitVec 32 := Scalar.addi c0_i32_1 c128_i32
  let c1_i32 : BitVec 32 := 1#32
  ⟨c0_i32_1, v3, c1_i32⟩
def k0_off3 (i : grid0.Coords) (k0_t2 : Fin k0_t2_loop.trips) : Fin 3 → Nat :=
  let c0_20 : Index := 0#32
  let arg1 : BitVec 32 := BitVec.ofNat 32 (i 1).val
  let v39 : Index := Scalar.indexCast arg1
  let c0_i32_1 : BitVec 32 := 0#32
  let c1_i32 : BitVec 32 := 1#32
  let arg11 : BitVec 32 := Scf.iv c0_i32_1 c1_i32 k0_t2
  let v40 : Index := Scalar.indexCast arg11
  ![0, v39.toNat, v40.toNat]
def k0_off4 (v41 : BitVec 32) : Fin 3 → Nat :=
  let c0_21 : Index := 0#32
  let v42 : Index := Scalar.indexCast v41
  let c0_22 : Index := 0#32
  ![0, v42.toNat, 0]

def k0_chk1 (v41 : BitVec 32) : Prop :=
  (∀ a, (k0_off4 v41) a + S1x1x64.size a ≤ S1x8192x64.size a)
theorem k0_off4_inb : ∀ (v41 : BitVec 32) (k0_hw1 : k0_chk1 v41), ∀ a, (k0_off4 v41) a + S1x1x64.size a ≤ S1x8192x64.size a := fun v41 k0_hw1 => k0_hw1

def k0_off5 (k0_t2 : Fin k0_t2_loop.trips) : Fin 2 → Nat :=
  let c0_i32_1 : BitVec 32 := 0#32
  let c1_i32 : BitVec 32 := 1#32
  let arg11 : BitVec 32 := Scf.iv c0_i32_1 c1_i32 k0_t2
  let v45 : Index := Scalar.indexCast arg11
  let c0_23 : Index := 0#32
  ![v45.toNat, 0]
@[reducible] def k0_t3_loop : Scf.Loop 32 :=
  let c0_i32_15 : BitVec 32 := 0#32
  let c128_i32_16 : BitVec 32 := 128#32
  let v35 : BitVec 32 := Scalar.addi c0_i32_15 c128_i32_16
  let c1_i32_17 : BitVec 32 := 1#32
  ⟨c0_i32_15, v35, c1_i32_17⟩
def k0_off6 (i : grid0.Coords) (k0_t3 : Fin k0_t3_loop.trips) : Fin 3 → Nat :=
  let c0_20 : Index := 0#32
  let arg1 : BitVec 32 := BitVec.ofNat 32 (i 1).val
  let v39 : Index := Scalar.indexCast arg1
  let c0_i32_15 : BitVec 32 := 0#32
  let c1_i32_17 : BitVec 32 := 1#32
  let arg11 : BitVec 32 := Scf.iv c0_i32_15 c1_i32_17 k0_t3
  let v40 : Index := Scalar.indexCast arg11
  ![0, v39.toNat, v40.toNat]
def k0_off7 (v41 : BitVec 32) : Fin 2 → Nat :=
  let v42 : Index := Scalar.indexCast v41
  let c0_21 : Index := 0#32
  ![v42.toNat, 0]

def k0_off8 (k0_t3 : Fin k0_t3_loop.trips) : Fin 2 → Nat :=
  let c0_i32_15 : BitVec 32 := 0#32
  let c1_i32_17 : BitVec 32 := 1#32
  let arg11 : BitVec 32 := Scf.iv c0_i32_15 c1_i32_17 k0_t3
  let v44 : Index := Scalar.indexCast arg11
  let c0_22 : Index := 0#32
  ![v44.toNat, 0]
def k0_off9 (v41 : BitVec 32) : Fin 2 → Nat :=
  let v51 : Index := Scalar.indexCast v41
  let c0_24 : Index := 0#32
  ![v51.toNat, 0]

def k0_chk2 (v41 : BitVec 32) : Prop :=
  (∀ a, (k0_off7 v41) a + S1x64.size a ≤ S8192x64.size a) ∧
  (∀ a, (k0_off9 v41) a + S1x1.size a ≤ S8192x1.size a)
theorem k0_off7_inb : ∀ (v41 : BitVec 32) (k0_hw2 : k0_chk2 v41), ∀ a, (k0_off7 v41) a + S1x64.size a ≤ S8192x64.size a := fun v41 k0_hw2 => k0_hw2.1
theorem k0_off9_inb : ∀ (v41 : BitVec 32) (k0_hw2 : k0_chk2 v41), ∀ a, (k0_off9 v41) a + S1x1.size a ≤ S8192x1.size a := fun v41 k0_hw2 => k0_hw2.2

def k0_cond2 (i : grid0.Coords) : BitVec 1 :=
  let arg1 : BitVec 32 := BitVec.ofNat 32 (i 1).val
  let c63_i32 : BitVec 32 := 63#32
  let v36 : BitVec 1 := Scalar.cmpi .eq arg1 c63_i32
  let v37 : BitVec 32 := Scalar.extui v36
  let c0_i32_19 : BitVec 32 := 0#32
  let v38 : BitVec 1 := Scalar.cmpi .ne v37 c0_i32_19
  v38

@[reducible] def k0_t4_loop : Scf.Loop 32 :=
  let c0_i32_20 : BitVec 32 := 0#32
  let c4_i32 : BitVec 32 := 4#32
  let v39 : BitVec 32 := Scalar.addi c0_i32_20 c4_i32
  let c1_i32_21 : BitVec 32 := 1#32
  ⟨c0_i32_20, v39, c1_i32_21⟩
def k0_off10 (k0_t4 : Fin k0_t4_loop.trips) : Fin 2 → Nat :=
  let c0_i32_20 : BitVec 32 := 0#32
  let c1_i32_21 : BitVec 32 := 1#32
  let arg11 : BitVec 32 := Scf.iv c0_i32_20 c1_i32_21 k0_t4
  let c2048_i32 : BitVec 32 := 2048#32
  let v40 : BitVec 32 := Scalar.muli arg11 c2048_i32
  let v41 : Index := Scalar.indexCast v40
  let c0_23 : Index := 0#32
  ![v41.toNat, 0]
def k0_off11 (k0_t4 : Fin k0_t4_loop.trips) : Fin 2 → Nat :=
  let c0_i32_20 : BitVec 32 := 0#32
  let c1_i32_21 : BitVec 32 := 1#32
  let arg11 : BitVec 32 := Scf.iv c0_i32_20 c1_i32_21 k0_t4
  let c2048_i32 : BitVec 32 := 2048#32
  let v40 : BitVec 32 := Scalar.muli arg11 c2048_i32
  let v43 : Index := Scalar.indexCast v40
  let c0_24 : Index := 0#32
  ![v43.toNat, 0]
def k0_off12 (k0_t4 : Fin k0_t4_loop.trips) : Fin 3 → Nat :=
  let c0_26 : Index := 0#32
  let c0_i32_20 : BitVec 32 := 0#32
  let c1_i32_21 : BitVec 32 := 1#32
  let arg11 : BitVec 32 := Scf.iv c0_i32_20 c1_i32_21 k0_t4
  let c2048_i32 : BitVec 32 := 2048#32
  let v40 : BitVec 32 := Scalar.muli arg11 c2048_i32
  let v49 : Index := Scalar.indexCast v40
  let c0_27 : Index := 0#32
  ![0, v49.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== AttnReferenceIdeal.lean ====
abbrev S12x64x128 : Shape := ⟨3, ![12, 64, 128]⟩
abbrev S12x8192x64 : Shape := ⟨3, ![12, 8192, 64]⟩
abbrev S128x12x64 : Shape := ⟨3, ![128, 12, 64]⟩
abbrev S12x8192 : Shape := ⟨2, ![12, 8192]⟩
abbrev S12x8192x1 : Shape := ⟨3, ![12, 8192, 1]⟩
abbrev S_ : Shape := ⟨0, ![]⟩
abbrev S1 : Shape := ⟨1, ![1]⟩
abbrev S1x1x1 : Shape := ⟨3, ![1, 1, 1]⟩
abbrev S12x64x128x64 : Shape := ⟨4, ![12, 64, 128, 64]⟩
abbrev S12x64x128x1 : Shape := ⟨4, ![12, 64, 128, 1]⟩
abbrev S12x64x128x128 : Shape := ⟨4, ![12, 64, 128, 128]⟩
abbrev S12x64x128x256 : Shape := ⟨4, ![12, 64, 128, 256]⟩
abbrev S12x64x32768 : Shape := ⟨3, ![12, 64, 32768]⟩
abbrev S12x64x127 : Shape := ⟨3, ![12, 64, 127]⟩
abbrev S12x64x32895 : Shape := ⟨3, ![12, 64, 32895]⟩
abbrev S12x64x129x255 : Shape := ⟨4, ![12, 64, 129, 255]⟩
abbrev S128x128 : Shape := ⟨2, ![128, 128]⟩
abbrev S12 : Shape := ⟨1, ![12]⟩
abbrev S12x1 : Shape := ⟨2, ![12, 1]⟩
abbrev S12x8192x2 : Shape := ⟨3, ![12, 8192, 2]⟩

abbrev nBuf : Space → Nat
  | .hbm => 158
  | .vmem => 0
  | .smem => 0
  | _ => 0

abbrev hbmTy0_0 (i : Nat) : BufTy := match i % 128 with
  | 0 => ⟨S12x64x128, .i32⟩
  | 1 => ⟨S12x8192x64, .f32⟩
  | 2 => ⟨S12x8192x64, .f32⟩
  | 3 => ⟨S128x12x64, .f32⟩
  | 4 => ⟨S12x8192, .i32⟩
  | 5 => ⟨S12x8192x1, .i32⟩
  | 6 => ⟨S_, .i32⟩
  | 7 => ⟨S12x8192x1, .i32⟩
  | 8 => ⟨S12x8192x1, .i1⟩
  | 9 => ⟨S_, .i32⟩
  | 10 => ⟨S12x8192x1, .i32⟩
  | 11 => ⟨S12x8192x1, .i32⟩
  | 12 => ⟨S12x8192x1, .i32⟩
  | 13 => ⟨S1, .i32⟩
  | 14 => ⟨S_, .i32⟩
  | 15 => ⟨S12x8192x1, .i32⟩
  | 16 => ⟨S12x8192x1, .i1⟩
  | 17 => ⟨S1x1x1, .i32⟩
  | 18 => ⟨S12x8192x1, .i32⟩
  | 19 => ⟨S12x8192x1, .i1⟩
  | 20 => ⟨S12x8192x1, .i1⟩
  | 21 => ⟨S_, .i1⟩
  | 22 => ⟨S12x8192, .i1⟩
  | 23 => ⟨S12x8192x64, .f32⟩
  | 24 => ⟨S12x8192x64, .i1⟩
  | 25 => ⟨S_, .f32⟩
  | 26 => ⟨S12x8192x64, .f32⟩
  | 27 => ⟨S12x8192x64, .f32⟩
  | 28 => ⟨S12x64x128x64, .f32⟩
  | 29 => ⟨S12x8192x1, .i32⟩
  | 30 => ⟨S_, .i32⟩
  | 31 => ⟨S12x8192x1, .i32⟩
  | 32 => ⟨S12x8192x1, .i1⟩
  | 33 => ⟨S_, .i32⟩
  | 34 => ⟨S12x8192x1, .i32⟩
  | 35 => ⟨S12x8192x1, .i32⟩
  | 36 => ⟨S12x8192x1, .i32⟩
  | 37 => ⟨S1, .i32⟩
  | 38 => ⟨S_, .i32⟩
  | 39 => ⟨S12x8192x1, .i32⟩
  | 40 => ⟨S12x8192x1, .i1⟩
  | 41 => ⟨S1x1x1, .i32⟩
  | 42 => ⟨S12x8192x1, .i32⟩
  | 43 => ⟨S12x8192x1, .i1⟩
  | 44 => ⟨S12x8192x1, .i1⟩
  | 45 => ⟨S_, .i1⟩
  | 46 => ⟨S12x8192, .i1⟩
  | 47 => ⟨S12x8192x64, .f32⟩
  | 48 => ⟨S12x8192x64, .i1⟩
  | 49 => ⟨S_, .f32⟩
  | 50 => ⟨S12x8192x64, .f32⟩
  | 51 => ⟨S12x8192x64, .f32⟩
  | 52 => ⟨S12x64x128x64, .f32⟩
  | 53 => ⟨S12x64x128x64, .f32⟩
  | 54 => ⟨S_, .f32⟩
  | 55 => ⟨S12x64x128, .f32⟩
  | 56 => ⟨S12x64x128x1, .f32⟩
  | 57 => ⟨S12x64x128x1, .f32⟩
  | 58 => ⟨S_, .f32⟩
  | 59 => ⟨S12x64x128x1, .f32⟩
  | 60 => ⟨S12x64x128x1, .f32⟩
  | 61 => ⟨S12x64x128x64, .f32⟩
  | 62 => ⟨S12x64x128x64, .f32⟩
  | 63 => ⟨S12x64x128x128, .f32⟩
  | 64 => ⟨S_, .f32⟩
  | 65 => ⟨S12x64x128x128, .f32⟩
  | 66 => ⟨S12x64x128x128, .f32⟩
  | 67 => ⟨S12x64x128x128, .f32⟩
  | 68 => ⟨S_, .f32⟩
  | 69 => ⟨S12x64x128x128, .f32⟩
  | 70 => ⟨S12x64x128x128, .f32⟩
  | 71 => ⟨S_, .f32⟩
  | 72 => ⟨S12x64x128x128, .f32⟩
  | 73 => ⟨S12x64x128x256, .f32⟩
  | 74 => ⟨S12x64x32768, .f32⟩
  | 75 => ⟨S_, .f32⟩
  | 76 => ⟨S12x64x127, .f32⟩
  | 77 => ⟨S12x64x32895, .f32⟩
  | 78 => ⟨S12x64x129x255, .f32⟩
  | 79 => ⟨S12x64x128x128, .f32⟩
  | 80 => ⟨S12x64x128x128, .f32⟩
  | 81 => ⟨S128x128, .i32⟩
  | 82 => ⟨S128x128, .i32⟩
  | 83 => ⟨S_, .i32⟩
  | 84 => ⟨S128x128, .i32⟩
  | 85 => ⟨S128x128, .i32⟩
  | 86 => ⟨S128x128, .i1⟩
  | 87 => ⟨S_, .f32⟩
  | 88 => ⟨S_, .f32⟩
  | 89 => ⟨S12x64x128x128, .i1⟩
  | 90 => ⟨S12x64x128x128, .f32⟩
  | 91 => ⟨S12x64x128x128, .f32⟩
  | 92 => ⟨S_, .f32⟩
  | 93 => ⟨S12x64x128, .f32⟩
  | 94 => ⟨S_, .f32⟩
  | 95 => ⟨S12x64x128, .f32⟩
  | 96 => ⟨S12x64x128, .f32⟩
  | 97 => ⟨S12x64x128x1, .f32⟩
  | 98 => ⟨S12x64x128x128, .f32⟩
  | 99 => ⟨S12x64x128x128, .f32⟩
  | 100 => ⟨S12x64x128x128, .f32⟩
  | 101 => ⟨S_, .f32⟩
  | 102 => ⟨S12x64x128, .f32⟩
  | 103 => ⟨S12x64x128x1, .f32⟩
  | 104 => ⟨S12x64x128x128, .f32⟩
  | 105 => ⟨S12x64x128x128, .f32⟩
  | 106 => ⟨S12x64x128x64, .f32⟩
  | 107 => ⟨S12x8192x64, .f32⟩
  | 108 => ⟨S12, .i32⟩
  | 109 => ⟨S12x1, .i32⟩
  | 110 => ⟨S_, .f32⟩
  | 111 => ⟨S12x8192x64, .f32⟩
  | 112 => ⟨S_, .i32⟩
  | 113 => ⟨S12x1, .i32⟩
  | 114 => ⟨S12x1, .i1⟩
  | 115 => ⟨S_, .i32⟩
  | 116 => ⟨S12x1, .i32⟩
  | 117 => ⟨S12x1, .i32⟩
  | 118 => ⟨S12x1, .i32⟩
  | 119 => ⟨S_, .i32⟩
  | 120 => ⟨S12x8192, .i32⟩
  | 121 => ⟨S12x8192, .i1⟩
  | 122 => ⟨S_, .i32⟩
  | 123 => ⟨S12x8192, .i32⟩
  | 124 => ⟨S12x8192, .i32⟩
  | 125 => ⟨S12x8192, .i32⟩
  | 126 => ⟨S12x8192, .i32⟩
  | 127 => ⟨S12x8192x1, .i32⟩
  | _ => ⟨S12x64x128, .i32⟩

abbrev hbmTy0_1 (i : Nat) : BufTy := match i % 128 with
  | 0 => ⟨S12x8192x1, .i32⟩
  | 1 => ⟨S12x8192x2, .i32⟩
  | 2 => ⟨S12x8192x64, .f32⟩
  | 3 => ⟨S_, .f32⟩
  | 4 => ⟨S12x8192x64, .f32⟩
  | 5 => ⟨S_, .f32⟩
  | 6 => ⟨S12x8192x64, .f32⟩
  | 7 => ⟨S_, .i32⟩
  | 8 => ⟨S12x1, .i32⟩
  | 9 => ⟨S12x1, .i1⟩
  | 10 => ⟨S_, .i32⟩
  | 11 => ⟨S12x1, .i32⟩
  | 12 => ⟨S12x1, .i32⟩
  | 13 => ⟨S12x1, .i32⟩
  | 14 => ⟨S_, .i32⟩
  | 15 => ⟨S12x8192, .i32⟩
  | 16 => ⟨S12x8192, .i1⟩
  | 17 => ⟨S_, .i32⟩
  | 18 => ⟨S12x8192, .i32⟩
  | 19 => ⟨S12x8192, .i32⟩
  | 20 => ⟨S12x8192, .i32⟩
  | 21 => ⟨S12x8192, .i32⟩
  | 22 => ⟨S12x8192x1, .i32⟩
  | 23 => ⟨S12x8192x1, .i32⟩
  | 24 => ⟨S12x8192x2, .i32⟩
  | 25 => ⟨S12x8192x64, .f32⟩
  | 26 => ⟨S_, .f32⟩
  | 27 => ⟨S12x8192x64, .f32⟩
  | 28 => ⟨S12x8192x64, .f32⟩
  | 29 => ⟨S12x8192x64, .f32⟩
  | _ => ⟨S12x64x128, .i32⟩

abbrev hbmTy (i : Nat) : BufTy := match i / 128 with
  | 0 => hbmTy0_0 i
  | 1 => hbmTy0_1 i
  | _ => ⟨S12x64x128, .i32⟩

abbrev bufTy : (tb : Table) → Fin (tcTables nBuf tb) → BufTy
  | .hbm, ⟨i, _⟩ => hbmTy i
  | _, _ => ⟨S12x64x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_c_2 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_c_3 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_cst : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst_0 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_cst_1 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_cst_2 : Ref sig .tc := ⟨.hbm, 68, rfl⟩
abbrev main_v19 : Ref sig .tc := ⟨.hbm, 69, rfl⟩
abbrev main_v20 : Ref sig .tc := ⟨.hbm, 70, rfl⟩
abbrev main_cst_3 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_cst_4 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_c : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_cst_5 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v34 : Ref sig .tc := ⟨.hbm, 91, rfl⟩
abbrev main_cst_6 : Ref sig .tc := ⟨.hbm, 92, rfl⟩
abbrev main_v35 : Ref sig .tc := ⟨.hbm, 93, rfl⟩
abbrev main_cst_7 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_cst_8 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_cst_9 : Ref sig .tc := ⟨.hbm, 110, rfl⟩
abbrev main_v50 : Ref sig .tc := ⟨.hbm, 111, rfl⟩
abbrev main_c_10 : Ref sig .tc := ⟨.hbm, 112, rfl⟩
abbrev main_v51 : Ref sig .tc := ⟨.hbm, 113, rfl⟩
abbrev main_v52 : Ref sig .tc := ⟨.hbm, 114, rfl⟩
abbrev main_c_11 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_c_12 : Ref sig .tc := ⟨.hbm, 119, rfl⟩
abbrev main_v56 : Ref sig .tc := ⟨.hbm, 120, rfl⟩
abbrev main_v57 : Ref sig .tc := ⟨.hbm, 121, rfl⟩
abbrev main_c_13 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_cst_14 : Ref sig .tc := ⟨.hbm, 131, rfl⟩
abbrev main_v66 : Ref sig .tc := ⟨.hbm, 132, rfl⟩
abbrev main_cst_15 : Ref sig .tc := ⟨.hbm, 133, rfl⟩
abbrev main_v67 : Ref sig .tc := ⟨.hbm, 134, rfl⟩
abbrev main_c_16 : Ref sig .tc := ⟨.hbm, 135, rfl⟩
abbrev main_v68 : Ref sig .tc := ⟨.hbm, 136, rfl⟩
abbrev main_v69 : Ref sig .tc := ⟨.hbm, 137, rfl⟩
abbrev main_c_17 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_c_18 : Ref sig .tc := ⟨.hbm, 142, rfl⟩
abbrev main_v73 : Ref sig .tc := ⟨.hbm, 143, rfl⟩
abbrev main_v74 : Ref sig .tc := ⟨.hbm, 144, rfl⟩
abbrev main_c_19 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_20 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩

abbrev nD : Nat := 1
abbrev τ : Topo := Topo.v7x

variable {F : FTy → Type} [FloatOps F]
-- ==== Proof.Box.lean ====
module

public import Idealize.ShloMosaic.Lib.Pipeline
public import Idealize.ShloMosaic.Lib.Exec

@[expose] public section

noncomputable section

namespace Cert.Box

open Idealize.ShloMosaic

variable {sig : RefSig} {κ : Kind} {sp : Space} {s : Shape} {e : EltTy} {Val : EltTy → Type}

/-- A buffer whose last store covered it whole reads back that store's value. -/
theorem read_cons (v : View sig κ sp s e) (f : v.ty.Contents Val) (off : Fin s.rank → Nat) (h : ∀ a, off a + s.size a ≤ s.size a)
    (x : s.Idx → Val e) (L : List (View.Piece Val s e)) :
    v.read Val (v.writes Val f (⟨Rect.unit off s.size h, x⟩ :: L)) = x := by
  have h0 : off = fun _ => 0 := funext fun a => by have := h a; omega
  subst h0
  funext y
  have h := View.read_writes_cons_emb v f (Rect.whole s) x L y
  rwa [Rect.emb_whole_apply] at h

/-- A load of the whole buffer is the buffer read. -/
theorem readAt_all (v : View sig κ sp s e) (f : v.ty.Contents Val) (off : Fin s.rank → Nat) (h : ∀ a, off a + s.size a ≤ s.size a) :
    v.readAt Val (Rect.unit off s.size h).toLoadRect f = v.read Val f := by
  have h0 : off = fun _ => 0 := funext fun a => by have := h a; omega
  subst h0
  funext y
  rw [View.readAt_apply]
  exact congrArg (v.read Val f) (Rect.emb_whole_apply s y)

/-- A load of the whole buffer from covering stores is the last store's value. -/
theorem readCov_cons [∀ e, Nonempty (Val e)] (v : View sig κ sp s e) (off : Fin s.rank → Nat) (h : ∀ a, off a + s.size a ≤ s.size a)
    (off' : Fin s.rank → Nat) (h' : ∀ a, off' a + s.size a ≤ s.size a)
    (x : s.Idx → Val e) (L : List (View.Piece Val s e)) :
    v.readCov (⟨Rect.unit off s.size h, x⟩ :: L) (Rect.unit off' s.size h').toLoadRect = x := by
  unfold View.readCov
  rw [readAt_all]
  exact read_cons v _ off h x L

/-- Where a load of a box reads: the box's corner plus the place in the box. -/
theorem idx_unit {off off' size : Fin s.rank → Nat} (inb : ∀ a, off a + size a ≤ s.size a) (z : (Rect.unit off size inb).toLoadRect.shape.Idx) (y : s.Idx)
    (e : off = off') (h : ∀ a, off' a + (z a).val = (y a).val) : (Rect.unit off size inb).toLoadRect.idx z = y := by
  subst e
  refine funext fun a => Fin.ext ?_
  show off a + 1 * (z a).val = _
  rw [Nat.one_mul]; exact h a

end Cert.Box

end
-- ==== Proof.KmMath.lean ====
module

public import Idealize.ShloMosaic.Lib.Pointwise
public import Idealize.ShloMosaic.PureOps.Ideal

@[expose] public section

set_option maxRecDepth 16384

noncomputable section

/-! K-means of one head over the extended reals, on plain functions of coordinates. -/

namespace Cert.Km

open Idealize.ShloMosaic

/-- A row divided by its length, the length kept from zero. -/
def nrm (x : Fin 64 → EReal) (d : Fin 64) : EReal :=
  Ideal.div (x d) (max (Ideal.sqrt (∑ k, x k * x k)) (Ideal.ofBits FTy.f32 730643660#32))

/-- A row has a first largest entry. -/
theorem exists_first (r : Fin 64 → EReal) : ∃ c, (∀ k, r k ≤ r c) ∧ ∀ k, r k = r c → c ≤ k := by
  obtain ⟨a, -, ha⟩ := Finset.exists_max_image Finset.univ r ⟨0, Finset.mem_univ _⟩
  obtain ⟨c, hc, hm⟩ := Finset.exists_min_image (Finset.univ.filter fun k => r k = r a) id ⟨a, by simp⟩
  have hca : r c = r a := (Finset.mem_filter.mp hc).2
  refine ⟨c, fun k => hca ▸ ha k (Finset.mem_univ _), fun k hk => hm k ?_⟩
  exact Finset.mem_filter.mpr ⟨Finset.mem_univ _, hk.trans hca⟩

/-- The place of a row's first largest entry. -/
def first (r : Fin 64 → EReal) : Fin 64 := Classical.choose (exists_first r)

/-- Nothing in the row is larger. -/
theorem le_first (r : Fin 64 → EReal) (k : Fin 64) : r k ≤ r (first r) := (Classical.choose_spec (exists_first r)).1 k

/-- No earlier entry is as large. -/
theorem first_le (r : Fin 64 → EReal) (k : Fin 64) (h : r k = r (first r)) : first r ≤ k := (Classical.choose_spec (exists_first r)).2 k h

/-- What is largest and earliest is the first largest entry. -/
theorem eq_first (r : Fin 64 → EReal) (c : Fin 64) (h1 : ∀ k, r k ≤ r c) (h2 : ∀ k, r k = r c → c ≤ k) : c = first r := by
  have e : r c = r (first r) := le_antisymm (le_first r c) (h1 _)
  exact le_antisymm (h2 _ e.symm) (first_le r c e)

/-- A token's similarity to a cluster. -/
def ds {n : ℕ} (x : Fin n → Fin 64 → EReal) (mn : Fin 64 → Fin 64 → EReal) (t : Fin n) (c : Fin 64) : EReal :=
  ∑ k, x t k * mn c k

/-- Whether a token's nearest cluster is `c`, as a number. -/
def oh {n : ℕ} (x : Fin n → Fin 64 → EReal) (mn : Fin 64 → Fin 64 → EReal) (t : Fin n) (c : Fin 64) : EReal :=
  if first (ds x mn t) = c then 1 else 0

/-- New means from counts, sums and the old means. -/
def upd (bn : Fin 64 → EReal) (sm mn : Fin 64 → Fin 64 → EReal) (c d : Fin 64) : EReal :=
  if bn c = 0 then mn c d else nrm (sm c) d

/-- One step over all tokens. -/
def stepM {n : ℕ} (x : Fin n → Fin 64 → EReal) (mn : Fin 64 → Fin 64 → EReal) : Fin 64 → Fin 64 → EReal :=
  upd (fun c => ∑ t, oh x mn t c) (fun c d => ∑ t, oh x mn t c * x t d) mn

/-- The means after `n` steps. -/
def iter {n : ℕ} (x : Fin n → Fin 64 → EReal) (m0 : Fin 64 → Fin 64 → EReal) : ℕ → Fin 64 → Fin 64 → EReal
  | 0 => m0
  | i + 1 => stepM x (iter x m0 i)

/-- The loss lanes: squared differences from a token's cluster's row of `mb`, added over the tokens. -/
def loss {n : ℕ} (x : Fin n → Fin 64 → EReal) (mn mb : Fin 64 → Fin 64 → EReal) (d : Fin 64) : EReal :=
  ∑ t, (x t d - mb (first (ds x mn t)) d) * (x t d - mb (first (ds x mn t)) d)

/-- A one-hot row times a matrix is the matrix's row. -/
theorem sum_oh {n : ℕ} (x : Fin n → Fin 64 → EReal) (mn : Fin 64 → Fin 64 → EReal) (t : Fin n) (f : Fin 64 → EReal) :
    ∑ c, oh x mn t c * f c = f (first (ds x mn t)) := by
  rw [Finset.sum_eq_single (first (ds x mn t))]
  · unfold oh; rw [if_pos rfl, one_mul]
  · intro c _ hc; unfold oh; rw [if_neg (Ne.symm hc), zero_mul]
  · intro h; exact absurd (Finset.mem_univ _) h

/-- The word of minus infinity. -/
theorem ofBits_neg_inf : Ideal.ofBits FTy.f32 4286578688#32 = (⊥ : EReal) := by
  simp [Ideal.ofBits, Ideal.ieee]

/-- The fold of `max` from minus infinity is the first largest entry's value. -/
theorem fold_max (r : Fin 64 → EReal) : Finset.fold max (Ideal.ofBits FTy.f32 4286578688#32) r Finset.univ = r (first r) := by
  apply le_antisymm
  · rw [Finset.fold_max_le]; exact ⟨by rw [ofBits_neg_inf]; exact bot_le, fun k _ => le_first r k⟩
  · rw [Finset.le_fold_max]; exact .inr ⟨first r, Finset.mem_univ _, le_refl _⟩

/-- The signed minimum, as an integer. -/
theorem minsi_toInt (a b : BitVec 32) : (IntOp.minsi a b).toInt = min a.toInt b.toInt := by
  unfold IntOp.minsi
  rw [BitVec.slt_eq_decide]
  by_cases h : a.toInt < b.toInt
  · rw [if_pos (by simpa using h), min_eq_left h.le]
  · rw [if_neg (by simpa using h), min_eq_right (not_lt.mp h)]

/-- The smallest place of a largest entry, found with signed minima from place 64 elsewhere. -/
theorem fold_minsi (r : Fin 64 → EReal) :
    Finset.fold IntOp.minsi 2147483647#32 (fun k : Fin 64 => if r k = Finset.fold max (Ideal.ofBits FTy.f32 4286578688#32) (fun j => r j) Finset.univ then BitVec.ofNat 32 k.val else 64#32) Finset.univ
      = BitVec.ofNat 32 (first r).val := by
  rw [show Finset.fold max (Ideal.ofBits FTy.f32 4286578688#32) (fun j => r j) Finset.univ = r (first r) from fold_max r]
  have hv : ∀ k : Fin 64, (BitVec.ofNat 32 k.val).toInt = (k.val : ℤ) := by decide
  apply BitVec.eq_of_toInt_eq
  rw [hv]
  have h := Finset.fold_hom (op := IntOp.minsi) (op' := min) (s := (Finset.univ : Finset (Fin 64))) (b := 2147483647#32)
    (f := fun k : Fin 64 => if r k = r (first r) then BitVec.ofNat 32 k.val else 64#32) (m := BitVec.toInt) minsi_toInt
  rw [← h]
  apply le_antisymm
  · rw [Finset.fold_min_le]
    refine .inr ⟨first r, Finset.mem_univ _, ?_⟩
    simp only [if_true]; rw [hv]
  · rw [Finset.le_fold_min]
    refine ⟨?_, fun k _ => ?_⟩
    · have : (2147483647#32 : BitVec 32).toInt = 2147483647 := by decide
      rw [this]; have := (first r).isLt; omega
    · split
      · rename_i e; rw [hv]; have := first_le r k e; exact_mod_cast this
      · have : (64#32 : BitVec 32).toInt = 64 := by decide
        rw [this]; have := (first r).isLt; omega

/-- Tile `i` of a head's tokens. -/
def tile (X : Fin 8192 → Fin 64 → EReal) (i : ℕ) (s : Fin 2048) : Fin 64 → EReal :=
  X ⟨i % 4 * 2048 + s.val, by have := s.isLt; omega⟩

/-- The four tiles' sums together are the sum over the tokens. -/
theorem sum_tiles (f : Fin 8192 → EReal) :
    ∑ i ∈ Finset.range 4, ∑ s : Fin 2048, f ⟨i % 4 * 2048 + s.val, by have := s.isLt; omega⟩ = ∑ t, f t := by
  rw [← Fin.sum_univ_eq_sum_range (fun i => ∑ s : Fin 2048, f ⟨i % 4 * 2048 + s.val, by have := s.isLt; omega⟩) 4]
  rw [← Fintype.sum_prod_type (fun q : Fin 4 × Fin 2048 => f ⟨q.1.val % 4 * 2048 + q.2.val, by have := q.2.isLt; omega⟩)]
  refine Fintype.sum_equiv (finProdFinEquiv (m := 4) (n := 2048)) _ _ fun q => congrArg f (Fin.ext ?_)
  have := q.1.isLt
  simp only [finProdFinEquiv_apply_val]
  omega

/-- One choice of a larger-value, then smaller-place pair. -/
def pick (a b : EReal × BitVec 32) : EReal × BitVec 32 :=
  (if b.1 < a.1 then a.1 else b.1, if b.1 < a.1 ∨ (a.1 = b.1 ∧ a.2.slt b.2) then a.2 else b.2)

/-- What a fold of choices keeps: nothing seen is larger, nothing seen as large is earlier, and the pair is the start or one of those seen. -/
theorem foldl_pick (r : Fin 64 → EReal) (L : List (EReal × BitVec 32)) (hL : ∀ p ∈ L, ∃ k : Fin 64, p = (r k, BitVec.ofNat 32 k.val))
    (hall : ∀ k : Fin 64, (r k, BitVec.ofNat 32 k.val) ∈ L) :
    (L.foldl pick ((⊥ : EReal), 0#32)).2 = BitVec.ofNat 32 (first r).val := by
  have hv : ∀ k : Fin 64, (BitVec.ofNat 32 k.val).toInt = (k.val : ℤ) := by decide
  have key : ∀ (L : List (EReal × BitVec 32)) (a : EReal × BitVec 32), (∀ p ∈ L, ∃ k : Fin 64, p = (r k, BitVec.ofNat 32 k.val)) →
      (a = (⊥, 0#32) ∨ ∃ k : Fin 64, a = (r k, BitVec.ofNat 32 k.val)) →
      ((L.foldl pick a = (⊥, 0#32) ∨ ∃ k : Fin 64, L.foldl pick a = (r k, BitVec.ofNat 32 k.val))
        ∧ (a.1 ≤ (L.foldl pick a).1 ∧ (a.1 = (L.foldl pick a).1 → (L.foldl pick a).2.toInt ≤ a.2.toInt))
        ∧ ∀ p ∈ L, p.1 ≤ (L.foldl pick a).1 ∧ (p.1 = (L.foldl pick a).1 → (L.foldl pick a).2.toInt ≤ p.2.toInt)) := by
    intro L
    induction L with
    | nil => intro a _ ha; exact ⟨ha, ⟨le_refl _, fun _ => le_refl _⟩, fun p hp => absurd hp List.not_mem_nil⟩
    | cons b L ih =>
      intro a hb ha
      have hbk := hb b List.mem_cons_self
      have hp : (pick a b = a ∨ pick a b = b) ∧ (a.1 ≤ (pick a b).1 ∧ (a.1 = (pick a b).1 → (pick a b).2.toInt ≤ a.2.toInt))
          ∧ (b.1 ≤ (pick a b).1 ∧ (b.1 = (pick a b).1 → (pick a b).2.toInt ≤ b.2.toInt)) := by
        unfold pick
        by_cases h1 : b.1 < a.1
        · simp only [h1, true_or, if_true]
          exact ⟨trivial, ⟨le_refl _, fun _ => le_refl _⟩, h1.le, fun e => absurd e (ne_of_lt h1)⟩
        · by_cases h2 : a.1 = b.1 ∧ a.2.slt b.2
          · simp only [h1, h2, if_false]
            have h3 : a.2.toInt < b.2.toInt := by have := h2.2; rw [BitVec.slt_eq_decide] at this; simpa using this
            obtain ⟨a1, a2⟩ := a; obtain ⟨b1, b2⟩ := b
            simp only at h2 h3 ⊢
            obtain ⟨rfl, h2'⟩ := h2
            simp [h2', h3.le]
          · simp only [h1, h2, or_self, if_false]
            refine ⟨.inr trivial, ⟨not_lt.mp h1, fun e => ?_⟩, le_refl _, fun _ => le_refl _⟩
            have h3 : ¬a.2.slt b.2 := fun h => h2 ⟨e, h⟩
            rw [BitVec.slt_eq_decide] at h3
            simpa using h3
      obtain ⟨g1, g2, g3⟩ := ih (pick a b) (fun p h => hb p (List.mem_cons_of_mem _ h))
        (hp.1.elim (fun e => by rw [e]; exact ha) (fun e => by rw [e]; exact .inr hbk))
      have tr : ∀ q : EReal × BitVec 32, q.1 ≤ (pick a b).1 → (q.1 = (pick a b).1 → (pick a b).2.toInt ≤ q.2.toInt) →
          q.1 ≤ (L.foldl pick (pick a b)).1 ∧ (q.1 = (L.foldl pick (pick a b)).1 → (L.foldl pick (pick a b)).2.toInt ≤ q.2.toInt) := by
        intro q h1 h2
        refine ⟨h1.trans g2.1, fun e => ?_⟩
        have e1 : q.1 = (pick a b).1 := le_antisymm h1 (e ▸ g2.1)
        exact (g2.2 (e1 ▸ e)).trans (h2 e1)
      rw [List.foldl_cons]
      refine ⟨g1, tr a hp.2.1.1 hp.2.1.2, fun p hpm => ?_⟩
      rcases List.mem_cons.mp hpm with rfl | h
      · exact tr p hp.2.2.1 hp.2.2.2
      · exact g3 p h
  obtain ⟨g1, -, g3⟩ := key L (⊥, 0#32) hL (.inl rfl)
  generalize L.foldl pick (⊥, 0#32) = q at *
  have fin : ∀ c : Fin 64, q = (r c, BitVec.ofNat 32 c.val) → q.2 = BitVec.ofNat 32 (first r).val := by
    rintro c rfl
    have : c = first r := eq_first r c (fun k => (g3 _ (hall k)).1) (fun k e => by
      have := (g3 _ (hall k)).2 e; rw [hv, hv] at this; exact_mod_cast this)
    rw [← this]
  rcases g1 with rfl | ⟨c, e⟩
  · refine fin 0 ?_
    have : r 0 ≤ ⊥ := (g3 _ (hall 0)).1
    exact Prod.ext (le_bot_iff.mp this).symm rfl
  · exact fin c e

end Cert.Km

end
-- ==== Proof.KmRunKernelIdeal.lean ====
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Exec
public import proofs.«01_k».proof.Proof.Box

@[expose] public section

set_option maxRecDepth 16384

noncomputable section

namespace Cert.KernelIdeal.Km

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point as a function of its blocks and of the state it finds -/

/-- Lane numbers along the cluster axis. -/
def lane : IVec S2048x64 32 := iota .tc S2048x64 32 [1] iota_S2048x64_d1_w32

/-- The cluster counts after one tile of tokens. -/
def nBins (x : Vec F S1x2048x64 .f32) (mn : Vec F S64x64 .f32) (bn : Vec F S64x1 .f32) : Vec F S64x1 .f32 :=
  k0_pay2 lane (k0_pay16 x mn) bn
/-- The cluster sums after one tile of tokens. -/
def nSum (x : Vec F S1x2048x64 .f32) (mn : Vec F S64x64 .f32) (sm : Vec F S64x64 .f32) : Vec F S64x64 .f32 :=
  k0_pay3 (k0_pay9 x) lane (k0_pay16 x mn) sm
/-- The loss lanes after one tile of tokens. -/
def nLoss (x : Vec F S1x2048x64 .f32) (mn : Vec F S64x64 .f32) (mb : Vec F S1x64x64 .f32) (l : Vec F S1x64 .f32) : Vec F S1x64 .f32 :=
  k0_pay4 (k0_pay9 x) lane (k0_pay16 x mn) mb l

/-! ## Loads of whole buffers -/

section Loads
variable {κ : Kind} {sp : Space} {e : EltTy} {Val : EltTy → Type}
/-- A whole load of a S1x2048x64 buffer is its contents. -/
theorem ld_S1x2048x64 (v : View sig κ sp S1x2048x64 e) (f : v.ty.Contents Val) (h) :
    v.readAt Val (Rect.unit (s := S1x2048x64) ![0, 0, 0] ![1, 2048, 64] h).toLoadRect f = v.read Val f := Cert.Box.readAt_all v f _ h
/-- A whole load of a S1x2048x64 buffer stored whole is the stored value. -/
theorem lc_S1x2048x64 [∀ e, Nonempty (Val e)] (v : View sig κ sp S1x2048x64 e) (h) (h') (x : S1x2048x64.Idx → Val e) (L : List (View.Piece Val S1x2048x64 e)) :
    v.readCov (⟨Rect.unit (s := S1x2048x64) ![0, 0, 0] ![1, 2048, 64] h, x⟩ :: L) (Rect.unit (s := S1x2048x64) ![0, 0, 0] ![1, 2048, 64] h').toLoadRect = x :=
  Cert.Box.readCov_cons v _ h _ h' x L
/-- A whole load of a S1x64x64 buffer is its contents. -/
theorem ld_S1x64x64 (v : View sig κ sp S1x64x64 e) (f : v.ty.Contents Val) (h) :
    v.readAt Val (Rect.unit (s := S1x64x64) ![0, 0, 0] ![1, 64, 64] h).toLoadRect f = v.read Val f := Cert.Box.readAt_all v f _ h
/-- A whole load of a S1x64x64 buffer stored whole is the stored value. -/
theorem lc_S1x64x64 [∀ e, Nonempty (Val e)] (v : View sig κ sp S1x64x64 e) (h) (h') (x : S1x64x64.Idx → Val e) (L : List (View.Piece Val S1x64x64 e)) :
    v.readCov (⟨Rect.unit (s := S1x64x64) ![0, 0, 0] ![1, 64, 64] h, x⟩ :: L) (Rect.unit (s := S1x64x64) ![0, 0, 0] ![1, 64, 64] h').toLoadRect = x :=
  Cert.Box.readCov_cons v _ h _ h' x L
/-- A whole load of a S64x64 buffer is its contents. -/
theorem ld_S64x64 (v : View sig κ sp S64x64 e) (f : v.ty.Contents Val) (h) :
    v.readAt Val (Rect.unit (s := S64x64) ![0, 0] ![64, 64] h).toLoadRect f = v.read Val f := Cert.Box.readAt_all v f _ h
/-- A whole load of a S64x64 buffer stored whole is the stored value. -/
theorem lc_S64x64 [∀ e, Nonempty (Val e)] (v : View sig κ sp S64x64 e) (h) (h') (x : S64x64.Idx → Val e) (L : List (View.Piece Val S64x64 e)) :
    v.readCov (⟨Rect.unit (s := S64x64) ![0, 0] ![64, 64] h, x⟩ :: L) (Rect.unit (s := S64x64) ![0, 0] ![64, 64] h').toLoadRect = x :=
  Cert.Box.readCov_cons v _ h _ h' x L
/-- A whole load of a S64x1 buffer is its contents. -/
theorem ld_S64x1 (v : View sig κ sp S64x1 e) (f : v.ty.Contents Val) (h) :
    v.readAt Val (Rect.unit (s := S64x1) ![0, 0] ![64, 1] h).toLoadRect f = v.read Val f := Cert.Box.readAt_all v f _ h
/-- A whole load of a S64x1 buffer stored whole is the stored value. -/
theorem lc_S64x1 [∀ e, Nonempty (Val e)] (v : View sig κ sp S64x1 e) (h) (h') (x : S64x1.Idx → Val e) (L : List (View.Piece Val S64x1 e)) :
    v.readCov (⟨Rect.unit (s := S64x1) ![0, 0] ![64, 1] h, x⟩ :: L) (Rect.unit (s := S64x1) ![0, 0] ![64, 1] h').toLoadRect = x :=
  Cert.Box.readCov_cons v _ h _ h' x L
/-- A whole load of a S1x64 buffer is its contents. -/
theorem ld_S1x64 (v : View sig κ sp S1x64 e) (f : v.ty.Contents Val) (h) :
    v.readAt Val (Rect.unit (s := S1x64) ![0, 0] ![1, 64] h).toLoadRect f = v.read Val f := Cert.Box.readAt_all v f _ h
/-- A whole load of a S1x64 buffer stored whole is the stored value. -/
theorem lc_S1x64 [∀ e, Nonempty (Val e)] (v : View sig κ sp S1x64 e) (h) (h') (x : S1x64.Idx → Val e) (L : List (View.Piece Val S1x64 e)) :
    v.readCov (⟨Rect.unit (s := S1x64) ![0, 0] ![1, 64] h, x⟩ :: L) (Rect.unit (s := S1x64) ![0, 0] ![1, 64] h').toLoadRect = x :=
  Cert.Box.readCov_cons v _ h _ h' x L
/-- A whole load of a S1x1x64 buffer is its contents. -/
theorem ld_S1x1x64 (v : View sig κ sp S1x1x64 e) (f : v.ty.Contents Val) (h) :
    v.readAt Val (Rect.unit (s := S1x1x64) ![0, 0, 0] ![1, 1, 64] h).toLoadRect f = v.read Val f := Cert.Box.readAt_all v f _ h
/-- A whole load of a S1x1x64 buffer stored whole is the stored value. -/
theorem lc_S1x1x64 [∀ e, Nonempty (Val e)] (v : View sig κ sp S1x1x64 e) (h) (h') (x : S1x1x64.Idx → Val e) (L : List (View.Piece Val S1x1x64 e)) :
    v.readCov (⟨Rect.unit (s := S1x1x64) ![0, 0, 0] ![1, 1, 64] h, x⟩ :: L) (Rect.unit (s := S1x1x64) ![0, 0, 0] ![1, 1, 64] h').toLoadRect = x :=
  Cert.Box.readCov_cons v _ h _ h' x L
end Loads

/-! ## The body's branch conditions at a grid point -/

/-- First iteration, first tile. -/
abbrev cond0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- Last iteration, first tile. -/
abbrev cond1 (i : grid0.Coords) : Prop := (Scalar.cmpi .ne (Scalar.extui (Scalar.andi (Scalar.cmpi .eq (BitVec.ofNat 32 (i 1).val) 9#32) (Scalar.cmpi .eq (BitVec.ofNat 32 (i 2).val) 0#32))) 0#32) = 1#1
/-- Last iteration (as the distances' store decides it). -/
abbrev cond2 (i : grid0.Coords) : Prop := k0_cond3 i = 1#1
/-- Last iteration (as the loss's store decides it). -/
abbrev cond3 (i : grid0.Coords) : Prop := (Scalar.cmpi .ne (Scalar.extui (Scalar.cmpi .eq (BitVec.ofNat 32 (i 1).val) 9#32)) 0#32) = 1#1
/-- Last tile of an iteration. -/
abbrev cond4 (i : grid0.Coords) : Prop := (Scalar.cmpi .ne (Scalar.extui (Scalar.cmpi .eq (BitVec.ofNat 32 (i 2).val) 3#32)) 0#32) = 1#1
/-- Last tile of the last iteration. -/
abbrev cond5 (i : grid0.Coords) : Prop := k0_cond6 i = 1#1

/-! ## The body run in each of its six cases -/

set_option maxHeartbeats 1000000 in
/-- First tile of the first iteration: the start means normalised, sums and counts from zero. -/
theorem runA (c : Dev nD) (i : grid0.Coords) (arg3 : Memref sig .tc .vmem S1x2048x64 .f32) (harg3 : arg3.IsWhole) (arg4 : Memref sig .tc .vmem S1x64x64 .f32) (harg4 : arg4.IsWhole) (arg5 : Memref sig .tc .vmem S1x64x64 .f32) (harg5 : arg5.IsWhole) (arg6 : Memref sig .tc .vmem S1x2048x64 .f32) (harg6 : arg6.IsWhole) (arg7 : Memref sig .tc .vmem S1x1x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x1 .f32) (harg10 : arg10.IsWhole) (arg11 : Memref sig .tc .vmem S1x64 .f32) (harg11 : arg11.IsWhole) (hc0 : cond0 i) (hc1 : ¬cond1 i) (hc2 : ¬cond2 i) (hc3 : ¬cond3 i) (hc4 : ¬cond4 i) (hc5 : ¬cond5 i)
    (x0 : Vec F S1x2048x64 .f32) (x1 : Vec F S1x64x64 .f32) (x2 : Vec F S1x64x64 .f32) (o3 : Vec F S1x2048x64 .f32) (o4 : Vec F S1x1x64 .f32)
    (mn : Vec F S64x64 .f32) (sm : Vec F S64x64 .f32) (bn : Vec F S64x1 .f32) (l : Vec F S1x64 .f32) (E : Set ℕ) (K : PUnit → sProp 𝕄) :
    iprop(owns (c : Thread nD τ) arg3 fullShare (x0) ∗ owns (c : Thread nD τ) arg4 fullShare (x1) ∗ owns (c : Thread nD τ) arg5 fullShare (x2) ∗ owns (c : Thread nD τ) arg6 fullShare (o3) ∗ owns (c : Thread nD τ) arg7 fullShare (o4) ∗ owns (c : Thread nD τ) arg8 fullShare (mn) ∗ owns (c : Thread nD τ) arg9 fullShare (sm) ∗ owns (c : Thread nD τ) arg10 fullShare (bn) ∗ owns (c : Thread nD τ) arg11 fullShare (l)
        ∗ (iprop(owns (c : Thread nD τ) arg3 fullShare (x0) ∗ owns (c : Thread nD τ) arg4 fullShare (x1) ∗ owns (c : Thread nD τ) arg5 fullShare (x2) ∗ owns (c : Thread nD τ) arg6 fullShare (o3) ∗ owns (c : Thread nD τ) arg7 fullShare (o4) ∗ owns (c : Thread nD τ) arg8 fullShare (k0_pay10 x1) ∗ owns (c : Thread nD τ) arg9 fullShare (nSum x0 (k0_pay10 x1) k0_pay11) ∗ owns (c : Thread nD τ) arg10 fullShare (nBins x0 (k0_pay10 x1) k0_pay12) ∗ owns (c : Thread nD τ) arg11 fullShare (l)) -∗ K ⟨⟩))
      ⊢ wp frame (wpE (defs₀ (F := F)) Variants.none c none) E (cc0__kmeans_body i arg3 harg3 arg4 harg4 arg5 harg5 arg6 harg6 arg7 harg7 arg8 harg8 arg9 harg9 arg10 harg10 arg11 harg11) K := by
  simp only [cc0__kmeans_body_eq_skeleton]; unfold cc0__kmeans_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  sl_exec (disch := first | sl_exact hc0 | sl_exact hc1 | sl_exact hc2 | sl_exact hc3 | sl_exact hc4 | sl_exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    refine (Cert.Box.read_cons _ _ _ _ _ _).trans ?_
    try unfold runA.sl.v62_1
    try unfold runA.sl.v71_1
    try unfold runA.sl.v62
    try unfold runA.sl.v71
    try unfold runA.sl.v74
    try unfold runA.sl.v66
    try unfold runA.sl.v39
    try unfold runA.sl.v45
    try unfold runA.sl.v20
    try unfold runA.sl.H5_1
    try unfold runA.sl.H6_1
    try unfold runA.sl.H7_1
    try unfold runA.sl.H8_1
    try unfold runA.sl.r
    try unfold runA.sl.r_1
    try unfold runA.sl.v27
    try unfold runA.sl.v20
    try unfold runA.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  isplitl [H6]
  · iexists _; isplitr; swap; · iexact H6
    ipureintro
    refine (Cert.Box.read_cons _ _ _ _ _ _).trans ?_
    try unfold runA.sl.v62_1
    try unfold runA.sl.v71_1
    try unfold runA.sl.v62
    try unfold runA.sl.v71
    try unfold runA.sl.v74
    try unfold runA.sl.v66
    try unfold runA.sl.v39
    try unfold runA.sl.v45
    try unfold runA.sl.v20
    try unfold runA.sl.H5_1
    try unfold runA.sl.H6_1
    try unfold runA.sl.H7_1
    try unfold runA.sl.H8_1
    try unfold runA.sl.r
    try unfold runA.sl.r_1
    try unfold runA.sl.v27
    try unfold runA.sl.v20
    try unfold runA.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  isplitl [H7]
  · iexists _; isplitr; swap; · iexact H7
    ipureintro
    refine (Cert.Box.read_cons _ _ _ _ _ _).trans ?_
    try unfold runA.sl.v62_1
    try unfold runA.sl.v71_1
    try unfold runA.sl.v62
    try unfold runA.sl.v71
    try unfold runA.sl.v74
    try unfold runA.sl.v66
    try unfold runA.sl.v39
    try unfold runA.sl.v45
    try unfold runA.sl.v20
    try unfold runA.sl.H5_1
    try unfold runA.sl.H6_1
    try unfold runA.sl.H7_1
    try unfold runA.sl.H8_1
    try unfold runA.sl.r
    try unfold runA.sl.r_1
    try unfold runA.sl.v27
    try unfold runA.sl.v20
    try unfold runA.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  iexists _; isplitr; · ipureintro; exact harg11.read_unread _
  iexact H8

set_option maxHeartbeats 1000000 in
/-- A tile inside an iteration. -/
theorem runB (c : Dev nD) (i : grid0.Coords) (arg3 : Memref sig .tc .vmem S1x2048x64 .f32) (harg3 : arg3.IsWhole) (arg4 : Memref sig .tc .vmem S1x64x64 .f32) (harg4 : arg4.IsWhole) (arg5 : Memref sig .tc .vmem S1x64x64 .f32) (harg5 : arg5.IsWhole) (arg6 : Memref sig .tc .vmem S1x2048x64 .f32) (harg6 : arg6.IsWhole) (arg7 : Memref sig .tc .vmem S1x1x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x1 .f32) (harg10 : arg10.IsWhole) (arg11 : Memref sig .tc .vmem S1x64 .f32) (harg11 : arg11.IsWhole) (hc0 : ¬cond0 i) (hc1 : ¬cond1 i) (hc2 : ¬cond2 i) (hc3 : ¬cond3 i) (hc4 : ¬cond4 i) (hc5 : ¬cond5 i)
    (x0 : Vec F S1x2048x64 .f32) (x1 : Vec F S1x64x64 .f32) (x2 : Vec F S1x64x64 .f32) (o3 : Vec F S1x2048x64 .f32) (o4 : Vec F S1x1x64 .f32)
    (mn : Vec F S64x64 .f32) (sm : Vec F S64x64 .f32) (bn : Vec F S64x1 .f32) (l : Vec F S1x64 .f32) (E : Set ℕ) (K : PUnit → sProp 𝕄) :
    iprop(owns (c : Thread nD τ) arg3 fullShare (x0) ∗ owns (c : Thread nD τ) arg4 fullShare (x1) ∗ owns (c : Thread nD τ) arg5 fullShare (x2) ∗ owns (c : Thread nD τ) arg6 fullShare (o3) ∗ owns (c : Thread nD τ) arg7 fullShare (o4) ∗ owns (c : Thread nD τ) arg8 fullShare (mn) ∗ owns (c : Thread nD τ) arg9 fullShare (sm) ∗ owns (c : Thread nD τ) arg10 fullShare (bn) ∗ owns (c : Thread nD τ) arg11 fullShare (l)
        ∗ (iprop(owns (c : Thread nD τ) arg3 fullShare (x0) ∗ owns (c : Thread nD τ) arg4 fullShare (x1) ∗ owns (c : Thread nD τ) arg5 fullShare (x2) ∗ owns (c : Thread nD τ) arg6 fullShare (o3) ∗ owns (c : Thread nD τ) arg7 fullShare (o4) ∗ owns (c : Thread nD τ) arg8 fullShare (mn) ∗ owns (c : Thread nD τ) arg9 fullShare (nSum x0 mn sm) ∗ owns (c : Thread nD τ) arg10 fullShare (nBins x0 mn bn) ∗ owns (c : Thread nD τ) arg11 fullShare (l)) -∗ K ⟨⟩))
      ⊢ wp frame (wpE (defs₀ (F := F)) Variants.none c none) E (cc0__kmeans_body i arg3 harg3 arg4 harg4 arg5 harg5 arg6 harg6 arg7 harg7 arg8 harg8 arg9 harg9 arg10 harg10 arg11 harg11) K := by
  simp only [cc0__kmeans_body_eq_skeleton]; unfold cc0__kmeans_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  sl_exec (disch := first | sl_exact hc0 | sl_exact hc1 | sl_exact hc2 | sl_exact hc3 | sl_exact hc4 | sl_exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    refine (Cert.Box.read_cons _ _ _ _ _ _).trans ?_
    try unfold runB.sl.v62_1
    try unfold runB.sl.v71_1
    try unfold runB.sl.v62
    try unfold runB.sl.v71
    try unfold runB.sl.v74
    try unfold runB.sl.v66
    try unfold runB.sl.v39
    try unfold runB.sl.v45
    try unfold runB.sl.v20
    try unfold runB.sl.H5_1
    try unfold runB.sl.H6_1
    try unfold runB.sl.H7_1
    try unfold runB.sl.H8_1
    try unfold runB.sl.r
    try unfold runB.sl.r_1
    try unfold runB.sl.v27
    try unfold runB.sl.v20
    try unfold runB.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  isplitl [H7]
  · iexists _; isplitr; swap; · iexact H7
    ipureintro
    refine (Cert.Box.read_cons _ _ _ _ _ _).trans ?_
    try unfold runB.sl.v62_1
    try unfold runB.sl.v71_1
    try unfold runB.sl.v62
    try unfold runB.sl.v71
    try unfold runB.sl.v74
    try unfold runB.sl.v66
    try unfold runB.sl.v39
    try unfold runB.sl.v45
    try unfold runB.sl.v20
    try unfold runB.sl.H5_1
    try unfold runB.sl.H6_1
    try unfold runB.sl.H7_1
    try unfold runB.sl.H8_1
    try unfold runB.sl.r
    try unfold runB.sl.r_1
    try unfold runB.sl.v27
    try unfold runB.sl.v20
    try unfold runB.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  iexists _; isplitr; · ipureintro; exact harg11.read_unread _
  iexact H8

set_option maxHeartbeats 1000000 in
/-- Last tile of an iteration: the means move, sums and counts go back to zero. -/
theorem runC (c : Dev nD) (i : grid0.Coords) (arg3 : Memref sig .tc .vmem S1x2048x64 .f32) (harg3 : arg3.IsWhole) (arg4 : Memref sig .tc .vmem S1x64x64 .f32) (harg4 : arg4.IsWhole) (arg5 : Memref sig .tc .vmem S1x64x64 .f32) (harg5 : arg5.IsWhole) (arg6 : Memref sig .tc .vmem S1x2048x64 .f32) (harg6 : arg6.IsWhole) (arg7 : Memref sig .tc .vmem S1x1x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x1 .f32) (harg10 : arg10.IsWhole) (arg11 : Memref sig .tc .vmem S1x64 .f32) (harg11 : arg11.IsWhole) (hc0 : ¬cond0 i) (hc1 : ¬cond1 i) (hc2 : ¬cond2 i) (hc3 : ¬cond3 i) (hc4 : cond4 i) (hc5 : ¬cond5 i)
    (x0 : Vec F S1x2048x64 .f32) (x1 : Vec F S1x64x64 .f32) (x2 : Vec F S1x64x64 .f32) (o3 : Vec F S1x2048x64 .f32) (o4 : Vec F S1x1x64 .f32)
    (mn : Vec F S64x64 .f32) (sm : Vec F S64x64 .f32) (bn : Vec F S64x1 .f32) (l : Vec F S1x64 .f32) (E : Set ℕ) (K : PUnit → sProp 𝕄) :
    iprop(owns (c : Thread nD τ) arg3 fullShare (x0) ∗ owns (c : Thread nD τ) arg4 fullShare (x1) ∗ owns (c : Thread nD τ) arg5 fullShare (x2) ∗ owns (c : Thread nD τ) arg6 fullShare (o3) ∗ owns (c : Thread nD τ) arg7 fullShare (o4) ∗ owns (c : Thread nD τ) arg8 fullShare (mn) ∗ owns (c : Thread nD τ) arg9 fullShare (sm) ∗ owns (c : Thread nD τ) arg10 fullShare (bn) ∗ owns (c : Thread nD τ) arg11 fullShare (l)
        ∗ (iprop(owns (c : Thread nD τ) arg3 fullShare (x0) ∗ owns (c : Thread nD τ) arg4 fullShare (x1) ∗ owns (c : Thread nD τ) arg5 fullShare (x2) ∗ owns (c : Thread nD τ) arg6 fullShare (o3) ∗ owns (c : Thread nD τ) arg7 fullShare (o4) ∗ owns (c : Thread nD τ) arg8 fullShare (k0_pay5 (nSum x0 mn sm) (nBins x0 mn bn) mn) ∗ owns (c : Thread nD τ) arg9 fullShare (k0_pay6) ∗ owns (c : Thread nD τ) arg10 fullShare (k0_pay7) ∗ owns (c : Thread nD τ) arg11 fullShare (l)) -∗ K ⟨⟩))
      ⊢ wp frame (wpE (defs₀ (F := F)) Variants.none c none) E (cc0__kmeans_body i arg3 harg3 arg4 harg4 arg5 harg5 arg6 harg6 arg7 harg7 arg8 harg8 arg9 harg9 arg10 harg10 arg11 harg11) K := by
  simp only [cc0__kmeans_body_eq_skeleton]; unfold cc0__kmeans_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  sl_exec (disch := first | sl_exact hc0 | sl_exact hc1 | sl_exact hc2 | sl_exact hc3 | sl_exact hc4 | sl_exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    refine (Cert.Box.read_cons _ _ _ _ _ _).trans ?_
    try unfold runC.sl.v62_1
    try unfold runC.sl.v71_1
    try unfold runC.sl.v62
    try unfold runC.sl.v71
    try unfold runC.sl.v74
    try unfold runC.sl.v66
    try unfold runC.sl.v39
    try unfold runC.sl.v45
    try unfold runC.sl.v20
    try unfold runC.sl.H5_1
    try unfold runC.sl.H6_1
    try unfold runC.sl.H7_1
    try unfold runC.sl.H8_1
    try unfold runC.sl.r
    try unfold runC.sl.r_1
    try unfold runC.sl.v27
    try unfold runC.sl.v20
    try unfold runC.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  isplitl [H6]
  · iexists _; isplitr; swap; · iexact H6
    ipureintro
    refine (Cert.Box.read_cons _ _ _ _ _ _).trans ?_
    try unfold runC.sl.v62_1
    try unfold runC.sl.v71_1
    try unfold runC.sl.v62
    try unfold runC.sl.v71
    try unfold runC.sl.v74
    try unfold runC.sl.v66
    try unfold runC.sl.v39
    try unfold runC.sl.v45
    try unfold runC.sl.v20
    try unfold runC.sl.H5_1
    try unfold runC.sl.H6_1
    try unfold runC.sl.H7_1
    try unfold runC.sl.H8_1
    try unfold runC.sl.r
    try unfold runC.sl.r_1
    try unfold runC.sl.v27
    try unfold runC.sl.v20
    try unfold runC.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  isplitl [H7]
  · iexists _; isplitr; swap; · iexact H7
    ipureintro
    refine (Cert.Box.read_cons _ _ _ _ _ _).trans ?_
    try unfold runC.sl.v62_1
    try unfold runC.sl.v71_1
    try unfold runC.sl.v62
    try unfold runC.sl.v71
    try unfold runC.sl.v74
    try unfold runC.sl.v66
    try unfold runC.sl.v39
    try unfold runC.sl.v45
    try unfold runC.sl.v20
    try unfold runC.sl.H5_1
    try unfold runC.sl.H6_1
    try unfold runC.sl.H7_1
    try unfold runC.sl.H8_1
    try unfold runC.sl.r
    try unfold runC.sl.r_1
    try unfold runC.sl.v27
    try unfold runC.sl.v20
    try unfold runC.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  iexists _; isplitr; · ipureintro; exact harg11.read_unread _
  iexact H8

set_option maxHeartbeats 1000000 in
/-- First tile of the last iteration: distances stored, loss lanes from zero. -/
theorem runD (c : Dev nD) (i : grid0.Coords) (arg3 : Memref sig .tc .vmem S1x2048x64 .f32) (harg3 : arg3.IsWhole) (arg4 : Memref sig .tc .vmem S1x64x64 .f32) (harg4 : arg4.IsWhole) (arg5 : Memref sig .tc .vmem S1x64x64 .f32) (harg5 : arg5.IsWhole) (arg6 : Memref sig .tc .vmem S1x2048x64 .f32) (harg6 : arg6.IsWhole) (arg7 : Memref sig .tc .vmem S1x1x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x1 .f32) (harg10 : arg10.IsWhole) (arg11 : Memref sig .tc .vmem S1x64 .f32) (harg11 : arg11.IsWhole) (hc0 : ¬cond0 i) (hc1 : cond1 i) (hc2 : cond2 i) (hc3 : cond3 i) (hc4 : ¬cond4 i) (hc5 : ¬cond5 i)
    (x0 : Vec F S1x2048x64 .f32) (x1 : Vec F S1x64x64 .f32) (x2 : Vec F S1x64x64 .f32) (o3 : Vec F S1x2048x64 .f32) (o4 : Vec F S1x1x64 .f32)
    (mn : Vec F S64x64 .f32) (sm : Vec F S64x64 .f32) (bn : Vec F S64x1 .f32) (l : Vec F S1x64 .f32) (E : Set ℕ) (K : PUnit → sProp 𝕄) :
    iprop(owns (c : Thread nD τ) arg3 fullShare (x0) ∗ owns (c : Thread nD τ) arg4 fullShare (x1) ∗ owns (c : Thread nD τ) arg5 fullShare (x2) ∗ owns (c : Thread nD τ) arg6 fullShare (o3) ∗ owns (c : Thread nD τ) arg7 fullShare (o4) ∗ owns (c : Thread nD τ) arg8 fullShare (mn) ∗ owns (c : Thread nD τ) arg9 fullShare (sm) ∗ owns (c : Thread nD τ) arg10 fullShare (bn) ∗ owns (c : Thread nD τ) arg11 fullShare (l)
        ∗ (iprop(owns (c : Thread nD τ) arg3 fullShare (x0) ∗ owns (c : Thread nD τ) arg4 fullShare (x1) ∗ owns (c : Thread nD τ) arg5 fullShare (x2) ∗ owns (c : Thread nD τ) arg6 fullShare (k0_pay15 x0 mn) ∗ owns (c : Thread nD τ) arg7 fullShare (o4) ∗ owns (c : Thread nD τ) arg8 fullShare (mn) ∗ owns (c : Thread nD τ) arg9 fullShare (nSum x0 mn sm) ∗ owns (c : Thread nD τ) arg10 fullShare (nBins x0 mn bn) ∗ owns (c : Thread nD τ) arg11 fullShare (nLoss x0 mn x2 k0_pay13)) -∗ K ⟨⟩))
      ⊢ wp frame (wpE (defs₀ (F := F)) Variants.none c none) E (cc0__kmeans_body i arg3 harg3 arg4 harg4 arg5 harg5 arg6 harg6 arg7 harg7 arg8 harg8 arg9 harg9 arg10 harg10 arg11 harg11) K := by
  simp only [cc0__kmeans_body_eq_skeleton]; unfold cc0__kmeans_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  sl_exec (disch := first | sl_exact hc0 | sl_exact hc1 | sl_exact hc2 | sl_exact hc3 | sl_exact hc4 | sl_exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    refine (Cert.Box.read_cons _ _ _ _ _ _).trans ?_
    try unfold runD.sl.v62_1
    try unfold runD.sl.v71_1
    try unfold runD.sl.v62
    try unfold runD.sl.v71
    try unfold runD.sl.v74
    try unfold runD.sl.v66
    try unfold runD.sl.v39
    try unfold runD.sl.v45
    try unfold runD.sl.v20
    try unfold runD.sl.H5_1
    try unfold runD.sl.H6_1
    try unfold runD.sl.H7_1
    try unfold runD.sl.H8_1
    try unfold runD.sl.r
    try unfold runD.sl.r_1
    try unfold runD.sl.v27
    try unfold runD.sl.v20
    try unfold runD.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    refine (Cert.Box.read_cons _ _ _ _ _ _).trans ?_
    try unfold runD.sl.v62_1
    try unfold runD.sl.v71_1
    try unfold runD.sl.v62
    try unfold runD.sl.v71
    try unfold runD.sl.v74
    try unfold runD.sl.v66
    try unfold runD.sl.v39
    try unfold runD.sl.v45
    try unfold runD.sl.v20
    try unfold runD.sl.H5_1
    try unfold runD.sl.H6_1
    try unfold runD.sl.H7_1
    try unfold runD.sl.H8_1
    try unfold runD.sl.r
    try unfold runD.sl.r_1
    try unfold runD.sl.v27
    try unfold runD.sl.v20
    try unfold runD.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  isplitl [H7]
  · iexists _; isplitr; swap; · iexact H7
    ipureintro
    refine (Cert.Box.read_cons _ _ _ _ _ _).trans ?_
    try unfold runD.sl.v62_1
    try unfold runD.sl.v71_1
    try unfold runD.sl.v62
    try unfold runD.sl.v71
    try unfold runD.sl.v74
    try unfold runD.sl.v66
    try unfold runD.sl.v39
    try unfold runD.sl.v45
    try unfold runD.sl.v20
    try unfold runD.sl.H5_1
    try unfold runD.sl.H6_1
    try unfold runD.sl.H7_1
    try unfold runD.sl.H8_1
    try unfold runD.sl.r
    try unfold runD.sl.r_1
    try unfold runD.sl.v27
    try unfold runD.sl.v20
    try unfold runD.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  iexists _; isplitr; swap; · iexact H8
  ipureintro
  refine (Cert.Box.read_cons _ _ _ _ _ _).trans ?_
  try unfold runD.sl.v62_1
  try unfold runD.sl.v71_1
  try unfold runD.sl.v62
  try unfold runD.sl.v71
  try unfold runD.sl.v74
  try unfold runD.sl.v66
  try unfold runD.sl.v39
  try unfold runD.sl.v45
  try unfold runD.sl.v20
  try unfold runD.sl.H5_1
  try unfold runD.sl.H6_1
  try unfold runD.sl.H7_1
  try unfold runD.sl.H8_1
  try unfold runD.sl.r
  try unfold runD.sl.r_1
  try unfold runD.sl.v27
  try unfold runD.sl.v20
  try unfold runD.sl.H5_1
  simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
  all_goals rfl

set_option maxHeartbeats 1000000 in
/-- A middle tile of the last iteration. -/
theorem runE (c : Dev nD) (i : grid0.Coords) (arg3 : Memref sig .tc .vmem S1x2048x64 .f32) (harg3 : arg3.IsWhole) (arg4 : Memref sig .tc .vmem S1x64x64 .f32) (harg4 : arg4.IsWhole) (arg5 : Memref sig .tc .vmem S1x64x64 .f32) (harg5 : arg5.IsWhole) (arg6 : Memref sig .tc .vmem S1x2048x64 .f32) (harg6 : arg6.IsWhole) (arg7 : Memref sig .tc .vmem S1x1x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x1 .f32) (harg10 : arg10.IsWhole) (arg11 : Memref sig .tc .vmem S1x64 .f32) (harg11 : arg11.IsWhole) (hc0 : ¬cond0 i) (hc1 : ¬cond1 i) (hc2 : cond2 i) (hc3 : cond3 i) (hc4 : ¬cond4 i) (hc5 : ¬cond5 i)
    (x0 : Vec F S1x2048x64 .f32) (x1 : Vec F S1x64x64 .f32) (x2 : Vec F S1x64x64 .f32) (o3 : Vec F S1x2048x64 .f32) (o4 : Vec F S1x1x64 .f32)
    (mn : Vec F S64x64 .f32) (sm : Vec F S64x64 .f32) (bn : Vec F S64x1 .f32) (l : Vec F S1x64 .f32) (E : Set ℕ) (K : PUnit → sProp 𝕄) :
    iprop(owns (c : Thread nD τ) arg3 fullShare (x0) ∗ owns (c : Thread nD τ) arg4 fullShare (x1) ∗ owns (c : Thread nD τ) arg5 fullShare (x2) ∗ owns (c : Thread nD τ) arg6 fullShare (o3) ∗ owns (c : Thread nD τ) arg7 fullShare (o4) ∗ owns (c : Thread nD τ) arg8 fullShare (mn) ∗ owns (c : Thread nD τ) arg9 fullShare (sm) ∗ owns (c : Thread nD τ) arg10 fullShare (bn) ∗ owns (c : Thread nD τ) arg11 fullShare (l)
        ∗ (iprop(owns (c : Thread nD τ) arg3 fullShare (x0) ∗ owns (c : Thread nD τ) arg4 fullShare (x1) ∗ owns (c : Thread nD τ) arg5 fullShare (x2) ∗ owns (c : Thread nD τ) arg6 fullShare (k0_pay15 x0 mn) ∗ owns (c : Thread nD τ) arg7 fullShare (o4) ∗ owns (c : Thread nD τ) arg8 fullShare (mn) ∗ owns (c : Thread nD τ) arg9 fullShare (nSum x0 mn sm) ∗ owns (c : Thread nD τ) arg10 fullShare (nBins x0 mn bn) ∗ owns (c : Thread nD τ) arg11 fullShare (nLoss x0 mn x2 l)) -∗ K ⟨⟩))
      ⊢ wp frame (wpE (defs₀ (F := F)) Variants.none c none) E (cc0__kmeans_body i arg3 harg3 arg4 harg4 arg5 harg5 arg6 harg6 arg7 harg7 arg8 harg8 arg9 harg9 arg10 harg10 arg11 harg11) K := by
  simp only [cc0__kmeans_body_eq_skeleton]; unfold cc0__kmeans_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  sl_exec (disch := first | sl_exact hc0 | sl_exact hc1 | sl_exact hc2 | sl_exact hc3 | sl_exact hc4 | sl_exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    refine (Cert.Box.read_cons _ _ _ _ _ _).trans ?_
    try unfold runE.sl.v62_1
    try unfold runE.sl.v71_1
    try unfold runE.sl.v62
    try unfold runE.sl.v71
    try unfold runE.sl.v74
    try unfold runE.sl.v66
    try unfold runE.sl.v39
    try unfold runE.sl.v45
    try unfold runE.sl.v20
    try unfold runE.sl.H5_1
    try unfold runE.sl.H6_1
    try unfold runE.sl.H7_1
    try unfold runE.sl.H8_1
    try unfold runE.sl.r
    try unfold runE.sl.r_1
    try unfold runE.sl.v27
    try unfold runE.sl.v20
    try unfold runE.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    refine (Cert.Box.read_cons _ _ _ _ _ _).trans ?_
    try unfold runE.sl.v62_1
    try unfold runE.sl.v71_1
    try unfold runE.sl.v62
    try unfold runE.sl.v71
    try unfold runE.sl.v74
    try unfold runE.sl.v66
    try unfold runE.sl.v39
    try unfold runE.sl.v45
    try unfold runE.sl.v20
    try unfold runE.sl.H5_1
    try unfold runE.sl.H6_1
    try unfold runE.sl.H7_1
    try unfold runE.sl.H8_1
    try unfold runE.sl.r
    try unfold runE.sl.r_1
    try unfold runE.sl.v27
    try unfold runE.sl.v20
    try unfold runE.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  isplitl [H7]
  · iexists _; isplitr; swap; · iexact H7
    ipureintro
    refine (Cert.Box.read_cons _ _ _ _ _ _).trans ?_
    try unfold runE.sl.v62_1
    try unfold runE.sl.v71_1
    try unfold runE.sl.v62
    try unfold runE.sl.v71
    try unfold runE.sl.v74
    try unfold runE.sl.v66
    try unfold runE.sl.v39
    try unfold runE.sl.v45
    try unfold runE.sl.v20
    try unfold runE.sl.H5_1
    try unfold runE.sl.H6_1
    try unfold runE.sl.H7_1
    try unfold runE.sl.H8_1
    try unfold runE.sl.r
    try unfold runE.sl.r_1
    try unfold runE.sl.v27
    try unfold runE.sl.v20
    try unfold runE.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  iexists _; isplitr; swap; · iexact H8
  ipureintro
  refine (Cert.Box.read_cons _ _ _ _ _ _).trans ?_
  try unfold runE.sl.v62_1
  try unfold runE.sl.v71_1
  try unfold runE.sl.v62
  try unfold runE.sl.v71
  try unfold runE.sl.v74
  try unfold runE.sl.v66
  try unfold runE.sl.v39
  try unfold runE.sl.v45
  try unfold runE.sl.v20
  try unfold runE.sl.H5_1
  try unfold runE.sl.H6_1
  try unfold runE.sl.H7_1
  try unfold runE.sl.H8_1
  try unfold runE.sl.r
  try unfold runE.sl.r_1
  try unfold runE.sl.v27
  try unfold runE.sl.v20
  try unfold runE.sl.H5_1
  simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
  all_goals rfl

set_option maxHeartbeats 1000000 in
/-- Last tile of the last iteration: the loss lanes are stored. -/
theorem runF (c : Dev nD) (i : grid0.Coords) (arg3 : Memref sig .tc .vmem S1x2048x64 .f32) (harg3 : arg3.IsWhole) (arg4 : Memref sig .tc .vmem S1x64x64 .f32) (harg4 : arg4.IsWhole) (arg5 : Memref sig .tc .vmem S1x64x64 .f32) (harg5 : arg5.IsWhole) (arg6 : Memref sig .tc .vmem S1x2048x64 .f32) (harg6 : arg6.IsWhole) (arg7 : Memref sig .tc .vmem S1x1x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S64x1 .f32) (harg10 : arg10.IsWhole) (arg11 : Memref sig .tc .vmem S1x64 .f32) (harg11 : arg11.IsWhole) (hc0 : ¬cond0 i) (hc1 : ¬cond1 i) (hc2 : cond2 i) (hc3 : cond3 i) (hc4 : cond4 i) (hc5 : cond5 i)
    (x0 : Vec F S1x2048x64 .f32) (x1 : Vec F S1x64x64 .f32) (x2 : Vec F S1x64x64 .f32) (o3 : Vec F S1x2048x64 .f32) (o4 : Vec F S1x1x64 .f32)
    (mn : Vec F S64x64 .f32) (sm : Vec F S64x64 .f32) (bn : Vec F S64x1 .f32) (l : Vec F S1x64 .f32) (E : Set ℕ) (K : PUnit → sProp 𝕄) :
    iprop(owns (c : Thread nD τ) arg3 fullShare (x0) ∗ owns (c : Thread nD τ) arg4 fullShare (x1) ∗ owns (c : Thread nD τ) arg5 fullShare (x2) ∗ owns (c : Thread nD τ) arg6 fullShare (o3) ∗ owns (c : Thread nD τ) arg7 fullShare (o4) ∗ owns (c : Thread nD τ) arg8 fullShare (mn) ∗ owns (c : Thread nD τ) arg9 fullShare (sm) ∗ owns (c : Thread nD τ) arg10 fullShare (bn) ∗ owns (c : Thread nD τ) arg11 fullShare (l)
        ∗ (iprop(owns (c : Thread nD τ) arg3 fullShare (x0) ∗ owns (c : Thread nD τ) arg4 fullShare (x1) ∗ owns (c : Thread nD τ) arg5 fullShare (x2) ∗ owns (c : Thread nD τ) arg6 fullShare (k0_pay15 x0 mn) ∗ owns (c : Thread nD τ) arg7 fullShare (k0_pay8 (nLoss x0 mn x2 l)) ∗ owns (c : Thread nD τ) arg8 fullShare (k0_pay5 (nSum x0 mn sm) (nBins x0 mn bn) mn) ∗ owns (c : Thread nD τ) arg9 fullShare (k0_pay6) ∗ owns (c : Thread nD τ) arg10 fullShare (k0_pay7) ∗ owns (c : Thread nD τ) arg11 fullShare (nLoss x0 mn x2 l)) -∗ K ⟨⟩))
      ⊢ wp frame (wpE (defs₀ (F := F)) Variants.none c none) E (cc0__kmeans_body i arg3 harg3 arg4 harg4 arg5 harg5 arg6 harg6 arg7 harg7 arg8 harg8 arg9 harg9 arg10 harg10 arg11 harg11) K := by
  simp only [cc0__kmeans_body_eq_skeleton]; unfold cc0__kmeans_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf0
  obtain rfl := harg4.eq_unread hf1
  obtain rfl := harg5.eq_unread hf2
  obtain rfl := harg6.eq_unread hf3
  obtain rfl := harg7.eq_unread hf4
  obtain rfl := harg8.eq_unread hf5
  obtain rfl := harg9.eq_unread hf6
  obtain rfl := harg10.eq_unread hf7
  obtain rfl := harg11.eq_unread hf8
  sl_exec (disch := first | sl_exact hc0 | sl_exact hc1 | sl_exact hc2 | sl_exact hc3 | sl_exact hc4 | sl_exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    refine (Cert.Box.read_cons _ _ _ _ _ _).trans ?_
    try unfold runF.sl.v62_1
    try unfold runF.sl.v71_1
    try unfold runF.sl.v62
    try unfold runF.sl.v71
    try unfold runF.sl.v74
    try unfold runF.sl.v66
    try unfold runF.sl.v39
    try unfold runF.sl.v45
    try unfold runF.sl.v20
    try unfold runF.sl.H5_1
    try unfold runF.sl.H6_1
    try unfold runF.sl.H7_1
    try unfold runF.sl.H8_1
    try unfold runF.sl.r
    try unfold runF.sl.r_1
    try unfold runF.sl.v27
    try unfold runF.sl.v20
    try unfold runF.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  isplitl [H4]
  · iexists _; isplitr; swap; · iexact H4
    ipureintro
    refine (Cert.Box.read_cons _ _ _ _ _ _).trans ?_
    try unfold runF.sl.v62_1
    try unfold runF.sl.v71_1
    try unfold runF.sl.v62
    try unfold runF.sl.v71
    try unfold runF.sl.v74
    try unfold runF.sl.v66
    try unfold runF.sl.v39
    try unfold runF.sl.v45
    try unfold runF.sl.v20
    try unfold runF.sl.H5_1
    try unfold runF.sl.H6_1
    try unfold runF.sl.H7_1
    try unfold runF.sl.H8_1
    try unfold runF.sl.r
    try unfold runF.sl.r_1
    try unfold runF.sl.v27
    try unfold runF.sl.v20
    try unfold runF.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  isplitl [H5]
  · iexists _; isplitr; swap; · iexact H5
    ipureintro
    refine (Cert.Box.read_cons _ _ _ _ _ _).trans ?_
    try unfold runF.sl.v62_1
    try unfold runF.sl.v71_1
    try unfold runF.sl.v62
    try unfold runF.sl.v71
    try unfold runF.sl.v74
    try unfold runF.sl.v66
    try unfold runF.sl.v39
    try unfold runF.sl.v45
    try unfold runF.sl.v20
    try unfold runF.sl.H5_1
    try unfold runF.sl.H6_1
    try unfold runF.sl.H7_1
    try unfold runF.sl.H8_1
    try unfold runF.sl.r
    try unfold runF.sl.r_1
    try unfold runF.sl.v27
    try unfold runF.sl.v20
    try unfold runF.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  isplitl [H6]
  · iexists _; isplitr; swap; · iexact H6
    ipureintro
    refine (Cert.Box.read_cons _ _ _ _ _ _).trans ?_
    try unfold runF.sl.v62_1
    try unfold runF.sl.v71_1
    try unfold runF.sl.v62
    try unfold runF.sl.v71
    try unfold runF.sl.v74
    try unfold runF.sl.v66
    try unfold runF.sl.v39
    try unfold runF.sl.v45
    try unfold runF.sl.v20
    try unfold runF.sl.H5_1
    try unfold runF.sl.H6_1
    try unfold runF.sl.H7_1
    try unfold runF.sl.H8_1
    try unfold runF.sl.r
    try unfold runF.sl.r_1
    try unfold runF.sl.v27
    try unfold runF.sl.v20
    try unfold runF.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  isplitl [H7]
  · iexists _; isplitr; swap; · iexact H7
    ipureintro
    refine (Cert.Box.read_cons _ _ _ _ _ _).trans ?_
    try unfold runF.sl.v62_1
    try unfold runF.sl.v71_1
    try unfold runF.sl.v62
    try unfold runF.sl.v71
    try unfold runF.sl.v74
    try unfold runF.sl.v66
    try unfold runF.sl.v39
    try unfold runF.sl.v45
    try unfold runF.sl.v20
    try unfold runF.sl.H5_1
    try unfold runF.sl.H6_1
    try unfold runF.sl.H7_1
    try unfold runF.sl.H8_1
    try unfold runF.sl.r
    try unfold runF.sl.r_1
    try unfold runF.sl.v27
    try unfold runF.sl.v20
    try unfold runF.sl.H5_1
    simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
    all_goals rfl
  iexists _; isplitr; swap; · iexact H8
  ipureintro
  refine (Cert.Box.read_cons _ _ _ _ _ _).trans ?_
  try unfold runF.sl.v62_1
  try unfold runF.sl.v71_1
  try unfold runF.sl.v62
  try unfold runF.sl.v71
  try unfold runF.sl.v74
  try unfold runF.sl.v66
  try unfold runF.sl.v39
  try unfold runF.sl.v45
  try unfold runF.sl.v20
  try unfold runF.sl.H5_1
  try unfold runF.sl.H6_1
  try unfold runF.sl.H7_1
  try unfold runF.sl.H8_1
  try unfold runF.sl.r
  try unfold runF.sl.r_1
  try unfold runF.sl.v27
  try unfold runF.sl.v20
  try unfold runF.sl.H5_1
  simp only [ld_S1x2048x64, lc_S1x2048x64, ld_S1x64x64, lc_S1x64x64, ld_S64x64, lc_S64x64, ld_S64x1, lc_S64x1, ld_S1x64, lc_S1x64, ld_S1x1x64, lc_S1x1x64, hf0, hf1, hf2, hf3, hf4, hf5, hf6, hf7, hf8]
  all_goals rfl

end Cert.KernelIdeal.Km

end
-- ==== Proof.KmDataKernelIdeal.lean ====
module

public import proofs.«01_k».proof.Proof.KmRunKernelIdeal

@[expose] public section

set_option maxRecDepth 16384

noncomputable section

namespace Cert.KernelIdeal.Km

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions over the point's number -/

/-- The first point of a head. -/
theorem hcond0 (t : Fin cfg0.N) : cond0 (grid0.coords t) ↔ t.val % 40 = 0 := by
  have ht : t.val < 480 := Nat.lt_of_lt_of_eq t.isLt N_0
  have e0 : (grid0.coords t 0).val = t.val / 40 % 12 := Pipeline.Grid.coords_val t 0 (by decide) rfl
  have e1 : (grid0.coords t 1).val = t.val / 4 % 10 := Pipeline.Grid.coords_val t 1 (by decide) rfl
  have e2 : (grid0.coords t 2).val = t.val / 1 % 4 := Pipeline.Grid.coords_val t 2 (by decide) rfl
  simp only [cond0, e0, e1, e2]
  word_cmp
/-- The first point of a head's last iteration. -/
theorem hcond1 (t : Fin cfg0.N) : cond1 (grid0.coords t) ↔ t.val % 40 = 36 := by
  have ht : t.val < 480 := Nat.lt_of_lt_of_eq t.isLt N_0
  have e0 : (grid0.coords t 0).val = t.val / 40 % 12 := Pipeline.Grid.coords_val t 0 (by decide) rfl
  have e1 : (grid0.coords t 1).val = t.val / 4 % 10 := Pipeline.Grid.coords_val t 1 (by decide) rfl
  have e2 : (grid0.coords t 2).val = t.val / 1 % 4 := Pipeline.Grid.coords_val t 2 (by decide) rfl
  simp only [cond1, e0, e1, e2]
  word_cmp
/-- A point of the last iteration. -/
theorem hcond2 (t : Fin cfg0.N) : cond2 (grid0.coords t) ↔ t.val / 4 % 10 = 9 := by
  have ht : t.val < 480 := Nat.lt_of_lt_of_eq t.isLt N_0
  have e0 : (grid0.coords t 0).val = t.val / 40 % 12 := Pipeline.Grid.coords_val t 0 (by decide) rfl
  have e1 : (grid0.coords t 1).val = t.val / 4 % 10 := Pipeline.Grid.coords_val t 1 (by decide) rfl
  have e2 : (grid0.coords t 2).val = t.val / 1 % 4 := Pipeline.Grid.coords_val t 2 (by decide) rfl
  simp only [cond2,k0_cond3, e0, e1, e2]
  word_cmp
/-- A point of the last iteration. -/
theorem hcond3 (t : Fin cfg0.N) : cond3 (grid0.coords t) ↔ t.val / 4 % 10 = 9 := by
  have ht : t.val < 480 := Nat.lt_of_lt_of_eq t.isLt N_0
  have e0 : (grid0.coords t 0).val = t.val / 40 % 12 := Pipeline.Grid.coords_val t 0 (by decide) rfl
  have e1 : (grid0.coords t 1).val = t.val / 4 % 10 := Pipeline.Grid.coords_val t 1 (by decide) rfl
  have e2 : (grid0.coords t 2).val = t.val / 1 % 4 := Pipeline.Grid.coords_val t 2 (by decide) rfl
  simp only [cond3, e0, e1, e2]
  word_cmp
/-- The last tile of an iteration. -/
theorem hcond4 (t : Fin cfg0.N) : cond4 (grid0.coords t) ↔ t.val % 4 = 3 := by
  have ht : t.val < 480 := Nat.lt_of_lt_of_eq t.isLt N_0
  have e0 : (grid0.coords t 0).val = t.val / 40 % 12 := Pipeline.Grid.coords_val t 0 (by decide) rfl
  have e1 : (grid0.coords t 1).val = t.val / 4 % 10 := Pipeline.Grid.coords_val t 1 (by decide) rfl
  have e2 : (grid0.coords t 2).val = t.val / 1 % 4 := Pipeline.Grid.coords_val t 2 (by decide) rfl
  simp only [cond4, e0, e1, e2]
  word_cmp
/-- The last point of a head. -/
theorem hcond5 (t : Fin cfg0.N) : cond5 (grid0.coords t) ↔ t.val % 40 = 39 := by
  have ht : t.val < 480 := Nat.lt_of_lt_of_eq t.isLt N_0
  have e0 : (grid0.coords t 0).val = t.val / 40 % 12 := Pipeline.Grid.coords_val t 0 (by decide) rfl
  have e1 : (grid0.coords t 1).val = t.val / 4 % 10 := Pipeline.Grid.coords_val t 1 (by decide) rfl
  have e2 : (grid0.coords t 2).val = t.val / 1 % 4 := Pipeline.Grid.coords_val t 2 (by decide) rfl
  simp only [cond5,k0_cond6, e0, e1, e2]
  word_cmp

/-! ## Where the two outputs are written -/

/-- Before the last iteration no distance is written. -/
theorem idle_3 (t : Fin cfg0.N) (h : ¬t.val / 4 % 10 = 9) : cfg0.idle 3 (grid0.coords t) = true :=
  (by decide +kernel : ∀ t : Fin cfg0.N, ¬t.val / 4 % 10 = 9 → cfg0.idle 3 (grid0.coords t) = true) t h
/-- In the last iteration every tile's distances are written. -/
theorem live_3 (t : Fin cfg0.N) (h : t.val / 4 % 10 = 9) : cfg0.idle 3 (grid0.coords t) = false :=
  (by decide +kernel : ∀ t : Fin cfg0.N, t.val / 4 % 10 = 9 → cfg0.idle 3 (grid0.coords t) = false) t h
/-- Before the last iteration nothing of the distances goes back. -/
theorem noFlush_3 (t : Fin cfg0.N) (h : ¬t.val / 4 % 10 = 9) : (cfg0.win 3).flush t = false :=
  (by decide +kernel : ∀ t : Fin cfg0.N, ¬t.val / 4 % 10 = 9 → (cfg0.win 3).flush t = false) t h
/-- The loss lanes are written at a head's last point only. -/
theorem idle_4 (t : Fin cfg0.N) (h : ¬t.val % 40 = 39) : cfg0.idle 4 (grid0.coords t) = true :=
  (by decide +kernel : ∀ t : Fin cfg0.N, ¬t.val % 40 = 39 → cfg0.idle 4 (grid0.coords t) = true) t h
/-- At a head's last point the loss lanes are written. -/
theorem live_4 (t : Fin cfg0.N) (h : t.val % 40 = 39) : cfg0.idle 4 (grid0.coords t) = false :=
  (by decide +kernel : ∀ t : Fin cfg0.N, t.val % 40 = 39 → cfg0.idle 4 (grid0.coords t) = false) t h
/-- Before a head's last point nothing of the loss lanes goes back. -/
theorem noFlush_4 (t : Fin cfg0.N) (h : ¬t.val % 40 = 39) : (cfg0.win 4).flush t = false :=
  (by decide +kernel : ∀ t : Fin cfg0.N, ¬t.val % 40 = 39 → (cfg0.win 4).flush t = false) t h

/-- Window 0's current staging buffer. -/
abbrev ms0 (t : Fin cfg0.N) : Memref sig .tc .vmem S1x2048x64 .f32 := win0_0.stage (cfg0.slots t 0)
/-- It is a whole buffer. -/
abbrev hs0 (t : Fin cfg0.N) : (ms0 t).IsWhole := hstage0_0 ((cfg0.slots t 0).cast nbuf0_0)
/-- Window 1's current staging buffer. -/
abbrev ms1 (t : Fin cfg0.N) : Memref sig .tc .vmem S1x64x64 .f32 := win0_1.stage (cfg0.slots t 1)
/-- It is a whole buffer. -/
abbrev hs1 (t : Fin cfg0.N) : (ms1 t).IsWhole := hstage0_1 ((cfg0.slots t 1).cast nbuf0_1)
/-- Window 2's current staging buffer. -/
abbrev ms2 (t : Fin cfg0.N) : Memref sig .tc .vmem S1x64x64 .f32 := win0_2.stage (cfg0.slots t 2)
/-- It is a whole buffer. -/
abbrev hs2 (t : Fin cfg0.N) : (ms2 t).IsWhole := hstage0_2 ((cfg0.slots t 2).cast nbuf0_2)
/-- Window 3's current staging buffer. -/
abbrev ms3 (t : Fin cfg0.N) : Memref sig .tc .vmem S1x2048x64 .f32 := win0_3.stage (cfg0.slots t 3)
/-- It is a whole buffer. -/
abbrev hs3 (t : Fin cfg0.N) : (ms3 t).IsWhole := hstage0_3 ((cfg0.slots t 3).cast nbuf0_3)
/-- Window 4's current staging buffer. -/
abbrev ms4 (t : Fin cfg0.N) : Memref sig .tc .vmem S1x1x64 .f32 := win0_4.stage (cfg0.slots t 4)
/-- It is a whole buffer. -/
abbrev hs4 (t : Fin cfg0.N) : (ms4 t).IsWhole := hstage0_4 ((cfg0.slots t 4).cast nbuf0_4)
/-- Scratch buffer 0. -/
abbrev sc0 : Memref sig .tc .vmem S64x64 .f32 := Memref.whole cc0_scratch0
/-- Scratch buffer 1. -/
abbrev sc1 : Memref sig .tc .vmem S64x64 .f32 := Memref.whole cc0_scratch1
/-- Scratch buffer 2. -/
abbrev sc2 : Memref sig .tc .vmem S64x1 .f32 := Memref.whole cc0_scratch2
/-- Scratch buffer 3. -/
abbrev sc3 : Memref sig .tc .vmem S1x64 .f32 := Memref.whole cc0_scratch3

/-- What the launch hands the region: the four scratch buffers at some contents, and the generator register. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The state the points build -/

/-- Means, running sums, running counts, running loss lanes. -/
structure St (F : FTy → Type) where
  mn : Vec F S64x64 .f32
  sm : Vec F S64x64 .f32
  bn : Vec F S64x1 .f32
  l : Vec F S1x64 .f32

/-- One point's effect on the state, from the point's number and its three input blocks. -/
def adv (t : ℕ) (x : Vec F S1x2048x64 .f32) (x1 x2 : Vec F S1x64x64 .f32) (s : St F) : St F :=
  if t % 40 = 0 then ⟨k0_pay10 x1, nSum x (k0_pay10 x1) k0_pay11, nBins x (k0_pay10 x1) k0_pay12, s.l⟩
  else if t / 4 % 10 = 9 then
    if t % 40 = 36 then ⟨s.mn, nSum x s.mn s.sm, nBins x s.mn s.bn, nLoss x s.mn x2 k0_pay13⟩
    else if t % 4 = 3 then ⟨k0_pay5 (nSum x s.mn s.sm) (nBins x s.mn s.bn) s.mn, k0_pay6, k0_pay7, nLoss x s.mn x2 s.l⟩
    else ⟨s.mn, nSum x s.mn s.sm, nBins x s.mn s.bn, nLoss x s.mn x2 s.l⟩
  else if t % 4 = 3 then ⟨k0_pay5 (nSum x s.mn s.sm) (nBins x s.mn s.bn) s.mn, k0_pay6, k0_pay7, s.l⟩
  else ⟨s.mn, nSum x s.mn s.sm, nBins x s.mn s.bn, s.l⟩

section Adv
variable (t : ℕ) (x : Vec F S1x2048x64 .f32) (x1 x2 : Vec F S1x64x64 .f32) (s : St F)
/-- The first point of a head. -/
theorem advA (h0 : t % 40 = 0) : adv t x x1 x2 s = ⟨k0_pay10 x1, nSum x (k0_pay10 x1) k0_pay11, nBins x (k0_pay10 x1) k0_pay12, s.l⟩ := by
  unfold adv; rw [if_pos h0]
/-- A tile inside an iteration. -/
theorem advB (h0 : ¬t % 40 = 0) (h2 : ¬t / 4 % 10 = 9) (h1 : ¬t % 40 = 36) (h4 : ¬t % 4 = 3) : adv t x x1 x2 s = ⟨s.mn, nSum x s.mn s.sm, nBins x s.mn s.bn, s.l⟩ := by
  unfold adv; rw [if_neg h0, if_neg h2, if_neg h4]
/-- The last tile of an iteration before the last. -/
theorem advC (h0 : ¬t % 40 = 0) (h2 : ¬t / 4 % 10 = 9) (h1 : ¬t % 40 = 36) (h4 : t % 4 = 3) : adv t x x1 x2 s = ⟨k0_pay5 (nSum x s.mn s.sm) (nBins x s.mn s.bn) s.mn, k0_pay6, k0_pay7, s.l⟩ := by
  unfold adv; rw [if_neg h0, if_neg h2, if_pos h4]
/-- The first tile of the last iteration. -/
theorem advD (h0 : ¬t % 40 = 0) (h2 : t / 4 % 10 = 9) (h1 : t % 40 = 36) (h4 : ¬t % 4 = 3) : adv t x x1 x2 s = ⟨s.mn, nSum x s.mn s.sm, nBins x s.mn s.bn, nLoss x s.mn x2 k0_pay13⟩ := by
  unfold adv; rw [if_neg h0, if_pos h2, if_pos h1]
/-- A middle tile of the last iteration. -/
theorem advE (h0 : ¬t % 40 = 0) (h2 : t / 4 % 10 = 9) (h1 : ¬t % 40 = 36) (h4 : ¬t % 4 = 3) : adv t x x1 x2 s = ⟨s.mn, nSum x s.mn s.sm, nBins x s.mn s.bn, nLoss x s.mn x2 s.l⟩ := by
  unfold adv; rw [if_neg h0, if_pos h2, if_neg h1, if_neg h4]
/-- The last tile of the last iteration. -/
theorem advF (h0 : ¬t % 40 = 0) (h2 : t / 4 % 10 = 9) (h1 : ¬t % 40 = 36) (h4 : t % 4 = 3) : adv t x x1 x2 s = ⟨k0_pay5 (nSum x s.mn s.sm) (nBins x s.mn s.bn) s.mn, k0_pay6, k0_pay7, nLoss x s.mn x2 s.l⟩ := by
  unfold adv; rw [if_neg h0, if_pos h2, if_neg h1, if_pos h4]
end Adv

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The state after the first `n` points. -/
def st (c : Dev nD) : ℕ → St F
  | 0 => ⟨k0_pay6, k0_pay6, k0_pay7, k0_pay13⟩
  | n + 1 => if h : n < cfg0.N then adv n (iblk V c 0 ⟨n, h⟩) (iblk V c 1 ⟨n, h⟩) (iblk V c 2 ⟨n, h⟩) (st c n) else st c n

/-- One more point. -/
theorem st_succ (c : Dev nD) (n : ℕ) (h : n < cfg0.N) :
    st V c (n + 1) = adv n (iblk V c 0 ⟨n, h⟩) (iblk V c 1 ⟨n, h⟩) (iblk V c 2 ⟨n, h⟩) (st V c n) := by
  rw [st, dif_pos h]

/-- What the scratch holds before point `n`: the state, its loss lanes only inside a last iteration. -/
def Phi (c : Dev nD) (n : ℕ) : sProp 𝕄 :=
  iprop(∃ mn sm bn l, ⌜(¬n % 40 = 0 → mn = (st V c n).mn ∧ sm = (st V c n).sm ∧ bn = (st V c n).bn) ∧ (36 < n % 40 → l = (st V c n).l)⌝
    ∗ owns (c : Thread nD τ) sc0 fullShare mn ∗ owns (c : Thread nD τ) sc1 fullShare sm ∗ owns (c : Thread nD τ) sc2 fullShare bn ∗ owns (c : Thread nD τ) sc3 fullShare l
    ∗ (∃ r, prngReg c r))

/-- The region's proof data. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay15 (iblk V c 0 t) (st V c t.val).mn
    | ⟨4, _⟩ => k0_pay8 (st V c (t.val + 1)).l
  Φ t := Phi V c t.val
  q _ := fullShare
  owed _ := 0

/-- The arrays are those the region finds. -/
theorem A_eq (c : Dev nD) (w : Fin cfg0.W) : (dat V c).A w = V c (Pipeline.arrRef spec0 w) := by
  dsimp only [dat]

/-- What the body leaves in window 0's staging buffer. -/
theorem after_0 (c : Dev nD) (t : Fin cfg0.N) : (dat V c).after 0 t = iblk V c 0 t := by dsimp only [dat]
/-- What the body leaves in window 1's staging buffer. -/
theorem after_1 (c : Dev nD) (t : Fin cfg0.N) : (dat V c).after 1 t = iblk V c 1 t := by dsimp only [dat]
/-- What the body leaves in window 2's staging buffer. -/
theorem after_2 (c : Dev nD) (t : Fin cfg0.N) : (dat V c).after 2 t = iblk V c 2 t := by dsimp only [dat]
/-- What the body leaves in window 3's staging buffer. -/
theorem after_3 (c : Dev nD) (t : Fin cfg0.N) : (dat V c).after 3 t = k0_pay15 (iblk V c 0 t) (st V c t.val).mn := by dsimp only [dat]
/-- What the body leaves in window 4's staging buffer. -/
theorem after_4 (c : Dev nD) (t : Fin cfg0.N) : (dat V c).after 4 t = k0_pay8 (st V c (t.val + 1)).l := by dsimp only [dat]

/-- Input window 0's staging buffer holds its block at every point. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's staging buffer holds its block at every point. -/
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's staging buffer holds its block at every point. -/
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is given at a point. -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- What the body gives back at a point. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
/-- The body at a point of case A. -/
theorem soundA (c : Dev nD) (t : Fin cfg0.N) (h0 : t.val % 40 = 0) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) from rfl, show (dat V c).Φ t.castSucc = Phi V c t.val from rfl]
  unfold Phi
  have hN : t.val < 480 := lt_of_lt_of_eq t.isLt (show cfg0.N = 480 from N_0)
  have h1 : ¬t.val % 40 = 36 := by omega
  have h2 : ¬t.val / 4 % 10 = 9 := by omega
  have h4 : ¬t.val % 4 = 3 := by omega
  have h5 : ¬t.val % 40 = 39 := by omega
  rw [show (dat V c).leavesExact 0 t = owns (c : Thread nD τ) (ms0 t) fullShare ((dat V c).after 0 t) from by
      unfold Dat.leavesExact; rw [show cfg0.idle 0 (grid0.coords t) = false from rfl], after_0]
  rw [show (dat V c).leavesExact 1 t = owns (c : Thread nD τ) (ms1 t) fullShare ((dat V c).after 1 t) from by
      unfold Dat.leavesExact; rw [show cfg0.idle 1 (grid0.coords t) = false from rfl], after_1]
  rw [show (dat V c).leavesExact 2 t = owns (c : Thread nD τ) (ms2 t) fullShare ((dat V c).after 2 t) from by
      unfold Dat.leavesExact; rw [show cfg0.idle 2 (grid0.coords t) = false from rfl], after_2]
  rw [Dat.leavesExact_idle (dat V c) 3 t (idle_3 t h2) (noFlush_3 t h2)]
  rw [Dat.leavesExact_idle (dat V c) 4 t (idle_4 t h5) (noFlush_4 t h5)]
  iintro ⟨⟨%mn, %sm, %bn, %l, %hok, HS0, HS1, HS2, HS3, Hg⟩, Ho, ⟨%d0, H0⟩, ⟨%d1, H1⟩, ⟨%d2, H2⟩, ⟨%d3, H3⟩, ⟨%d4, H4⟩⟩
  have hst := st_succ V c t.val t.isLt
  have hadv : adv t.val (iblk V c 0 t) (iblk V c 1 t) (iblk V c 2 t) (st V c t.val) = _ := advA t.val _ _ _ _ h0
  rw [hadv] at hst
  iapply (runA c (grid0.coords t) _ (hs0 t) _ (hs1 t) _ (hs2 t) _ (hs3 t) _ (hs4 t) sc0 (Memref.isWhole_whole _) sc1 (Memref.isWhole_whole _) sc2 (Memref.isWhole_whole _) sc3 (Memref.isWhole_whole _) ((hcond0 t).mpr h0) (fun h => h1 ((hcond1 t).mp h)) (fun h => h2 ((hcond2 t).mp h)) (fun h => h2 ((hcond3 t).mp h)) (fun h => h4 ((hcond4 t).mp h)) (fun h => h5 ((hcond5 t).mp h)) (iblk V c 0 t) (iblk V c 1 t) (iblk V c 2 t) _ _ _ _ _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · iexists _; iexists _; iexists _; iexists _
    isplitr; swap
    · isplitl [HS0]; · iexact HS0
      isplitl [HS1]; · iexact HS1
      isplitl [HS2]; · iexact HS2
      isplitl [HS3]; · iexact HS3
      iexact Hg
    ipureintro
    exact ⟨fun _ => by rw [hst]; exact ⟨rfl, rfl, rfl⟩, fun h => absurd h (by omega)⟩
  isplitl [Ho]; · iexact Ho
  isplitl [H0]; · iexact H0
  isplitl [H1]; · iexact H1
  isplitl [H2]; · iexact H2
  isplitl [H3]; · iexists _; iexact H3
  iexists _; iexact H4

set_option maxHeartbeats 4000000 in
/-- The body at a point of case B. -/
theorem soundB (c : Dev nD) (t : Fin cfg0.N) (h0 : ¬t.val % 40 = 0) (h2 : ¬t.val / 4 % 10 = 9) (h4 : ¬t.val % 4 = 3) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) from rfl, show (dat V c).Φ t.castSucc = Phi V c t.val from rfl]
  unfold Phi
  have hN : t.val < 480 := lt_of_lt_of_eq t.isLt (show cfg0.N = 480 from N_0)
  have h1 : ¬t.val % 40 = 36 := by omega
  have h5 : ¬t.val % 40 = 39 := by omega
  rw [show (dat V c).leavesExact 0 t = owns (c : Thread nD τ) (ms0 t) fullShare ((dat V c).after 0 t) from by
      unfold Dat.leavesExact; rw [show cfg0.idle 0 (grid0.coords t) = false from rfl], after_0]
  rw [show (dat V c).leavesExact 1 t = owns (c : Thread nD τ) (ms1 t) fullShare ((dat V c).after 1 t) from by
      unfold Dat.leavesExact; rw [show cfg0.idle 1 (grid0.coords t) = false from rfl], after_1]
  rw [show (dat V c).leavesExact 2 t = owns (c : Thread nD τ) (ms2 t) fullShare ((dat V c).after 2 t) from by
      unfold Dat.leavesExact; rw [show cfg0.idle 2 (grid0.coords t) = false from rfl], after_2]
  rw [Dat.leavesExact_idle (dat V c) 3 t (idle_3 t h2) (noFlush_3 t h2)]
  rw [Dat.leavesExact_idle (dat V c) 4 t (idle_4 t h5) (noFlush_4 t h5)]
  iintro ⟨⟨%mn, %sm, %bn, %l, %hok, HS0, HS1, HS2, HS3, Hg⟩, Ho, ⟨%d0, H0⟩, ⟨%d1, H1⟩, ⟨%d2, H2⟩, ⟨%d3, H3⟩, ⟨%d4, H4⟩⟩
  have hst := st_succ V c t.val t.isLt
  have hadv : adv t.val (iblk V c 0 t) (iblk V c 1 t) (iblk V c 2 t) (st V c t.val) = _ := advB t.val _ _ _ _ h0 h2 h1 h4
  rw [hadv] at hst
  obtain ⟨rfl, rfl, rfl⟩ := hok.1 h0
  iapply (runB c (grid0.coords t) _ (hs0 t) _ (hs1 t) _ (hs2 t) _ (hs3 t) _ (hs4 t) sc0 (Memref.isWhole_whole _) sc1 (Memref.isWhole_whole _) sc2 (Memref.isWhole_whole _) sc3 (Memref.isWhole_whole _) (fun h => h0 ((hcond0 t).mp h)) (fun h => h1 ((hcond1 t).mp h)) (fun h => h2 ((hcond2 t).mp h)) (fun h => h2 ((hcond3 t).mp h)) (fun h => h4 ((hcond4 t).mp h)) (fun h => h5 ((hcond5 t).mp h)) (iblk V c 0 t) (iblk V c 1 t) (iblk V c 2 t) _ _ _ _ _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · iexists _; iexists _; iexists _; iexists _
    isplitr; swap
    · isplitl [HS0]; · iexact HS0
      isplitl [HS1]; · iexact HS1
      isplitl [HS2]; · iexact HS2
      isplitl [HS3]; · iexact HS3
      iexact Hg
    ipureintro
    exact ⟨fun _ => by rw [hst]; exact ⟨rfl, rfl, rfl⟩, fun h => absurd h (by omega)⟩
  isplitl [Ho]; · iexact Ho
  isplitl [H0]; · iexact H0
  isplitl [H1]; · iexact H1
  isplitl [H2]; · iexact H2
  isplitl [H3]; · iexists _; iexact H3
  iexists _; iexact H4

set_option maxHeartbeats 4000000 in
/-- The body at a point of case C. -/
theorem soundC (c : Dev nD) (t : Fin cfg0.N) (h0 : ¬t.val % 40 = 0) (h2 : ¬t.val / 4 % 10 = 9) (h4 : t.val % 4 = 3) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) from rfl, show (dat V c).Φ t.castSucc = Phi V c t.val from rfl]
  unfold Phi
  have hN : t.val < 480 := lt_of_lt_of_eq t.isLt (show cfg0.N = 480 from N_0)
  have h1 : ¬t.val % 40 = 36 := by omega
  have h5 : ¬t.val % 40 = 39 := by omega
  rw [show (dat V c).leavesExact 0 t = owns (c : Thread nD τ) (ms0 t) fullShare ((dat V c).after 0 t) from by
      unfold Dat.leavesExact; rw [show cfg0.idle 0 (grid0.coords t) = false from rfl], after_0]
  rw [show (dat V c).leavesExact 1 t = owns (c : Thread nD τ) (ms1 t) fullShare ((dat V c).after 1 t) from by
      unfold Dat.leavesExact; rw [show cfg0.idle 1 (grid0.coords t) = false from rfl], after_1]
  rw [show (dat V c).leavesExact 2 t = owns (c : Thread nD τ) (ms2 t) fullShare ((dat V c).after 2 t) from by
      unfold Dat.leavesExact; rw [show cfg0.idle 2 (grid0.coords t) = false from rfl], after_2]
  rw [Dat.leavesExact_idle (dat V c) 3 t (idle_3 t h2) (noFlush_3 t h2)]
  rw [Dat.leavesExact_idle (dat V c) 4 t (idle_4 t h5) (noFlush_4 t h5)]
  iintro ⟨⟨%mn, %sm, %bn, %l, %hok, HS0, HS1, HS2, HS3, Hg⟩, Ho, ⟨%d0, H0⟩, ⟨%d1, H1⟩, ⟨%d2, H2⟩, ⟨%d3, H3⟩, ⟨%d4, H4⟩⟩
  have hst := st_succ V c t.val t.isLt
  have hadv : adv t.val (iblk V c 0 t) (iblk V c 1 t) (iblk V c 2 t) (st V c t.val) = _ := advC t.val _ _ _ _ h0 h2 h1 h4
  rw [hadv] at hst
  obtain ⟨rfl, rfl, rfl⟩ := hok.1 h0
  iapply (runC c (grid0.coords t) _ (hs0 t) _ (hs1 t) _ (hs2 t) _ (hs3 t) _ (hs4 t) sc0 (Memref.isWhole_whole _) sc1 (Memref.isWhole_whole _) sc2 (Memref.isWhole_whole _) sc3 (Memref.isWhole_whole _) (fun h => h0 ((hcond0 t).mp h)) (fun h => h1 ((hcond1 t).mp h)) (fun h => h2 ((hcond2 t).mp h)) (fun h => h2 ((hcond3 t).mp h)) ((hcond4 t).mpr h4) (fun h => h5 ((hcond5 t).mp h)) (iblk V c 0 t) (iblk V c 1 t) (iblk V c 2 t) _ _ _ _ _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · iexists _; iexists _; iexists _; iexists _
    isplitr; swap
    · isplitl [HS0]; · iexact HS0
      isplitl [HS1]; · iexact HS1
      isplitl [HS2]; · iexact HS2
      isplitl [HS3]; · iexact HS3
      iexact Hg
    ipureintro
    exact ⟨fun _ => by rw [hst]; exact ⟨rfl, rfl, rfl⟩, fun h => absurd h (by omega)⟩
  isplitl [Ho]; · iexact Ho
  isplitl [H0]; · iexact H0
  isplitl [H1]; · iexact H1
  isplitl [H2]; · iexact H2
  isplitl [H3]; · iexists _; iexact H3
  iexists _; iexact H4

set_option maxHeartbeats 4000000 in
/-- The body at a point of case D. -/
theorem soundD (c : Dev nD) (t : Fin cfg0.N) (h0 : ¬t.val % 40 = 0) (h2 : t.val / 4 % 10 = 9) (h1 : t.val % 40 = 36) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) from rfl, show (dat V c).Φ t.castSucc = Phi V c t.val from rfl]
  unfold Phi
  have hN : t.val < 480 := lt_of_lt_of_eq t.isLt (show cfg0.N = 480 from N_0)
  have h4 : ¬t.val % 4 = 3 := by omega
  have h5 : ¬t.val % 40 = 39 := by omega
  rw [show (dat V c).leavesExact 0 t = owns (c : Thread nD τ) (ms0 t) fullShare ((dat V c).after 0 t) from by
      unfold Dat.leavesExact; rw [show cfg0.idle 0 (grid0.coords t) = false from rfl], after_0]
  rw [show (dat V c).leavesExact 1 t = owns (c : Thread nD τ) (ms1 t) fullShare ((dat V c).after 1 t) from by
      unfold Dat.leavesExact; rw [show cfg0.idle 1 (grid0.coords t) = false from rfl], after_1]
  rw [show (dat V c).leavesExact 2 t = owns (c : Thread nD τ) (ms2 t) fullShare ((dat V c).after 2 t) from by
      unfold Dat.leavesExact; rw [show cfg0.idle 2 (grid0.coords t) = false from rfl], after_2]
  rw [show (dat V c).leavesExact 3 t = owns (c : Thread nD τ) (ms3 t) fullShare ((dat V c).after 3 t) from by
      unfold Dat.leavesExact; rw [live_3 t h2], after_3]
  rw [Dat.leavesExact_idle (dat V c) 4 t (idle_4 t h5) (noFlush_4 t h5)]
  iintro ⟨⟨%mn, %sm, %bn, %l, %hok, HS0, HS1, HS2, HS3, Hg⟩, Ho, ⟨%d0, H0⟩, ⟨%d1, H1⟩, ⟨%d2, H2⟩, ⟨%d3, H3⟩, ⟨%d4, H4⟩⟩
  have hst := st_succ V c t.val t.isLt
  have hadv : adv t.val (iblk V c 0 t) (iblk V c 1 t) (iblk V c 2 t) (st V c t.val) = _ := advD t.val _ _ _ _ h0 h2 h1 h4
  rw [hadv] at hst
  obtain ⟨rfl, rfl, rfl⟩ := hok.1 h0
  iapply (runD c (grid0.coords t) _ (hs0 t) _ (hs1 t) _ (hs2 t) _ (hs3 t) _ (hs4 t) sc0 (Memref.isWhole_whole _) sc1 (Memref.isWhole_whole _) sc2 (Memref.isWhole_whole _) sc3 (Memref.isWhole_whole _) (fun h => h0 ((hcond0 t).mp h)) ((hcond1 t).mpr h1) ((hcond2 t).mpr h2) ((hcond3 t).mpr h2) (fun h => h4 ((hcond4 t).mp h)) (fun h => h5 ((hcond5 t).mp h)) (iblk V c 0 t) (iblk V c 1 t) (iblk V c 2 t) _ _ _ _ _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · iexists _; iexists _; iexists _; iexists _
    isplitr; swap
    · isplitl [HS0]; · iexact HS0
      isplitl [HS1]; · iexact HS1
      isplitl [HS2]; · iexact HS2
      isplitl [HS3]; · iexact HS3
      iexact Hg
    ipureintro
    exact ⟨fun _ => by rw [hst]; exact ⟨rfl, rfl, rfl⟩, fun _ => by rw [hst]⟩
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a point of case E. -/
theorem soundE (c : Dev nD) (t : Fin cfg0.N) (h0 : ¬t.val % 40 = 0) (h2 : t.val / 4 % 10 = 9) (h1 : ¬t.val % 40 = 36) (h4 : ¬t.val % 4 = 3) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) from rfl, show (dat V c).Φ t.castSucc = Phi V c t.val from rfl]
  unfold Phi
  have hN : t.val < 480 := lt_of_lt_of_eq t.isLt (show cfg0.N = 480 from N_0)
  have h5 : ¬t.val % 40 = 39 := by omega
  rw [show (dat V c).leavesExact 0 t = owns (c : Thread nD τ) (ms0 t) fullShare ((dat V c).after 0 t) from by
      unfold Dat.leavesExact; rw [show cfg0.idle 0 (grid0.coords t) = false from rfl], after_0]
  rw [show (dat V c).leavesExact 1 t = owns (c : Thread nD τ) (ms1 t) fullShare ((dat V c).after 1 t) from by
      unfold Dat.leavesExact; rw [show cfg0.idle 1 (grid0.coords t) = false from rfl], after_1]
  rw [show (dat V c).leavesExact 2 t = owns (c : Thread nD τ) (ms2 t) fullShare ((dat V c).after 2 t) from by
      unfold Dat.leavesExact; rw [show cfg0.idle 2 (grid0.coords t) = false from rfl], after_2]
  rw [show (dat V c).leavesExact 3 t = owns (c : Thread nD τ) (ms3 t) fullShare ((dat V c).after 3 t) from by
      unfold Dat.leavesExact; rw [live_3 t h2], after_3]
  rw [Dat.leavesExact_idle (dat V c) 4 t (idle_4 t h5) (noFlush_4 t h5)]
  iintro ⟨⟨%mn, %sm, %bn, %l, %hok, HS0, HS1, HS2, HS3, Hg⟩, Ho, ⟨%d0, H0⟩, ⟨%d1, H1⟩, ⟨%d2, H2⟩, ⟨%d3, H3⟩, ⟨%d4, H4⟩⟩
  have hst := st_succ V c t.val t.isLt
  have hadv : adv t.val (iblk V c 0 t) (iblk V c 1 t) (iblk V c 2 t) (st V c t.val) = _ := advE t.val _ _ _ _ h0 h2 h1 h4
  rw [hadv] at hst
  obtain ⟨rfl, rfl, rfl⟩ := hok.1 h0
  obtain rfl := hok.2 (by omega)
  iapply (runE c (grid0.coords t) _ (hs0 t) _ (hs1 t) _ (hs2 t) _ (hs3 t) _ (hs4 t) sc0 (Memref.isWhole_whole _) sc1 (Memref.isWhole_whole _) sc2 (Memref.isWhole_whole _) sc3 (Memref.isWhole_whole _) (fun h => h0 ((hcond0 t).mp h)) (fun h => h1 ((hcond1 t).mp h)) ((hcond2 t).mpr h2) ((hcond3 t).mpr h2) (fun h => h4 ((hcond4 t).mp h)) (fun h => h5 ((hcond5 t).mp h)) (iblk V c 0 t) (iblk V c 1 t) (iblk V c 2 t) _ _ _ _ _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · iexists _; iexists _; iexists _; iexists _
    isplitr; swap
    · isplitl [HS0]; · iexact HS0
      isplitl [HS1]; · iexact HS1
      isplitl [HS2]; · iexact HS2
      isplitl [HS3]; · iexact HS3
      iexact Hg
    ipureintro
    exact ⟨fun _ => by rw [hst]; exact ⟨rfl, rfl, rfl⟩, fun _ => by rw [hst]⟩
  isplitl [Ho]; · iexact Ho
  isplitl [H0]; · iexact H0
  isplitl [H1]; · iexact H1
  isplitl [H2]; · iexact H2
  isplitl [H3]; · iexact H3
  iexists _; iexact H4

set_option maxHeartbeats 4000000 in
/-- The body at a point of case F. -/
theorem soundF (c : Dev nD) (t : Fin cfg0.N) (h0 : ¬t.val % 40 = 0) (h2 : t.val / 4 % 10 = 9) (h1 : ¬t.val % 40 = 36) (h4 : t.val % 4 = 3) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) from rfl, show (dat V c).Φ t.castSucc = Phi V c t.val from rfl]
  unfold Phi
  have hN : t.val < 480 := lt_of_lt_of_eq t.isLt (show cfg0.N = 480 from N_0)
  have h5 : t.val % 40 = 39 := by omega
  rw [show (dat V c).leavesExact 0 t = owns (c : Thread nD τ) (ms0 t) fullShare ((dat V c).after 0 t) from by
      unfold Dat.leavesExact; rw [show cfg0.idle 0 (grid0.coords t) = false from rfl], after_0]
  rw [show (dat V c).leavesExact 1 t = owns (c : Thread nD τ) (ms1 t) fullShare ((dat V c).after 1 t) from by
      unfold Dat.leavesExact; rw [show cfg0.idle 1 (grid0.coords t) = false from rfl], after_1]
  rw [show (dat V c).leavesExact 2 t = owns (c : Thread nD τ) (ms2 t) fullShare ((dat V c).after 2 t) from by
      unfold Dat.leavesExact; rw [show cfg0.idle 2 (grid0.coords t) = false from rfl], after_2]
  rw [show (dat V c).leavesExact 3 t = owns (c : Thread nD τ) (ms3 t) fullShare ((dat V c).after 3 t) from by
      unfold Dat.leavesExact; rw [live_3 t h2], after_3]
  rw [show (dat V c).leavesExact 4 t = owns (c : Thread nD τ) (ms4 t) fullShare ((dat V c).after 4 t) from by
      unfold Dat.leavesExact; rw [live_4 t h5], after_4]
  iintro ⟨⟨%mn, %sm, %bn, %l, %hok, HS0, HS1, HS2, HS3, Hg⟩, Ho, ⟨%d0, H0⟩, ⟨%d1, H1⟩, ⟨%d2, H2⟩, ⟨%d3, H3⟩, ⟨%d4, H4⟩⟩
  have hst := st_succ V c t.val t.isLt
  have hadv : adv t.val (iblk V c 0 t) (iblk V c 1 t) (iblk V c 2 t) (st V c t.val) = _ := advF t.val _ _ _ _ h0 h2 h1 h4
  rw [hadv] at hst
  obtain ⟨rfl, rfl, rfl⟩ := hok.1 h0
  obtain rfl := hok.2 (by omega)
  iapply (runF c (grid0.coords t) _ (hs0 t) _ (hs1 t) _ (hs2 t) _ (hs3 t) _ (hs4 t) sc0 (Memref.isWhole_whole _) sc1 (Memref.isWhole_whole _) sc2 (Memref.isWhole_whole _) sc3 (Memref.isWhole_whole _) (fun h => h0 ((hcond0 t).mp h)) (fun h => h1 ((hcond1 t).mp h)) ((hcond2 t).mpr h2) ((hcond3 t).mpr h2) ((hcond4 t).mpr h4) ((hcond5 t).mpr h5) (iblk V c 0 t) (iblk V c 1 t) (iblk V c 2 t) _ _ _ _ _ _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, HS0, HS1, HS2, HS3⟩
  isplitl [HS0 HS1 HS2 HS3 Hg]
  · iexists _; iexists _; iexists _; iexists _
    isplitr; swap
    · isplitl [HS0]; · iexact HS0
      isplitl [HS1]; · iexact HS1
      isplitl [HS2]; · iexact HS2
      isplitl [HS3]; · iexact HS3
      iexact Hg
    ipureintro
    exact ⟨fun _ => by rw [hst]; exact ⟨rfl, rfl, rfl⟩, fun _ => by rw [hst]⟩
  isplitl [Ho]; · iexact Ho
  isplitl [H0]; · iexact H0
  isplitl [H1]; · iexact H1
  isplitl [H2]; · iexact H2
  isplitl [H3]; · iexact H3
  rw [hst]; iexact H4

/-- The body at any point. -/
theorem sound_body (c : Dev nD) (t : Fin cfg0.N) :
    bodyPre V c t ⊢ wp frame (wpE (defs₀ (F := F)) Variants.none c none) Set.univ (bodyAt0 t) (fun _ => bodyPost V c t) := by
  by_cases h0 : t.val % 40 = 0
  · exact soundA V c t h0
  by_cases h2 : t.val / 4 % 10 = 9
  · by_cases h1 : t.val % 40 = 36
    · exact soundD V c t h0 h2 h1
    by_cases h4 : t.val % 4 = 3
    · exact soundF V c t h0 h2 h1 h4
    · exact soundE V c t h0 h2 h1 h4
  by_cases h4 : t.val % 4 = 3
  · exact soundC V c t h0 h2 h4
  · exact soundB V c t h0 h2 h4

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- The launch's scratch is the invariant before the first point. -/
theorem hin (c : Dev nD) : Pipeline.ΦA spec0 c ⊢ (dat V c).Φ 0 := by
  rw [show (dat V c).Φ 0 = Phi V c 0 from rfl, PhiA0_eq]
  unfold Phi
  iintro ⟨⟨⟨%a, HS0⟩, ⟨%b, HS1⟩, ⟨%d, HS2⟩, ⟨%e, HS3⟩⟩, Hg⟩
  iexists a; iexists b; iexists d; iexists e
  isplitr; swap
  · isplitl [HS0]; · iexact HS0
    isplitl [HS1]; · iexact HS1
    isplitl [HS2]; · iexact HS2
    isplitl [HS3]; · iexact HS3
    iexact Hg
  ipureintro
  exact ⟨fun h => absurd rfl h, fun h => absurd h (by omega)⟩

/-- After the last point the scratch goes back at some contents. -/
theorem hout (c : Dev nD) : (dat V c).Φ (Fin.last cfg0.N) ⊢ Pipeline.ΦA spec0 c := by
  rw [show (dat V c).Φ (Fin.last cfg0.N) = Phi V c cfg0.N from rfl, PhiA0_eq]
  unfold Phi
  iintro ⟨%a, %b, %d, %e, -, HS0, HS1, HS2, HS3, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

end Cert.KernelIdeal.Km

end
-- ==== Proof.KmPay.lean ====
module

public import proofs.«01_k».proof.Proof.KmMath
public import proofs.«01_k».proof.Proof.KmDataKernelIdeal
public import Idealize.ShloMosaic.Lib.Pipeline.ValueKit

@[expose] public section

set_option maxRecDepth 16384

noncomputable section

/-! What one point of the kernel's k-means computes, read at coordinates. -/

namespace Cert.KernelIdeal.Km

open Cert.KernelIdeal Cert.KernelIdeal.Gen Cert.Km
open Idealize.ShloMosaic Idealize.ShloMosaic.TcCoe

/-- A tile's tokens, normalised. -/
def tok (x : Vec Ideal S1x2048x64 .f32) (t : Fin 2048) : Fin 64 → EReal := nrm fun k => x (ix3 0 t k)

/-- A matrix at coordinates. -/
def mat (x : Vec Ideal S64x64 .f32) (c d : Fin 64) : EReal := x (ix2 c d)

variable (x : Vec Ideal S1x2048x64 .f32) (mn : Vec Ideal S64x64 .f32)

/-- The normalised tile. -/
theorem pay9_at (t : Fin 2048) (d : Fin 64) : k0_pay9 x (ix2 t d) = tok x t d := by
  pointwise [k0_pay9]
  rfl

/-- The similarities. -/
theorem pay14_at (t : Fin 2048) (c : Fin 64) : k0_pay14 x mn (ix2 t c) = ds (tok x) (mat mn) t c := by
  pointwise [k0_pay14]
  simp only [pay9_at]
  rfl

/-- The nearest cluster's number. -/
theorem pay16_at (t : Fin 2048) (c : Fin 64) : k0_pay16 x mn (ix2 t c) = BitVec.ofNat 32 (first (ds (tok x) (mat mn) t)).val := by
  pointwise [k0_pay16]
  simp only [pay14_at]
  exact fold_minsi _

/-- The one-hot rows. -/
theorem pay1_at (t : Fin 2048) (c : Fin 64) : k0_pay1 (F := Ideal) lane (k0_pay16 x mn) (ix2 t c) = oh (tok x) (mat mn) t c := by
  have e : k0_pay1 (F := Ideal) lane (k0_pay16 x mn) (ix2 t c)
      = FloatOps.sitofp FTy.f32 (BitVec.setWidth 32 (IntOp.cmpi CmpIPredicate.eq (lane (ix2 t c)) (k0_pay16 x mn (ix2 t c)))) := by
    pointwise [k0_pay1]
  have el : lane (ix2 t c) = BitVec.ofNat 32 c.val := by
    pointwise [lane]
  rw [e, el, pay16_at]
  unfold oh
  have hinj : ∀ a b : Fin 64, (BitVec.ofNat 32 a.val = BitVec.ofNat 32 b.val) ↔ b = a := by decide
  by_cases h : first (ds (tok x) (mat mn) t) = c
  · rw [if_pos h, h]
    simp [IntOp.cmpi]
    show (((1#32 : BitVec 32).toInt : ℝ) : EReal) = 1
    norm_num
  · rw [if_neg h]
    have h' := fun e => h ((hinj _ _).mp e)
    have hb : (BitVec.ofNat 32 c.val == BitVec.ofNat 32 (first (ds (tok x) (mat mn) t)).val) = false := beq_eq_false_iff_ne.mpr h'
    simp only [IntOp.cmpi, hb]
    show (((0#32 : BitVec 32).toInt : ℝ) : EReal) = 0
    norm_num

/-- The counts. -/
theorem nBins_at (bn : Vec Ideal S64x1 .f32) (c : Fin 64) : nBins x mn bn (ix2 c 0) = bn (ix2 c 0) + ∑ t, oh (tok x) (mat mn) t c := by
  unfold nBins
  pointwise [k0_pay2]
  simp only [pay1_at]

/-- The sums. -/
theorem nSum_at (sm : Vec Ideal S64x64 .f32) (c d : Fin 64) : mat (nSum x mn sm) c d = mat sm c d + ∑ t, oh (tok x) (mat mn) t c * tok x t d := by
  unfold nSum mat
  pointwise [k0_pay3]
  simp only [pay1_at, pay9_at]
  rfl

/-- The loss lanes. -/
theorem nLoss_at (mb : Vec Ideal S1x64x64 .f32) (l : Vec Ideal S1x64 .f32) (d : Fin 64) :
    nLoss x mn mb l (ix2 0 d) = l (ix2 0 d) + loss (tok x) (mat mn) (fun c d => mb (ix3 0 c d)) d := by
  unfold nLoss
  pointwise [k0_pay4]
  simp only [pay1_at, pay9_at, sum_oh (tok x) (mat mn) _ (fun c => mb (ix3 0 c d))]
  rfl

/-- The new means. -/
theorem pay5_at (sm : Vec Ideal S64x64 .f32) (bn : Vec Ideal S64x1 .f32) : mat (k0_pay5 sm bn mn) = upd (fun c => bn (ix2 c 0)) (mat sm) (mat mn) := by
  funext c d
  unfold mat
  pointwise [k0_pay5]
  rfl

/-- The start means. -/
theorem pay10_at (m0 : Vec Ideal S1x64x64 .f32) : mat (k0_pay10 m0) = fun c => nrm fun d => m0 (ix3 0 c d) := by
  funext c d
  unfold mat
  pointwise [k0_pay10]
  rfl

/-- Zero sums. -/
theorem pay6_at (c d : Fin 64) : mat (k0_pay6 (F := Ideal)) c d = 0 := by unfold mat; pointwise [k0_pay6]
/-- Zero sums at a head's start. -/
theorem pay11_at (c d : Fin 64) : mat (k0_pay11 (F := Ideal)) c d = 0 := by unfold mat; pointwise [k0_pay11]
/-- Zero counts. -/
theorem pay7_at (c : Fin 64) : k0_pay7 (F := Ideal) (ix2 c 0) = 0 := by pointwise [k0_pay7]
/-- Zero counts at a head's start. -/
theorem pay12_at (c : Fin 64) : k0_pay12 (F := Ideal) (ix2 c 0) = 0 := by pointwise [k0_pay12]
/-- Zero loss lanes. -/
theorem pay13_at (d : Fin 64) : k0_pay13 (F := Ideal) (ix2 0 d) = 0 := by pointwise [k0_pay13]

/-! ## The state over a head -/

/-- A head's tokens, normalised. -/
def hX (A : Vec Ideal S12x8192x64 .f32) (h : Fin 12) (t : Fin 8192) : Fin 64 → EReal := nrm fun k => A (ix3 h t k)
/-- A head's start means, normalised. -/
def hM (A : Vec Ideal S12x64x64 .f32) (h : Fin 12) (c : Fin 64) : Fin 64 → EReal := nrm fun k => A (ix3 h c k)

/-- The windows' block numbers at a point. -/
theorem idx : ∀ t : Fin cfg0.N, win0_0.index t = ![t.val / 40, t.val % 4, 0] ∧ win0_1.index t = ![t.val / 40, 0, 0] ∧ win0_2.index t = ![t.val / 40, 0, 0]
    ∧ win0_3.index t = ![t.val / 40, if t.val / 4 % 10 = 9 then t.val % 4 else 0, 0] ∧ win0_4.index t = ![t.val / 40, 0, 0] ∧ t.val / 40 < 12 :=
  (by decide +kernel : ∀ t : Fin grid0.N, _)

variable (V : (c : Dev nD) → (b : Ref sig .tc) → Buf (Elt Ideal) ((c : Thread nD τ).loc b)) (c : Dev nD)

/-- The tokens' array. -/
abbrev aX : Vec Ideal S12x8192x64 .f32 := V c (Pipeline.arrRef spec0 0)
/-- The start means' array. -/
abbrev aM : Vec Ideal S12x64x64 .f32 := V c (Pipeline.arrRef spec0 1)
/-- The array of the means of the loss. -/
abbrev aB : Vec Ideal S12x64x64 .f32 := V c (Pipeline.arrRef spec0 2)

/-- A point's tile. -/
theorem blk0_at (t : Fin cfg0.N) (h : Fin 12) (hh : t.val / 40 = h.val) (s : Fin 2048) (k : Fin 64) :
    (iblk V c 0 t : Vec Ideal S1x2048x64 .f32) (ix3 0 s k) = aX V c (ix3 h ⟨t.val % 4 * 2048 + s.val, by have := s.isLt; omega⟩ k) := by
  blk_ext [iblk, idx t]

/-- A point's start means. -/
theorem blk1_at (t : Fin cfg0.N) (h : Fin 12) (hh : t.val / 40 = h.val) (s : Fin 64) (k : Fin 64) :
    (iblk V c 1 t : Vec Ideal S1x64x64 .f32) (ix3 0 s k) = aM V c (ix3 h s k) := by
  blk_ext [iblk, idx t]

/-- A point's means of the loss. -/
theorem blk2_at (t : Fin cfg0.N) (h : Fin 12) (hh : t.val / 40 = h.val) (s : Fin 64) (k : Fin 64) :
    (iblk V c 2 t : Vec Ideal S1x64x64 .f32) (ix3 0 s k) = aB V c (ix3 h s k) := by
  blk_ext [iblk, idx t]

/-- A point's normalised tile is that tile of its head. -/
theorem tok_blk (t : Fin cfg0.N) (h : Fin 12) (hh : t.val / 40 = h.val) : tok (iblk V c 0 t) = tile (hX (aX V c) h) t.val := by
  funext s
  unfold tok tile hX
  congr 1
  funext k
  exact blk0_at V c t h hh s k

end Cert.KernelIdeal.Km

end
-- ==== Proof.KmVal.lean ====
module

public import proofs.«01_k».proof.Proof.KmPay

@[expose] public section

set_option maxRecDepth 16384

noncomputable section

/-! What the kernel's k-means leaves in its two results. -/

namespace Cert.KernelIdeal.Km

open Cert.KernelIdeal Cert.KernelIdeal.Gen Cert.Km
open Idealize.ShloMosaic Idealize.ShloMosaic.TcCoe

/-- The state after `p` points of a head: the means of the iteration under way, the sums and the counts over its tiles so far, the loss lanes over the last iteration's tiles so far. -/
structure Inv (X : Fin 8192 → Fin 64 → EReal) (M mb : Fin 64 → Fin 64 → EReal) (p : ℕ) (s : St Ideal) : Prop where
  /-- The means. -/
  mn : mat s.mn = iter X M (p / 4)
  /-- The sums. -/
  sm : ∀ c d, mat s.sm c d = ∑ i ∈ Finset.range (p % 4), ∑ t, oh (tile X i) (iter X M (p / 4)) t c * tile X i t d
  /-- The counts. -/
  bn : ∀ c, s.bn (ix2 c 0) = ∑ i ∈ Finset.range (p % 4), ∑ t, oh (tile X i) (iter X M (p / 4)) t c
  /-- The loss lanes. -/
  l : 36 < p → ∀ d, s.l (ix2 0 d) = ∑ i ∈ Finset.range (p - 36), loss (tile X i) (iter X M 9) mb d

/-- A tile is named by its number modulo four. -/
theorem tile_mod (X : Fin 8192 → Fin 64 → EReal) (i j : ℕ) (h : i % 4 = j % 4) : tile X i = tile X j := by
  funext s
  unfold tile
  congr 2
  rw [h]

/-- The one-hot row of a tile's token is that of the head's token. -/
theorem sum_oh_tiles (X : Fin 8192 → Fin 64 → EReal) (M : Fin 64 → Fin 64 → EReal) (c : Fin 64) :
    ∑ i ∈ Finset.range 4, ∑ t, oh (tile X i) M t c = ∑ t, oh X M t c :=
  sum_tiles fun t => oh X M t c

/-- The same for the sums. -/
theorem sum_ohx_tiles (X : Fin 8192 → Fin 64 → EReal) (M : Fin 64 → Fin 64 → EReal) (c d : Fin 64) :
    ∑ i ∈ Finset.range 4, ∑ t, oh (tile X i) M t c * tile X i t d = ∑ t, oh X M t c * X t d :=
  sum_tiles fun t => oh X M t c * X t d

/-- The same for the loss. -/
theorem sum_loss_tiles (X : Fin 8192 → Fin 64 → EReal) (M mb : Fin 64 → Fin 64 → EReal) (d : Fin 64) :
    ∑ i ∈ Finset.range 4, loss (tile X i) M mb d = loss X M mb d :=
  sum_tiles fun t => (X t d - mb (first (ds X M t)) d) * (X t d - mb (first (ds X M t)) d)

section Next

variable {X : Fin 8192 → Fin 64 → EReal} {M mb : Fin 64 → Fin 64 → EReal} {n p : ℕ} {x : Vec Ideal S1x2048x64 .f32} {x1 x2 : Vec Ideal S1x64x64 .f32} {s : St Ideal}

/-- The sums after one more tile. -/
theorem Inv.sum (ih : Inv X M mb p s) (e0 : tok x = tile X (p % 4)) (a d : Fin 64) :
    mat (nSum x s.mn s.sm) a d = ∑ i ∈ Finset.range (p % 4 + 1), ∑ t, oh (tile X i) (iter X M (p / 4)) t a * tile X i t d := by
  rw [nSum_at, e0, ih.mn, ih.sm, Finset.sum_range_succ]

/-- The counts after one more tile. -/
theorem Inv.bin (ih : Inv X M mb p s) (e0 : tok x = tile X (p % 4)) (a : Fin 64) :
    nBins x s.mn s.bn (ix2 a 0) = ∑ i ∈ Finset.range (p % 4 + 1), ∑ t, oh (tile X i) (iter X M (p / 4)) t a := by
  rw [nBins_at, e0, ih.mn, ih.bn, Finset.sum_range_succ]

/-- The means after an iteration's last tile. -/
theorem Inv.means (ih : Inv X M mb p s) (e0 : tok x = tile X (p % 4)) (h3 : p % 4 = 3) :
    mat (k0_pay5 (nSum x s.mn s.sm) (nBins x s.mn s.bn) s.mn) = iter X M ((p + 1) / 4) := by
  have es : mat (nSum x s.mn s.sm) = fun a d => ∑ t, oh X (iter X M (p / 4)) t a * X t d :=
    funext fun a => funext fun d => by rw [ih.sum e0, h3, sum_ohx_tiles]
  have eb : (fun a => nBins x s.mn s.bn (ix2 a 0)) = fun a => ∑ t, oh X (iter X M (p / 4)) t a :=
    funext fun a => by rw [ih.bin e0, h3, sum_oh_tiles]
  rw [pay5_at, ih.mn, es, eb, show (p + 1) / 4 = p / 4 + 1 by omega]
  rfl

/-- The loss lanes after one more tile of the last iteration. -/
theorem Inv.loss (ih : Inv X M mb p s) (e0 : tok x = tile X (p % 4)) (e2 : (fun a d => x2 (ix3 0 a d)) = mb) (h36 : 36 ≤ p) (h40 : p < 40) (l : Vec Ideal S1x64 .f32)
    (hl : ∀ d, l (ix2 0 d) = ∑ i ∈ Finset.range (p - 36), Cert.Km.loss (tile X i) (iter X M 9) mb d) (d : Fin 64) :
    nLoss x s.mn x2 l (ix2 0 d) = ∑ i ∈ Finset.range (p + 1 - 36), Cert.Km.loss (tile X i) (iter X M 9) mb d := by
  rw [nLoss_at, e0, e2, ih.mn, hl, show p / 4 = 9 by omega, show p + 1 - 36 = p - 36 + 1 by omega, Finset.sum_range_succ,
    tile_mod _ (p % 4) (p - 36) (by omega)]

/-- A head's first point. -/
theorem inv_first (h0 : n % 40 = 0) (e0 : tok x = tile X 0) (e1 : (fun c => nrm fun d => x1 (ix3 0 c d)) = M) : Inv X M mb 1 (adv n x x1 x2 s) := by
  rw [advA n x x1 x2 s h0]
  have e1' : mat (k0_pay10 x1) = M := (pay10_at x1).trans e1
  have zs : ∀ a d, mat (nSum x (k0_pay10 x1) (k0_pay11 (F := Ideal))) a d = ∑ i ∈ Finset.range 1, ∑ t, oh (tile X i) M t a * tile X i t d :=
    fun a d => by rw [nSum_at, e0, e1', pay11_at, zero_add, Finset.sum_range_one]
  have zb : ∀ a, nBins x (k0_pay10 x1) (k0_pay12 (F := Ideal)) (ix2 a 0) = ∑ i ∈ Finset.range 1, ∑ t, oh (tile X i) M t a :=
    fun a => by rw [nBins_at, e0, e1', pay12_at, zero_add, Finset.sum_range_one]
  exact ⟨e1', zs, zb, fun hp => absurd hp (by omega)⟩

/-- A head's further points. -/
theorem Inv.next (ih : Inv X M mb p s) (hn : n % 40 = p) (h1 : 1 ≤ p) (e0 : tok x = tile X (p % 4)) (e2 : (fun a d => x2 (ix3 0 a d)) = mb) :
    Inv X M mb (p + 1) (adv n x x1 x2 s) := by
  have h40 : p < 40 := by omega
  have g0 : ¬n % 40 = 0 := by omega
  by_cases h3 : p % 4 = 3
  · have f0 : (p + 1) % 4 = 0 := by omega
    have zs : ∀ a d, mat (k0_pay6 (F := Ideal)) a d = ∑ i ∈ Finset.range ((p + 1) % 4), ∑ t, oh (tile X i) (iter X M ((p + 1) / 4)) t a * tile X i t d :=
      fun a d => by rw [f0, Finset.sum_range_zero]; exact pay6_at a d
    have zb : ∀ a, k0_pay7 (F := Ideal) (ix2 a 0) = ∑ i ∈ Finset.range ((p + 1) % 4), ∑ t, oh (tile X i) (iter X M ((p + 1) / 4)) t a :=
      fun a => by rw [f0, Finset.sum_range_zero]; exact pay7_at a
    by_cases h9 : n / 4 % 10 = 9
    · rw [advF n x x1 x2 s g0 h9 (by omega) (by omega)]
      exact ⟨ih.means e0 h3, zs, zb, fun _ => ih.loss e0 e2 (by omega) h40 s.l (ih.l (by omega))⟩
    · rw [advC n x x1 x2 s g0 h9 (by omega) (by omega)]
      exact ⟨ih.means e0 h3, zs, zb, fun hp => absurd hp (by omega)⟩
  · have f1 : (p + 1) / 4 = p / 4 := by omega
    have f2 : (p + 1) % 4 = p % 4 + 1 := by omega
    have zm : mat s.mn = iter X M ((p + 1) / 4) := by rw [f1]; exact ih.mn
    have zs : ∀ a d, mat (nSum x s.mn s.sm) a d = ∑ i ∈ Finset.range ((p + 1) % 4), ∑ t, oh (tile X i) (iter X M ((p + 1) / 4)) t a * tile X i t d :=
      fun a d => by rw [f1, f2]; exact ih.sum e0 a d
    have zb : ∀ a, nBins x s.mn s.bn (ix2 a 0) = ∑ i ∈ Finset.range ((p + 1) % 4), ∑ t, oh (tile X i) (iter X M ((p + 1) / 4)) t a :=
      fun a => by rw [f1, f2]; exact ih.bin e0 a
    by_cases h9 : n / 4 % 10 = 9
    · by_cases h36 : n % 40 = 36
      · rw [advD n x x1 x2 s g0 h9 h36 (by omega)]
        exact ⟨zm, zs, zb, fun _ => ih.loss e0 e2 (by omega) h40 (k0_pay13 (F := Ideal)) fun d => by
          rw [show p - 36 = 0 by omega, Finset.sum_range_zero]; exact pay13_at d⟩
      · rw [advE n x x1 x2 s g0 h9 h36 (by omega)]
        exact ⟨zm, zs, zb, fun _ => ih.loss e0 e2 (by omega) h40 s.l (ih.l (by omega))⟩
    · rw [advB n x x1 x2 s g0 h9 (by omega) (by omega)]
      exact ⟨zm, zs, zb, fun hp => absurd hp (by omega)⟩

end Next

variable (V : (c : Dev nD) → (b : Ref sig .tc) → Buf (Elt Ideal) ((c : Thread nD τ).loc b)) (c : Dev nD)

/-- The means of the loss at coordinates. -/
def hB (A : Vec Ideal S12x64x64 .f32) (h : Fin 12) (c d : Fin 64) : EReal := A (ix3 h c d)

/-- The state holds that after every point of a head. -/
theorem inv (h : Fin 12) (p : ℕ) (h1 : 1 ≤ p) (h40 : p ≤ 40) :
    Inv (hX (aX V c) h) (hM (aM V c) h) (hB (aB V c) h) p (st V c (40 * h.val + p)) := by
  have hN : cfg0.N = 480 := by decide +kernel
  have hh := h.isLt
  induction p, h1 using Nat.le_induction with
  | base =>
    have hlt : 40 * h.val < cfg0.N := by omega
    have hdiv : (⟨40 * h.val, hlt⟩ : Fin cfg0.N).val / 40 = h.val := by show 40 * h.val / 40 = _; omega
    rw [st_succ V c (40 * h.val) hlt]
    refine inv_first (by omega) ((tok_blk V c ⟨40 * h.val, hlt⟩ h hdiv).trans (tile_mod _ _ 0 (by show 40 * h.val % 4 = _; omega))) (funext fun a => ?_)
    exact congrArg nrm (funext fun k => blk1_at V c _ h hdiv a k)
  | succ p h1 ih =>
    have hlt : 40 * h.val + p < cfg0.N := by omega
    have hdiv : (⟨40 * h.val + p, hlt⟩ : Fin cfg0.N).val / 40 = h.val := by show (40 * h.val + p) / 40 = _; omega
    rw [show 40 * h.val + (p + 1) = 40 * h.val + p + 1 from rfl, st_succ V c _ hlt]
    exact (ih (by omega)).next (by omega) h1
      ((tok_blk V c ⟨40 * h.val + p, hlt⟩ h hdiv).trans (tile_mod _ _ (p % 4) (by show (40 * h.val + p) % 4 = _; omega)))
      (funext fun a => funext fun d => blk2_at V c _ h hdiv a d)

/-- The distances the call writes. -/
def gDs (X : Vec Ideal S12x8192x64 .f32) (M : Vec Ideal S12x64x64 .f32) : Vec Ideal S12x8192x64 .f32 := fun y =>
  ds (hX X (y 0)) (iter (hX X (y 0)) (hM M (y 0)) 9) (y 1) (y 2)

/-- The loss lanes the call writes. -/
def gLs (X : Vec Ideal S12x8192x64 .f32) (M B : Vec Ideal S12x64x64 .f32) : Vec Ideal S12x1x64 .f32 := fun y =>
  loss (hX X (y 0)) (iter (hX X (y 0)) (hM M (y 0)) 9) (hB B (y 0)) (y 2)

/-- The distances' block of a point of the last iteration. -/
theorem after3_at (t : Fin cfg0.N) (h : Fin 12) (hh : t.val / 40 = h.val) (h9 : t.val / 4 % 10 = 9) (s : Fin 2048) (k : Fin 64) :
    ((dat V c).after 3 t : Vec Ideal S1x2048x64 .f32) (ix3 0 s k) = gDs (aX V c) (aM V c) (ix3 h ⟨t.val % 4 * 2048 + s.val, by have := s.isLt; omega⟩ k) := by
  have hi := inv V c h (t.val % 40) (by omega) (by omega)
  rw [show 40 * h.val + t.val % 40 = t.val by omega] at hi
  rw [after_3]
  have e : ∀ a, k0_pay15 (iblk V c 0 t) a (ix3 0 s k) = k0_pay14 (iblk V c 0 t) a (ix2 s k) := fun a => by
    pointwise [k0_pay15]
  rw [e, pay14_at, tok_blk V c t h hh, hi.mn, show t.val % 40 / 4 = 9 by omega]
  rfl

/-- The loss block of a head's last point. -/
theorem after4_at (t : Fin cfg0.N) (h : Fin 12) (hh : t.val / 40 = h.val) (h39 : t.val % 40 = 39) (k : Fin 64) :
    ((dat V c).after 4 t : Vec Ideal S1x1x64 .f32) (ix3 0 0 k) = gLs (aX V c) (aM V c) (aB V c) (ix3 h 0 k) := by
  have hi := inv V c h 40 (by omega) (by omega)
  rw [show 40 * h.val + 40 = t.val + 1 by omega] at hi
  rw [after_4]
  have e : ∀ a : Vec Ideal S1x64 .f32, k0_pay8 a (ix3 0 0 k) = a (ix2 0 k) := fun a => by
    pointwise [k0_pay8]
  rw [e, hi.l (by omega), show 40 - 36 = 4 from rfl, sum_loss_tiles]
  rfl

/-- The distances at the call's end. -/
theorem arr3 : (dat V c).arrAt 3 cfg0.N = gDs (aX V c) (aM V c) := by
  refine (dat V c).arrAt_eq_of_covers 3 (gDs (aX V c) (aM V c)) (by decide +kernel) fun t hf y => ?_
  have h9 : t.val / 4 % 10 = 9 := by
    by_contra hn; rw [noFlush_3 t hn] at hf; exact Bool.noConfusion hf
  blk_simp
  obtain ⟨a, s, k, rfl⟩ : ∃ (a : Fin 1) (s : Fin 2048) (k : Fin 64), y = ix3 a s k := ⟨y 0, y 1, y 2, by blk_ext⟩
  have ha : a = 0 := Subsingleton.elim _ _
  subst ha
  refine (after3_at V c t ⟨t.val / 40, (idx t).2.2.2.2.2⟩ rfl h9 s k).trans ?_
  have e := (idx t).2.2.2.1
  rw [if_pos h9] at e
  blk_ext [e]

/-- The loss lanes at the call's end. -/
theorem arr4 : (dat V c).arrAt 4 cfg0.N = gLs (aX V c) (aM V c) (aB V c) := by
  refine (dat V c).arrAt_eq_of_covers 4 (gLs (aX V c) (aM V c) (aB V c)) (by decide +kernel) fun t hf y => ?_
  have h39 : t.val % 40 = 39 := (flush0_4 t).mp hf
  blk_simp
  obtain ⟨a, s, k, rfl⟩ : ∃ (a : Fin 1) (s : Fin 1) (k : Fin 64), y = ix3 a s k := ⟨y 0, y 1, y 2, by blk_ext⟩
  have ha : a = 0 := Subsingleton.elim _ _
  have hs : s = 0 := Subsingleton.elim _ _
  subst ha hs
  refine (after4_at V c t ⟨t.val / 40, (idx t).2.2.2.2.2⟩ rfl h39 k).trans ?_
  blk_ext [idx t]

end Cert.KernelIdeal.Km

end
-- ==== Proof.KmFrameKernelIdeal.lean ====
module

public import proofs.«01_k».proof.Proof.KmDataKernelIdeal
public import proofs.«01_k».proof.Proof.Gen.KernelIdeal.Frame
public import Idealize.ShloMosaic.Lib.Claim

@[expose] public section

set_option maxRecDepth 16384

noncomputable section

namespace Cert.KernelIdeal.Km

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The proof data of the one region, as launched. -/
def dats : (p : Fin 1) → (c : Dev nD) → Dat τ (Elt F) Unit ℕ (UR sig nD τ) ℕ (cfgs p) c
  | ⟨0, _⟩ => fun c => dat (fun c b => m ((c : Thread nD τ).loc b)) c

set_option backward.isDefEq.respectTransparency.types false in
/-- The launch: every execution ends with the windows' arrays at what the proof data says and every counter at zero. -/
theorem run_quiescent : θ_run defs (onTc (τ := τ) (main (F := F))) (s₀ m ρ) (fun r => (Pipeline.FramePost cfgs (dats m) 0 (Gen.V m)) r ∧ r.2.sem = fun _ => 0) :=
  Pipeline.θ_run_frame_track (Q' := _) cfgs (dats m) (0 : Fin 1) launch0 defs₀ Variants.none m ρ main
    (hbody := fun c => (body_obligation _ c).loose) (hshare := fun c => (dats m 0 c).share_full fun _ => rfl)
    (howed := fun _ _ => rfl) (V := Gen.V m) (hmain := hmain m Variants.none) (hA := fun c w => A_eq (fun c b => m ((c : Thread nD τ).loc b)) c w) (hin := fun c => hin _ c) (hout := fun c => hout _ c)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (fun c w => A_eq (fun c b => m ((c : Thread nD τ).loc b)) c w) ((θ_run defs _ _).mono (fun _ h => h.1) (run_quiescent m ρ)))
    ((θ_run defs _ _).mono (fun _ h => h.2) (run_quiescent m ρ))

end Cert.KernelIdeal.Km

end
-- ==== Proof.Ref.lean ====
module

public import proofs.«01_k».proof.Defs
public import proofs.«01_k».proof.Proof.Gen.ReferenceIdeal
public import Idealize.ShloMosaic.Lib.StableHlo.Run
public import Idealize.ShloMosaic.Lib.Quiescent
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-! ## The operations, by parts -/

/-- The operations of the two normalisations. -/
abbrev preOps  : List (HloOp τ sig (Elt F)) :=
  [ StableHlo.binary main_arg0 main_arg0 main_v0 (mulf : (⟨S12x8192x64, .f32⟩ : BufTy).Contents (Elt F) → (⟨S12x8192x64, .f32⟩ : BufTy).Contents (Elt F) → (⟨S12x8192x64, .f32⟩ : BufTy).Contents (Elt F)),
    StableHlo.nullary main_cst (constant S_ .f32 0x00000000#32),
    StableHlo.binary main_v0 main_cst main_v1 ((fun x v => Host.reduceAdd x v reducesTo_S12x8192x64_S12x8192_d2 h_S_) : (⟨S12x8192x64, .f32⟩ : BufTy).Contents (Elt F) → (⟨S_, .f32⟩ : BufTy).Contents (Elt F) → (⟨S12x8192, .f32⟩ : BufTy).Contents (Elt F)),
    StableHlo.unary main_v1 main_v2 (broadcastInDim S12x8192x1 ![0, 1] bcast_S12x8192_S12x8192x1_0_1 : (⟨S12x8192, .f32⟩ : BufTy).Contents (Elt F) → (⟨S12x8192x1, .f32⟩ : BufTy).Contents (Elt F)),
    StableHlo.unary main_v2 main_v3 (Host.sqrt : (⟨S12x8192x1, .f32⟩ : BufTy).Contents (Elt F) → (⟨S12x8192x1, .f32⟩ : BufTy).Contents (Elt F)),
    StableHlo.nullary main_cst_0 (constant S_ .f32 0x2B8CBCCC#32),
    StableHlo.unary main_cst_0 main_v4 (broadcastInDim S12x8192x1 ![] bcast_S_S12x8192x1 : (⟨S_, .f32⟩ : BufTy).Contents (Elt F) → (⟨S12x8192x1, .f32⟩ : BufTy).Contents (Elt F)),
    StableHlo.binary main_v3 main_v4 main_v5 (maximumf : (⟨S12x8192x1, .f32⟩ : BufTy).Contents (Elt F) → (⟨S12x8192x1, .f32⟩ : BufTy).Contents (Elt F) → (⟨S12x8192x1, .f32⟩ : BufTy).Contents (Elt F)),
    StableHlo.unary main_v5 main_v6 (broadcastInDim S12x8192x64 ![0, 1, 2] bcast_S12x8192x1_S12x8192x64_0_1_2 : (⟨S12x8192x1, .f32⟩ : BufTy).Contents (Elt F) → (⟨S12x8192x64, .f32⟩ : BufTy).Contents (Elt F)),
    StableHlo.binary main_arg0 main_v6 main_v7 (Host.divf : (⟨S12x8192x64, .f32⟩ : BufTy).Contents (Elt F) → (⟨S12x8192x64, .f32⟩ : BufTy).Contents (Elt F) → (⟨S12x8192x64, .f32⟩ : BufTy).Contents (Elt F)),
    StableHlo.binary main_arg1 main_arg1 main_v8 (mulf : (⟨S12x64x64, .f32⟩ : BufTy).Contents (Elt F) → (⟨S12x64x64, .f32⟩ : BufTy).Contents (Elt F) → (⟨S12x64x64, .f32⟩ : BufTy).Contents (Elt F)),
    StableHlo.nullary main_cst_1 (constant S_ .f32 0x00000000#32),
    StableHlo.binary main_v8 main_cst_1 main_v9 ((fun x v => Host.reduceAdd x v reducesTo_S12x64x64_S12x64_d2 h_S_) : (⟨S12x64x64, .f32⟩ : BufTy).Contents (Elt F) → (⟨S_, .f32⟩ : BufTy).Contents (Elt F) → (⟨S12x64, .f32⟩ : BufTy).Contents (Elt F)),
    StableHlo.unary main_v9 main_v10 (broadcastInDim S12x64x1 ![0, 1] bcast_S12x64_S12x64x1_0_1 : (⟨S12x64, .f32⟩ : BufTy).Contents (Elt F) → (⟨S12x64x1, .f32⟩ : BufTy).Contents (Elt F)),
    StableHlo.unary main_v10 main_v11 (Host.sqrt : (⟨S12x64x1, .f32⟩ : BufTy).Contents (Elt F) → (⟨S12x64x1, .f32⟩ : BufTy).Contents (Elt F)),
    StableHlo.nullary main_cst_2 (constant S_ .f32 0x2B8CBCCC#32),
    StableHlo.unary main_cst_2 main_v12 (broadcastInDim S12x64x1 ![] bcast_S_S12x64x1 : (⟨S_, .f32⟩ : BufTy).Contents (Elt F) → (⟨S12x64x1, .f32⟩ : BufTy).Contents (Elt F)),
    StableHlo.binary main_v11 main_v12 main_v13 (maximumf : (⟨S12x64x1, .f32⟩ : BufTy).Contents (Elt F) → (⟨S12x64x1, .f32⟩ : BufTy).Contents (Elt F) → (⟨S12x64x1, .f32⟩ : BufTy).Contents (Elt F)),
    StableHlo.unary main_v13 main_v14 (broadcastInDim S12x64x64 ![0, 1, 2] bcast_S12x64x1_S12x64x64_0_1_2 : (⟨S12x64x1, .f32⟩ : BufTy).Contents (Elt F) → (⟨S12x64x64, .f32⟩ : BufTy).Contents (Elt F)),
    StableHlo.binary main_arg1 main_v14 main_v15 (Host.divf : (⟨S12x64x64, .f32⟩ : BufTy).Contents (Elt F) → (⟨S12x64x64, .f32⟩ : BufTy).Contents (Elt F) → (⟨S12x64x64, .f32⟩ : BufTy).Contents (Elt F)) ]

/-- They touch TensorCore references only. -/
theorem pre_sub  : (preOps  : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- They determine their results. -/
theorem pre_fresh  : (preOps  : List (HloOp τ sig (Elt F))).Forall fun op => op.fresh = ∅ :=
  forall_fresh_of_map rfl

/-- The references they write. -/
abbrev preW  : List (Ref sig .tc) := [main_v0, main_cst, main_v1, main_v2, main_v3, main_cst_0, main_v4, main_v5, main_v6, main_v7, main_v8, main_cst_1, main_v9, main_v10, main_v11, main_cst_2, main_v12, main_v13, main_v14, main_v15]

/-- They write those. -/
theorem pre_writes  : (preOps  : List (HloOp τ sig (Elt F))).Forall fun op => op.writes ⊆ ((preW ).map (Proc.devRef (τ := τ) .tc)).toFinset :=
  forall_writes_sub_of_map rfl

/-- The operations of one k-means step. -/
abbrev stepOps (arg0 : StableHlo.TRef sig ⟨S12x8192x64, .f32⟩) (arg1 : StableHlo.TRef sig ⟨S12x64x64, .f32⟩) (φ : fn_kmeans_step.Bufs) : List (HloOp τ sig (Elt F)) :=
  [ StableHlo.TRef.binary arg0 arg1 φ.call0.v0 (fun l r => Host.dotGeneral dot_S12x8192x64_S12x64x64_S12x8192x64_2_2_1_1_0_0 none l r),
    StableHlo.TRef.nullary φ.call1.v0 (iotaInDim S12x8192x64 32 2),
    StableHlo.TRef.nullary φ.call1.cst (constant S_ .f32 0xFF800000#32),
    StableHlo.TRef.nullary φ.call1.c (constantI S_ 32 0#32),
    StableHlo.TRef.quaternary φ.call0.v0 φ.call1.v0 φ.call1.cst φ.call1.c φ.call1.v1_0 (fun x y u v j => (Host.argReduce reducer_argmax_f32_i32 x y u v reducesTo_S12x8192x64_S12x8192_d2 h_S_ j).1),
    StableHlo.TRef.quaternary φ.call0.v0 φ.call1.v0 φ.call1.cst φ.call1.c φ.call1.v1_1 (fun x y u v j => (Host.argReduce reducer_argmax_f32_i32 x y u v reducesTo_S12x8192x64_S12x8192_d2 h_S_ j).2),
    StableHlo.TRef.unary φ.call1.v1_1 φ.call2.v0 (broadcastInDim S12x8192x1 ![0, 1] bcast_S12x8192_S12x8192x1_0_1),
    StableHlo.TRef.nullary φ.call2.v1 (iotaInDim S1x1x64 32 2),
    StableHlo.TRef.unary φ.call2.v0 φ.call2.v2 (broadcastInDim S12x8192x64 ![0, 1, 2] bcast_S12x8192x1_S12x8192x64_0_1_2),
    StableHlo.TRef.unary φ.call2.v1 φ.call2.v3 (broadcastInDim S12x8192x64 ![0, 1, 2] bcast_S1x1x64_S12x8192x64_0_1_2),
    StableHlo.TRef.binary φ.call2.v2 φ.call2.v3 φ.call2.v4 (cmpi .eq),
    StableHlo.TRef.unary φ.call2.v4 φ.call2.v5 (uitofp .f32),
    StableHlo.TRef.nullary φ.cst (constant S_ .f32 0x00000000#32),
    StableHlo.TRef.binary φ.call2.v5 φ.cst φ.v3 (fun x v => Host.reduceAdd x v reducesTo_S12x8192x64_S12x64_d1 h_S_),
    StableHlo.TRef.binary φ.call2.v5 arg0 φ.v4 (fun l r => Host.dotGeneral dot_S12x8192x64_S12x8192x64_S12x64x64_1_1_2_2_0_0 none l r),
    StableHlo.TRef.binary φ.v4 φ.v4 φ.v5 mulf,
    StableHlo.TRef.nullary φ.cst_0 (constant S_ .f32 0x00000000#32),
    StableHlo.TRef.binary φ.v5 φ.cst_0 φ.v6 (fun x v => Host.reduceAdd x v reducesTo_S12x64x64_S12x64_d2 h_S_),
    StableHlo.TRef.unary φ.v6 φ.v7 (broadcastInDim S12x64x1 ![0, 1] bcast_S12x64_S12x64x1_0_1),
    StableHlo.TRef.unary φ.v7 φ.v8 Host.sqrt,
    StableHlo.TRef.nullary φ.cst_1 (constant S_ .f32 0x2B8CBCCC#32),
    StableHlo.TRef.unary φ.cst_1 φ.v9 (broadcastInDim S12x64x1 ![] bcast_S_S12x64x1),
    StableHlo.TRef.binary φ.v8 φ.v9 φ.v10 maximumf,
    StableHlo.TRef.unary φ.v10 φ.v11 (broadcastInDim S12x64x64 ![0, 1, 2] bcast_S12x64x1_S12x64x64_0_1_2),
    StableHlo.TRef.binary φ.v4 φ.v11 φ.v12 Host.divf,
    StableHlo.TRef.nullary φ.cst_2 (constant S_ .f32 0x00000000#32),
    StableHlo.TRef.unary φ.cst_2 φ.v13 (broadcastInDim S12x64 ![] bcast_S_S12x64),
    StableHlo.TRef.binary φ.v3 φ.v13 φ.v14 (cmpf .oeq),
    StableHlo.TRef.unary φ.v14 φ.v15 (broadcastInDim S12x64x1 ![0, 1] bcast_S12x64_S12x64x1_0_1),
    StableHlo.TRef.unary φ.v15 φ.call3.v0 (broadcastInDim S12x64x64 ![0, 1, 2] bcast_S12x64x1_S12x64x64_0_1_2),
    StableHlo.TRef.ternary φ.call3.v0 arg1 φ.v12 φ.call3.v1 select ]

/-- They touch TensorCore references only. -/
theorem step_sub (arg0 : StableHlo.TRef sig ⟨S12x8192x64, .f32⟩) (arg1 : StableHlo.TRef sig ⟨S12x64x64, .f32⟩) (φ : fn_kmeans_step.Bufs) : (stepOps arg0 arg1 φ : List (HloOp τ sig (Elt F))).Forall fun op => op.bufs ⊆ tcRefs τ sig :=
  ⟨binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., ternary_bufs_sub ..⟩

/-- They determine their results. -/
theorem step_fresh (arg0 : StableHlo.TRef sig ⟨S12x8192x64, .f32⟩) (arg1 : StableHlo.TRef sig ⟨S12x64x64, .f32⟩) (φ : fn_kmeans_step.Bufs) : (stepOps arg0 arg1 φ : List (HloOp τ sig (Elt F))).Forall fun op => op.fresh = ∅ :=
  forall_fresh_of_map rfl

/-- The references they write. -/
abbrev stepW (arg0 : StableHlo.TRef sig ⟨S12x8192x64, .f32⟩) (arg1 : StableHlo.TRef sig ⟨S12x64x64, .f32⟩) (φ : fn_kmeans_step.Bufs) : List (Ref sig .tc) := [φ.call0.v0.ref, φ.call1.v0.ref, φ.call1.cst.ref, φ.call1.c.ref, φ.call1.v1_0.ref, φ.call1.v1_1.ref, φ.call2.v0.ref, φ.call2.v1.ref, φ.call2.v2.ref, φ.call2.v3.ref, φ.call2.v4.ref, φ.call2.v5.ref, φ.cst.ref, φ.v3.ref, φ.v4.ref, φ.v5.ref, φ.cst_0.ref, φ.v6.ref, φ.v7.ref, φ.v8.ref, φ.cst_1.ref, φ.v9.ref, φ.v10.ref, φ.v11.ref, φ.v12.ref, φ.cst_2.ref, φ.v13.ref, φ.v14.ref, φ.v15.ref, φ.call3.v0.ref, φ.call3.v1.ref]

/-- They write those. -/
theorem step_writes (arg0 : StableHlo.TRef sig ⟨S12x8192x64, .f32⟩) (arg1 : StableHlo.TRef sig ⟨S12x64x64, .f32⟩) (φ : fn_kmeans_step.Bufs) : (stepOps arg0 arg1 φ : List (HloOp τ sig (Elt F))).Forall fun op => op.writes ⊆ ((stepW arg0 arg1 φ).map (Proc.devRef (τ := τ) .tc)).toFinset :=
  forall_writes_sub_of_map rfl

/-- The operations of the last distances. -/
abbrev distOps (arg0 : StableHlo.TRef sig ⟨S12x8192x64, .f32⟩) (arg1 : StableHlo.TRef sig ⟨S12x64x64, .f32⟩) (φ : fn_kmeans_dists.Bufs) : List (HloOp τ sig (Elt F)) :=
  [ StableHlo.TRef.binary arg0 arg1 φ.v0 (fun l r => Host.dotGeneral dot_S12x8192x64_S12x64x64_S12x8192x64_2_2_1_1_0_0 none l r) ]

/-- They touch TensorCore references only. -/
theorem dist_sub (arg0 : StableHlo.TRef sig ⟨S12x8192x64, .f32⟩) (arg1 : StableHlo.TRef sig ⟨S12x64x64, .f32⟩) (φ : fn_kmeans_dists.Bufs) : (distOps arg0 arg1 φ : List (HloOp τ sig (Elt F))).Forall fun op => op.bufs ⊆ tcRefs τ sig :=
  binary_bufs_sub ..

/-- They determine their results. -/
theorem dist_fresh (arg0 : StableHlo.TRef sig ⟨S12x8192x64, .f32⟩) (arg1 : StableHlo.TRef sig ⟨S12x64x64, .f32⟩) (φ : fn_kmeans_dists.Bufs) : (distOps arg0 arg1 φ : List (HloOp τ sig (Elt F))).Forall fun op => op.fresh = ∅ :=
  forall_fresh_of_map rfl

/-- The references they write. -/
abbrev distW (arg0 : StableHlo.TRef sig ⟨S12x8192x64, .f32⟩) (arg1 : StableHlo.TRef sig ⟨S12x64x64, .f32⟩) (φ : fn_kmeans_dists.Bufs) : List (Ref sig .tc) := [φ.v0.ref]

/-- They write those. -/
theorem dist_writes (arg0 : StableHlo.TRef sig ⟨S12x8192x64, .f32⟩) (arg1 : StableHlo.TRef sig ⟨S12x64x64, .f32⟩) (φ : fn_kmeans_dists.Bufs) : (distOps arg0 arg1 φ : List (HloOp τ sig (Elt F))).Forall fun op => op.writes ⊆ ((distW arg0 arg1 φ).map (Proc.devRef (τ := τ) .tc)).toFinset :=
  forall_writes_sub_of_map rfl

/-- The operations of the last arg-max. -/
abbrev amaxOps (arg0 : StableHlo.TRef sig ⟨S12x8192x64, .f32⟩) (φ : fn_argmax.Bufs) : List (HloOp τ sig (Elt F)) :=
  [ StableHlo.TRef.nullary φ.v0 (iotaInDim S12x8192x64 32 2),
    StableHlo.TRef.nullary φ.cst (constant S_ .f32 0xFF800000#32),
    StableHlo.TRef.nullary φ.c (constantI S_ 32 0#32),
    StableHlo.TRef.quaternary arg0 φ.v0 φ.cst φ.c φ.v1_0 (fun x y u v j => (Host.argReduce reducer_argmax_f32_i32 x y u v reducesTo_S12x8192x64_S12x8192_d2 h_S_ j).1),
    StableHlo.TRef.quaternary arg0 φ.v0 φ.cst φ.c φ.v1_1 (fun x y u v j => (Host.argReduce reducer_argmax_f32_i32 x y u v reducesTo_S12x8192x64_S12x8192_d2 h_S_ j).2) ]

/-- They touch TensorCore references only. -/
theorem amax_sub (arg0 : StableHlo.TRef sig ⟨S12x8192x64, .f32⟩) (φ : fn_argmax.Bufs) : (amaxOps arg0 φ : List (HloOp τ sig (Elt F))).Forall fun op => op.bufs ⊆ tcRefs τ sig :=
  ⟨nullary_bufs_sub .., nullary_bufs_sub .., nullary_bufs_sub .., quaternary_bufs_sub .., quaternary_bufs_sub ..⟩

/-- They determine their results. -/
theorem amax_fresh (arg0 : StableHlo.TRef sig ⟨S12x8192x64, .f32⟩) (φ : fn_argmax.Bufs) : (amaxOps arg0 φ : List (HloOp τ sig (Elt F))).Forall fun op => op.fresh = ∅ :=
  forall_fresh_of_map rfl

/-- The references they write. -/
abbrev amaxW (arg0 : StableHlo.TRef sig ⟨S12x8192x64, .f32⟩) (φ : fn_argmax.Bufs) : List (Ref sig .tc) := [φ.v0.ref, φ.cst.ref, φ.c.ref, φ.v1_0.ref, φ.v1_1.ref]

/-- They write those. -/
theorem amax_writes (arg0 : StableHlo.TRef sig ⟨S12x8192x64, .f32⟩) (φ : fn_argmax.Bufs) : (amaxOps arg0 φ : List (HloOp τ sig (Elt F))).Forall fun op => op.writes ⊆ ((amaxW arg0 φ).map (Proc.devRef (τ := τ) .tc)).toFinset :=
  forall_writes_sub_of_map rfl

/-- The operations of the loss. -/
abbrev postOps  : List (HloOp τ sig (Elt F)) :=
  [ StableHlo.nullary main_v27 (iotaInDim S12 32 0),
    StableHlo.unary main_v27 main_v28 (broadcastInDim S12x1 ![0] bcast_S12_S12x1_0 : (⟨S12, .i32⟩ : BufTy).Contents (Elt F) → (⟨S12x1, .i32⟩ : BufTy).Contents (Elt F)),
    StableHlo.nullary main_c (constantI S_ 32 0#32),
    StableHlo.unary main_c main_v29 (broadcastInDim S12x1 ![] bcast_S_S12x1 : (⟨S_, .i32⟩ : BufTy).Contents (Elt F) → (⟨S12x1, .i32⟩ : BufTy).Contents (Elt F)),
    StableHlo.binary main_v28 main_v29 main_v30 (cmpi .slt : (⟨S12x1, .i32⟩ : BufTy).Contents (Elt F) → (⟨S12x1, .i32⟩ : BufTy).Contents (Elt F) → (⟨S12x1, .i1⟩ : BufTy).Contents (Elt F)),
    StableHlo.nullary main_c_3 (constantI S_ 32 12#32),
    StableHlo.unary main_c_3 main_v31 (broadcastInDim S12x1 ![] bcast_S_S12x1 : (⟨S_, .i32⟩ : BufTy).Contents (Elt F) → (⟨S12x1, .i32⟩ : BufTy).Contents (Elt F)),
    StableHlo.binary main_v28 main_v31 main_v32 (addi : (⟨S12x1, .i32⟩ : BufTy).Contents (Elt F) → (⟨S12x1, .i32⟩ : BufTy).Contents (Elt F) → (⟨S12x1, .i32⟩ : BufTy).Contents (Elt F)),
    StableHlo.ternary main_v30 main_v32 main_v28 main_v33 (select : (⟨S12x1, .i1⟩ : BufTy).Contents (Elt F) → (⟨S12x1, .i32⟩ : BufTy).Contents (Elt F) → (⟨S12x1, .i32⟩ : BufTy).Contents (Elt F) → (⟨S12x1, .i32⟩ : BufTy).Contents (Elt F)),
    StableHlo.nullary main_c_4 (constantI S_ 32 0#32),
    StableHlo.unary main_c_4 main_v34 (broadcastInDim S12x8192 ![] bcast_S_S12x8192 : (⟨S_, .i32⟩ : BufTy).Contents (Elt F) → (⟨S12x8192, .i32⟩ : BufTy).Contents (Elt F)),
    StableHlo.binary main_v26 main_v34 main_v35 (cmpi .slt : (⟨S12x8192, .i32⟩ : BufTy).Contents (Elt F) → (⟨S12x8192, .i32⟩ : BufTy).Contents (Elt F) → (⟨S12x8192, .i1⟩ : BufTy).Contents (Elt F)),
    StableHlo.nullary main_c_5 (constantI S_ 32 64#32),
    StableHlo.unary main_c_5 main_v36 (broadcastInDim S12x8192 ![] bcast_S_S12x8192 : (⟨S_, .i32⟩ : BufTy).Contents (Elt F) → (⟨S12x8192, .i32⟩ : BufTy).Contents (Elt F)),
    StableHlo.binary main_v26 main_v36 main_v37 (addi : (⟨S12x8192, .i32⟩ : BufTy).Contents (Elt F) → (⟨S12x8192, .i32⟩ : BufTy).Contents (Elt F) → (⟨S12x8192, .i32⟩ : BufTy).Contents (Elt F)),
    StableHlo.ternary main_v35 main_v37 main_v26 main_v38 (select : (⟨S12x8192, .i1⟩ : BufTy).Contents (Elt F) → (⟨S12x8192, .i32⟩ : BufTy).Contents (Elt F) → (⟨S12x8192, .i32⟩ : BufTy).Contents (Elt F) → (⟨S12x8192, .i32⟩ : BufTy).Contents (Elt F)),
    StableHlo.unary main_v33 main_v39 (broadcastInDim S12x8192 ![0, 1] bcast_S12x1_S12x8192_0_1 : (⟨S12x1, .i32⟩ : BufTy).Contents (Elt F) → (⟨S12x8192, .i32⟩ : BufTy).Contents (Elt F)),
    StableHlo.unary main_v39 main_v40 (broadcastInDim S12x8192x1 ![0, 1] bcast_S12x8192_S12x8192x1_0_1 : (⟨S12x8192, .i32⟩ : BufTy).Contents (Elt F) → (⟨S12x8192x1, .i32⟩ : BufTy).Contents (Elt F)),
    StableHlo.unary main_v38 main_v41 (broadcastInDim S12x8192x1 ![0, 1] bcast_S12x8192_S12x8192x1_0_1 : (⟨S12x8192, .i32⟩ : BufTy).Contents (Elt F) → (⟨S12x8192x1, .i32⟩ : BufTy).Contents (Elt F)),
    StableHlo.binary main_v40 main_v41 main_v42 ((fun a b => concatenate S12x8192x2 2 [⟨S12x8192x1, a⟩, ⟨S12x8192x1, b⟩] concatenates_S12x8192x1_S12x8192x1_S12x8192x2_d2) : (⟨S12x8192x1, .i32⟩ : BufTy).Contents (Elt F) → (⟨S12x8192x1, .i32⟩ : BufTy).Contents (Elt F) → (⟨S12x8192x2, .i32⟩ : BufTy).Contents (Elt F)),
    StableHlo.binary main_arg2 main_v42 main_v43 ((fun x i => Host.gather gather_S12x64x64_S12x8192x2_S12x8192x64_2_01_n_n_01_2_1164 x i) : (⟨S12x64x64, .f32⟩ : BufTy).Contents (Elt F) → (⟨S12x8192x2, .i32⟩ : BufTy).Contents (Elt F) → (⟨S12x8192x64, .f32⟩ : BufTy).Contents (Elt F)),
    StableHlo.binary main_v7 main_v43 main_v44 (subf : (⟨S12x8192x64, .f32⟩ : BufTy).Contents (Elt F) → (⟨S12x8192x64, .f32⟩ : BufTy).Contents (Elt F) → (⟨S12x8192x64, .f32⟩ : BufTy).Contents (Elt F)),
    StableHlo.binary main_v44 main_v44 main_v45 (mulf : (⟨S12x8192x64, .f32⟩ : BufTy).Contents (Elt F) → (⟨S12x8192x64, .f32⟩ : BufTy).Contents (Elt F) → (⟨S12x8192x64, .f32⟩ : BufTy).Contents (Elt F)),
    StableHlo.nullary main_cst_6 (constant S_ .f32 0x00000000#32),
    StableHlo.binary main_v45 main_cst_6 main_v46 ((fun x v => Host.reduceAdd x v reducesTo_S12x8192x64_S12x64_d1 h_S_) : (⟨S12x8192x64, .f32⟩ : BufTy).Contents (Elt F) → (⟨S_, .f32⟩ : BufTy).Contents (Elt F) → (⟨S12x64, .f32⟩ : BufTy).Contents (Elt F)),
    StableHlo.unary main_v46 main_v47 (broadcastInDim S12x1x64 ![0, 2] bcast_S12x64_S12x1x64_0_2 : (⟨S12x64, .f32⟩ : BufTy).Contents (Elt F) → (⟨S12x1x64, .f32⟩ : BufTy).Contents (Elt F)) ]

/-- They touch TensorCore references only. -/
theorem post_sub  : (postOps  : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., binary_bufs_sub .., nullary_bufs_sub .., binary_bufs_sub .., unary_bufs_sub ..⟩

/-- They determine their results. -/
theorem post_fresh  : (postOps  : List (HloOp τ sig (Elt F))).Forall fun op => op.fresh = ∅ :=
  forall_fresh_of_map rfl

/-- The references they write. -/
abbrev postW  : List (Ref sig .tc) := [main_v27, main_v28, main_c, main_v29, main_v30, main_c_3, main_v31, main_v32, main_v33, main_c_4, main_v34, main_v35, main_c_5, main_v36, main_v37, main_v38, main_v39, main_v40, main_v41, main_v42, main_v43, main_v44, main_v45, main_cst_6, main_v46, main_v47]

/-- They write those. -/
theorem post_writes  : (postOps  : List (HloOp τ sig (Elt F))).Forall fun op => op.writes ⊆ ((postW ).map (Proc.devRef (τ := τ) .tc)).toFinset :=
  forall_writes_sub_of_map rfl

/-- All of the program's operations. -/
def ops : List (HloOp τ sig (Elt F)) :=
  preOps ++
  (stepOps (.of main_v7) (.of main_v15) main_call0 ++
  (stepOps (.of main_v7) (.of main_v16) main_call1 ++
  (stepOps (.of main_v7) (.of main_v17) main_call2 ++
  (stepOps (.of main_v7) (.of main_v18) main_call3 ++
  (stepOps (.of main_v7) (.of main_v19) main_call4 ++
  (stepOps (.of main_v7) (.of main_v20) main_call5 ++
  (stepOps (.of main_v7) (.of main_v21) main_call6 ++
  (stepOps (.of main_v7) (.of main_v22) main_call7 ++
  (stepOps (.of main_v7) (.of main_v23) main_call8 ++
  (distOps (.of main_v7) (.of main_v24) main_call9 ++
  (amaxOps (.of main_v25) main_call10 ++
  (postOps))))))))))))

/-- The program is that straight line. -/
theorem main_eq (c : Dev nD) : main (F := F) c = seq ops := rfl

/-- Nothing is scoped. -/
theorem scopedRefs_eq : (Finset.univ.filter fun b : Ref sig .tc => b.isScoped) = ∅ := by decide +kernel
/-- No semaphore is scoped. -/
theorem scopedSems_eq : (Finset.univ.filter fun sm : SemLoc sig => sm.isScoped .tc) = ∅ := by decide +kernel

/-- What holds on both parts of a line holds on the line. -/
theorem forall_app {α : Type} {p : α → Prop} {l₁ l₂ : List α} (h₁ : l₁.Forall p) (h₂ : l₂.Forall p) : (l₁ ++ l₂).Forall p := by
  rw [List.forall_iff_forall_mem] at *
  intro a ha
  rcases List.mem_append.mp ha with h | h
  · exact h₁ a h
  · exact h₂ a h

/-- The program touches TensorCore references only. -/
theorem ops_sub : (ops : List (HloOp τ sig (Elt F))).Forall fun op => op.bufs ⊆ tcRefs τ sig :=
  forall_app pre_sub <| forall_app (step_sub _ _ _) <| forall_app (step_sub _ _ _) <| forall_app (step_sub _ _ _) <| forall_app (step_sub _ _ _) <| forall_app (step_sub _ _ _) <| forall_app (step_sub _ _ _) <| forall_app (step_sub _ _ _) <| forall_app (step_sub _ _ _) <| forall_app (step_sub _ _ _) <| forall_app (dist_sub _ _ _) <| forall_app (amax_sub _ _) <| post_sub

/-- The program's operations determine their results. -/
theorem ops_fresh : (ops : List (HloOp τ sig (Elt F))).Forall fun op => op.fresh = ∅ :=
  forall_app pre_fresh <| forall_app (step_fresh _ _ _) <| forall_app (step_fresh _ _ _) <| forall_app (step_fresh _ _ _) <| forall_app (step_fresh _ _ _) <| forall_app (step_fresh _ _ _) <| forall_app (step_fresh _ _ _) <| forall_app (step_fresh _ _ _) <| forall_app (step_fresh _ _ _) <| forall_app (step_fresh _ _ _) <| forall_app (dist_fresh _ _ _) <| forall_app (amax_fresh _ _) <| post_fresh

/-- The run: every buffer ends at the operations' results folded over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => List.forall_iff_forall_mem.mp ops_fresh)

/-- A line in two parts is the second after the first. -/
theorem after_app (l₁ l₂ : List (HloOp τ sig (Elt F))) (V : Valuation τ sig (Elt F)) : after (l₁ ++ l₂) V = after l₂ (after l₁ V) := by
  induction l₁ generalizing V with
  | nil => rfl
  | cons op l ih => rw [List.cons_append, after_cons, after_cons, ih]

/-! ## What the parts compute -/

/-- The tokens normalised. -/
def rKr (x : FVec F S12x8192x64 .f32) : FVec F S12x8192x64 .f32 :=
  Host.divf x (broadcastInDim S12x8192x64 ![0, 1, 2] bcast_S12x8192x1_S12x8192x64_0_1_2
    (maximumf (Host.sqrt (broadcastInDim S12x8192x1 ![0, 1] bcast_S12x8192_S12x8192x1_0_1
      (Host.reduceAdd (mulf x x) (constant S_ .f32 0x00000000#32) reducesTo_S12x8192x64_S12x8192_d2 h_S_)))
      (broadcastInDim S12x8192x1 ![] bcast_S_S12x8192x1 (constant S_ .f32 0x2B8CBCCC#32))))

/-- Means normalised. -/
def rNm (x : FVec F S12x64x64 .f32) : FVec F S12x64x64 .f32 :=
  Host.divf x (broadcastInDim S12x64x64 ![0, 1, 2] bcast_S12x64x1_S12x64x64_0_1_2
    (maximumf (Host.sqrt (broadcastInDim S12x64x1 ![0, 1] bcast_S12x64_S12x64x1_0_1
      (Host.reduceAdd (mulf x x) (constant S_ .f32 0x00000000#32) reducesTo_S12x64x64_S12x64_d2 h_S_)))
      (broadcastInDim S12x64x1 ![] bcast_S_S12x64x1 (constant S_ .f32 0x2B8CBCCC#32))))

/-- The distances. -/
def rDs (kr : FVec F S12x8192x64 .f32) (mn : FVec F S12x64x64 .f32) : FVec F S12x8192x64 .f32 :=
  Host.dotGeneral dot_S12x8192x64_S12x64x64_S12x8192x64_2_2_1_1_0_0 none kr mn

/-- The nearest cluster. -/
def rBk (d : FVec F S12x8192x64 .f32) : IVec S12x8192 32 := fun j =>
  (Host.argReduce reducer_argmax_f32_i32 d (iotaInDim S12x8192x64 32 2) (constant S_ .f32 0xFF800000#32) (constantI S_ 32 0#32) reducesTo_S12x8192x64_S12x8192_d2 h_S_ j).2

/-- Its one-hot row. -/
def rOh (b : IVec S12x8192 32) : FVec F S12x8192x64 .f32 :=
  uitofp .f32 (cmpi .eq (broadcastInDim S12x8192x64 ![0, 1, 2] bcast_S12x8192x1_S12x8192x64_0_1_2 (broadcastInDim S12x8192x1 ![0, 1] bcast_S12x8192_S12x8192x1_0_1 b))
    (broadcastInDim S12x8192x64 ![0, 1, 2] bcast_S1x1x64_S12x8192x64_0_1_2 (iotaInDim S1x1x64 32 2)))

/-- The new means from the one-hot rows. -/
def rUp (kr : FVec F S12x8192x64 .f32) (mn : FVec F S12x64x64 .f32) (oh : FVec F S12x8192x64 .f32) : FVec F S12x64x64 .f32 :=
  select (broadcastInDim S12x64x64 ![0, 1, 2] bcast_S12x64x1_S12x64x64_0_1_2 (broadcastInDim S12x64x1 ![0, 1] bcast_S12x64_S12x64x1_0_1
      (cmpf .oeq (Host.reduceAdd oh (constant S_ .f32 0x00000000#32) reducesTo_S12x8192x64_S12x64_d1 h_S_)
        (broadcastInDim S12x64 ![] bcast_S_S12x64 (constant S_ .f32 0x00000000#32)))))
    mn (rNm (Host.dotGeneral dot_S12x8192x64_S12x8192x64_S12x64x64_1_1_2_2_0_0 none oh kr))

/-- One step of k-means. -/
def rStep (kr : FVec F S12x8192x64 .f32) (mn : FVec F S12x64x64 .f32) : FVec F S12x64x64 .f32 :=
  rUp kr mn (rOh (rBk (rDs kr mn)))

/-- The head's number beside the cluster's, wrapped as an indexing does. -/
def rIx (b : IVec S12x8192 32) : IVec S12x8192x2 32 :=
  let h : IVec S12x1 32 := broadcastInDim S12x1 ![0] bcast_S12_S12x1_0 (iotaInDim S12 32 0)
  concatenate S12x8192x2 2
    [⟨S12x8192x1, broadcastInDim S12x8192x1 ![0, 1] bcast_S12x8192_S12x8192x1_0_1 (broadcastInDim S12x8192 ![0, 1] bcast_S12x1_S12x8192_0_1
        (select (cmpi .slt h (broadcastInDim S12x1 ![] bcast_S_S12x1 (constantI S_ 32 0#32))) (addi h (broadcastInDim S12x1 ![] bcast_S_S12x1 (constantI S_ 32 12#32))) h))⟩,
     ⟨S12x8192x1, broadcastInDim S12x8192x1 ![0, 1] bcast_S12x8192_S12x8192x1_0_1
        (select (cmpi .slt b (broadcastInDim S12x8192 ![] bcast_S_S12x8192 (constantI S_ 32 0#32))) (addi b (broadcastInDim S12x8192 ![] bcast_S_S12x8192 (constantI S_ 32 64#32))) b)⟩]
    concatenates_S12x8192x1_S12x8192x1_S12x8192x2_d2

/-- The loss lanes from the tokens and their clusters' means. -/
def rLs (kr : FVec F S12x8192x64 .f32) (b : IVec S12x8192 32) (mb : FVec F S12x64x64 .f32) : FVec F S12x1x64 .f32 :=
  let e : FVec F S12x8192x64 .f32 := subf kr (Host.gather gather_S12x64x64_S12x8192x2_S12x8192x64_2_01_n_n_01_2_1164 mb (rIx b))
  broadcastInDim S12x1x64 ![0, 2] bcast_S12x64_S12x1x64_0_2 (Host.reduceAdd (mulf e e) (constant S_ .f32 0x00000000#32) reducesTo_S12x8192x64_S12x64_d1 h_S_)

variable (V : Valuation τ sig (Elt F))

/-- The tokens after the first part. -/
theorem pre_v7 : after preOps V (main_v7 : DevRef τ sig) = rKr (V (main_arg0 : DevRef τ sig)) := by
  after_results
  rfl
/-- The start means after the first part. -/
theorem pre_v15 : after preOps V (main_v15 : DevRef τ sig) = rNm (V (main_arg1 : DevRef τ sig)) := by
  after_results
  rfl
/-- Step 1 of k-means. -/
theorem step_0 : after (stepOps (.of main_v7) (.of main_v15) main_call0) V (main_v16 : DevRef τ sig) = rStep (V (main_v7 : DevRef τ sig)) (V (main_v15 : DevRef τ sig)) := by
  after_results_simp
  simp only [TRef.ofBuf_toBuf]
  rfl
/-- Step 2 of k-means. -/
theorem step_1 : after (stepOps (.of main_v7) (.of main_v16) main_call1) V (main_v17 : DevRef τ sig) = rStep (V (main_v7 : DevRef τ sig)) (V (main_v16 : DevRef τ sig)) := by
  after_results_simp
  simp only [TRef.ofBuf_toBuf]
  rfl
/-- Step 3 of k-means. -/
theorem step_2 : after (stepOps (.of main_v7) (.of main_v17) main_call2) V (main_v18 : DevRef τ sig) = rStep (V (main_v7 : DevRef τ sig)) (V (main_v17 : DevRef τ sig)) := by
  after_results_simp
  simp only [TRef.ofBuf_toBuf]
  rfl
/-- Step 4 of k-means. -/
theorem step_3 : after (stepOps (.of main_v7) (.of main_v18) main_call3) V (main_v19 : DevRef τ sig) = rStep (V (main_v7 : DevRef τ sig)) (V (main_v18 : DevRef τ sig)) := by
  after_results_simp
  simp only [TRef.ofBuf_toBuf]
  rfl
/-- Step 5 of k-means. -/
theorem step_4 : after (stepOps (.of main_v7) (.of main_v19) main_call4) V (main_v20 : DevRef τ sig) = rStep (V (main_v7 : DevRef τ sig)) (V (main_v19 : DevRef τ sig)) := by
  after_results_simp
  simp only [TRef.ofBuf_toBuf]
  rfl
/-- Step 6 of k-means. -/
theorem step_5 : after (stepOps (.of main_v7) (.of main_v20) main_call5) V (main_v21 : DevRef τ sig) = rStep (V (main_v7 : DevRef τ sig)) (V (main_v20 : DevRef τ sig)) := by
  after_results_simp
  simp only [TRef.ofBuf_toBuf]
  rfl
/-- Step 7 of k-means. -/
theorem step_6 : after (stepOps (.of main_v7) (.of main_v21) main_call6) V (main_v22 : DevRef τ sig) = rStep (V (main_v7 : DevRef τ sig)) (V (main_v21 : DevRef τ sig)) := by
  after_results_simp
  simp only [TRef.ofBuf_toBuf]
  rfl
/-- Step 8 of k-means. -/
theorem step_7 : after (stepOps (.of main_v7) (.of main_v22) main_call7) V (main_v23 : DevRef τ sig) = rStep (V (main_v7 : DevRef τ sig)) (V (main_v22 : DevRef τ sig)) := by
  after_results_simp
  simp only [TRef.ofBuf_toBuf]
  rfl
/-- Step 9 of k-means. -/
theorem step_8 : after (stepOps (.of main_v7) (.of main_v23) main_call8) V (main_v24 : DevRef τ sig) = rStep (V (main_v7 : DevRef τ sig)) (V (main_v23 : DevRef τ sig)) := by
  after_results_simp
  simp only [TRef.ofBuf_toBuf]
  rfl
/-- The last distances. -/
theorem dist_v25 : after (distOps (.of main_v7) (.of main_v24) main_call9) V (main_v25 : DevRef τ sig) = rDs (V (main_v7 : DevRef τ sig)) (V (main_v24 : DevRef τ sig)) := by
  after_results
  rfl
/-- The last arg-max. -/
theorem amax_v26 : after (amaxOps (.of main_v25) main_call10) V (main_v26 : DevRef τ sig) = rBk (V (main_v25 : DevRef τ sig)) := by
  after_results
  rfl
/-- The loss. -/
theorem post_v47 : after postOps V (main_v47 : DevRef τ sig) = rLs (V (main_v7 : DevRef τ sig)) (V (main_v26 : DevRef τ sig)) (V (main_arg2 : DevRef τ sig)) := by
  after_results
  rfl

/-- Part 0 keeps what later parts read. -/
theorem keep_0 : after (preOps) V (main_arg0 : DevRef τ sig) = V (main_arg0 : DevRef τ sig)
    ∧ after (preOps) V (main_arg1 : DevRef τ sig) = V (main_arg1 : DevRef τ sig)
    ∧ after (preOps) V (main_arg2 : DevRef τ sig) = V (main_arg2 : DevRef τ sig) :=
  ⟨after_of_writes_sub _ V pre_writes (by decide +kernel), after_of_writes_sub _ V pre_writes (by decide +kernel), after_of_writes_sub _ V pre_writes (by decide +kernel)⟩
/-- Part 1 keeps what later parts read. -/
theorem keep_1 : after (stepOps (.of main_v7) (.of main_v15) main_call0) V (main_arg0 : DevRef τ sig) = V (main_arg0 : DevRef τ sig)
    ∧ after (stepOps (.of main_v7) (.of main_v15) main_call0) V (main_arg1 : DevRef τ sig) = V (main_arg1 : DevRef τ sig)
    ∧ after (stepOps (.of main_v7) (.of main_v15) main_call0) V (main_arg2 : DevRef τ sig) = V (main_arg2 : DevRef τ sig)
    ∧ after (stepOps (.of main_v7) (.of main_v15) main_call0) V (main_v7 : DevRef τ sig) = V (main_v7 : DevRef τ sig) :=
  ⟨after_of_writes_sub _ V (step_writes _ _ _) (by decide +kernel), after_of_writes_sub _ V (step_writes _ _ _) (by decide +kernel), after_of_writes_sub _ V (step_writes _ _ _) (by decide +kernel), after_of_writes_sub _ V (step_writes _ _ _) (by decide +kernel)⟩
/-- Part 2 keeps what later parts read. -/
theorem keep_2 : after (stepOps (.of main_v7) (.of main_v16) main_call1) V (main_arg0 : DevRef τ sig) = V (main_arg0 : DevRef τ sig)
    ∧ after (stepOps (.of main_v7) (.of main_v16) main_call1) V (main_arg1 : DevRef τ sig) = V (main_arg1 : DevRef τ sig)
    ∧ after (stepOps (.of main_v7) (.of main_v16) main_call1) V (main_arg2 : DevRef τ sig) = V (main_arg2 : DevRef τ sig)
    ∧ after (stepOps (.of main_v7) (.of main_v16) main_call1) V (main_v7 : DevRef τ sig) = V (main_v7 : DevRef τ sig) :=
  ⟨after_of_writes_sub _ V (step_writes _ _ _) (by decide +kernel), after_of_writes_sub _ V (step_writes _ _ _) (by decide +kernel), after_of_writes_sub _ V (step_writes _ _ _) (by decide +kernel), after_of_writes_sub _ V (step_writes _ _ _) (by decide +kernel)⟩
/-- Part 3 keeps what later parts read. -/
theorem keep_3 : after (stepOps (.of main_v7) (.of main_v17) main_call2) V (main_arg0 : DevRef τ sig) = V (main_arg0 : DevRef τ sig)
    ∧ after (stepOps (.of main_v7) (.of main_v17) main_call2) V (main_arg1 : DevRef τ sig) = V (main_arg1 : DevRef τ sig)
    ∧ after (stepOps (.of main_v7) (.of main_v17) main_call2) V (main_arg2 : DevRef τ sig) = V (main_arg2 : DevRef τ sig)
    ∧ after (stepOps (.of main_v7) (.of main_v17) main_call2) V (main_v7 : DevRef τ sig) = V (main_v7 : DevRef τ sig) :=
  ⟨after_of_writes_sub _ V (step_writes _ _ _) (by decide +kernel), after_of_writes_sub _ V (step_writes _ _ _) (by decide +kernel), after_of_writes_sub _ V (step_writes _ _ _) (by decide +kernel), after_of_writes_sub _ V (step_writes _ _ _) (by decide +kernel)⟩
/-- Part 4 keeps what later parts read. -/
theorem keep_4 : after (stepOps (.of main_v7) (.of main_v18) main_call3) V (main_arg0 : DevRef τ sig) = V (main_arg0 : DevRef τ sig)
    ∧ after (stepOps (.of main_v7) (.of main_v18) main_call3) V (main_arg1 : DevRef τ sig) = V (main_arg1 : DevRef τ sig)
    ∧ after (stepOps (.of main_v7) (.of main_v18) main_call3) V (main_arg2 : DevRef τ sig) = V (main_arg2 : DevRef τ sig)
    ∧ after (stepOps (.of main_v7) (.of main_v18) main_call3) V (main_v7 : DevRef τ sig) = V (main_v7 : DevRef τ sig) :=
  ⟨after_of_writes_sub _ V (step_writes _ _ _) (by decide +kernel), after_of_writes_sub _ V (step_writes _ _ _) (by decide +kernel), after_of_writes_sub _ V (step_writes _ _ _) (by decide +kernel), after_of_writes_sub _ V (step_writes _ _ _) (by decide +kernel)⟩
/-- Part 5 keeps what later parts read. -/
theorem keep_5 : after (stepOps (.of main_v7) (.of main_v19) main_call4) V (main_arg0 : DevRef τ sig) = V (main_arg0 : DevRef τ sig)
    ∧ after (stepOps (.of main_v7) (.of main_v19) main_call4) V (main_arg1 : DevRef τ sig) = V (main_arg1 : DevRef τ sig)
    ∧ after (stepOps (.of main_v7) (.of main_v19) main_call4) V (main_arg2 : DevRef τ sig) = V (main_arg2 : DevRef τ sig)
    ∧ after (stepOps (.of main_v7) (.of main_v19) main_call4) V (main_v7 : DevRef τ sig) = V (main_v7 : DevRef τ sig) :=
  ⟨after_of_writes_sub _ V (step_writes _ _ _) (by decide +kernel), after_of_writes_sub _ V (step_writes _ _ _) (by decide +kernel), after_of_writes_sub _ V (step_writes _ _ _) (by decide +kernel), after_of_writes_sub _ V (step_writes _ _ _) (by decide +kernel)⟩
/-- Part 6 keeps what later parts read. -/
theorem keep_6 : after (stepOps (.of main_v7) (.of main_v20) main_call5) V (main_arg0 : DevRef τ sig) = V (main_arg0 : DevRef τ sig)
    ∧ after (stepOps (.of main_v7) (.of main_v20) main_call5) V (main_arg1 : DevRef τ sig) = V (main_arg1 : DevRef τ sig)
    ∧ after (stepOps (.of main_v7) (.of main_v20) main_call5) V (main_arg2 : DevRef τ sig) = V (main_arg2 : DevRef τ sig)
    ∧ after (stepOps (.of main_v7) (.of main_v20) main_call5) V (main_v7 : DevRef τ sig) = V (main_v7 : DevRef τ sig) :=
  ⟨after_of_writes_sub _ V (step_writes _ _ _) (by decide +kernel), after_of_writes_sub _ V (step_writes _ _ _) (by decide +kernel), after_of_writes_sub _ V (step_writes _ _ _) (by decide +kernel), after_of_writes_sub _ V (step_writes _ _ _) (by decide +kernel)⟩
/-- Part 7 keeps what later parts read. -/
theorem keep_7 : after (stepOps (.of main_v7) (.of main_v21) main_call6) V (main_arg0 : DevRef τ sig) = V (main_arg0 : DevRef τ sig)
    ∧ after (stepOps (.of main_v7) (.of main_v21) main_call6) V (main_arg1 : DevRef τ sig) = V (main_arg1 : DevRef τ sig)
    ∧ after (stepOps (.of main_v7) (.of main_v21) main_call6) V (main_arg2 : DevRef τ sig) = V (main_arg2 : DevRef τ sig)
    ∧ after (stepOps (.of main_v7) (.of main_v21) main_call6) V (main_v7 : DevRef τ sig) = V (main_v7 : DevRef τ sig) :=
  ⟨after_of_writes_sub _ V (step_writes _ _ _) (by decide +kernel), after_of_writes_sub _ V (step_writes _ _ _) (by decide +kernel), after_of_writes_sub _ V (step_writes _ _ _) (by decide +kernel), after_of_writes_sub _ V (step_writes _ _ _) (by decide +kernel)⟩
/-- Part 8 keeps what later parts read. -/
theorem keep_8 : after (stepOps (.of main_v7) (.of main_v22) main_call7) V (main_arg0 : DevRef τ sig) = V (main_arg0 : DevRef τ sig)
    ∧ after (stepOps (.of main_v7) (.of main_v22) main_call7) V (main_arg1 : DevRef τ sig) = V (main_arg1 : DevRef τ sig)
    ∧ after (stepOps (.of main_v7) (.of main_v22) main_call7) V (main_arg2 : DevRef τ sig) = V (main_arg2 : DevRef τ sig)
    ∧ after (stepOps (.of main_v7) (.of main_v22) main_call7) V (main_v7 : DevRef τ sig) = V (main_v7 : DevRef τ sig) :=
  ⟨after_of_writes_sub _ V (step_writes _ _ _) (by decide +kernel), after_of_writes_sub _ V (step_writes _ _ _) (by decide +kernel), after_of_writes_sub _ V (step_writes _ _ _) (by decide +kernel), after_of_writes_sub _ V (step_writes _ _ _) (by decide +kernel)⟩
/-- Part 9 keeps what later parts read. -/
theorem keep_9 : after (stepOps (.of main_v7) (.of main_v23) main_call8) V (main_arg0 : DevRef τ sig) = V (main_arg0 : DevRef τ sig)
    ∧ after (stepOps (.of main_v7) (.of main_v23) main_call8) V (main_arg1 : DevRef τ sig) = V (main_arg1 : DevRef τ sig)
    ∧ after (stepOps (.of main_v7) (.of main_v23) main_call8) V (main_arg2 : DevRef τ sig) = V (main_arg2 : DevRef τ sig)
    ∧ after (stepOps (.of main_v7) (.of main_v23) main_call8) V (main_v7 : DevRef τ sig) = V (main_v7 : DevRef τ sig) :=
  ⟨after_of_writes_sub _ V (step_writes _ _ _) (by decide +kernel), after_of_writes_sub _ V (step_writes _ _ _) (by decide +kernel), after_of_writes_sub _ V (step_writes _ _ _) (by decide +kernel), after_of_writes_sub _ V (step_writes _ _ _) (by decide +kernel)⟩
/-- Part 10 keeps what later parts read. -/
theorem keep_10 : after (distOps (.of main_v7) (.of main_v24) main_call9) V (main_arg0 : DevRef τ sig) = V (main_arg0 : DevRef τ sig)
    ∧ after (distOps (.of main_v7) (.of main_v24) main_call9) V (main_arg1 : DevRef τ sig) = V (main_arg1 : DevRef τ sig)
    ∧ after (distOps (.of main_v7) (.of main_v24) main_call9) V (main_arg2 : DevRef τ sig) = V (main_arg2 : DevRef τ sig)
    ∧ after (distOps (.of main_v7) (.of main_v24) main_call9) V (main_v7 : DevRef τ sig) = V (main_v7 : DevRef τ sig) :=
  ⟨after_of_writes_sub _ V (dist_writes _ _ _) (by decide +kernel), after_of_writes_sub _ V (dist_writes _ _ _) (by decide +kernel), after_of_writes_sub _ V (dist_writes _ _ _) (by decide +kernel), after_of_writes_sub _ V (dist_writes _ _ _) (by decide +kernel)⟩
/-- Part 11 keeps what later parts read. -/
theorem keep_11 : after (amaxOps (.of main_v25) main_call10) V (main_arg0 : DevRef τ sig) = V (main_arg0 : DevRef τ sig)
    ∧ after (amaxOps (.of main_v25) main_call10) V (main_arg1 : DevRef τ sig) = V (main_arg1 : DevRef τ sig)
    ∧ after (amaxOps (.of main_v25) main_call10) V (main_arg2 : DevRef τ sig) = V (main_arg2 : DevRef τ sig)
    ∧ after (amaxOps (.of main_v25) main_call10) V (main_v7 : DevRef τ sig) = V (main_v7 : DevRef τ sig)
    ∧ after (amaxOps (.of main_v25) main_call10) V (main_v25 : DevRef τ sig) = V (main_v25 : DevRef τ sig) :=
  ⟨after_of_writes_sub _ V (amax_writes _ _) (by decide +kernel), after_of_writes_sub _ V (amax_writes _ _) (by decide +kernel), after_of_writes_sub _ V (amax_writes _ _) (by decide +kernel), after_of_writes_sub _ V (amax_writes _ _) (by decide +kernel), after_of_writes_sub _ V (amax_writes _ _) (by decide +kernel)⟩
/-- Part 12 keeps what later parts read. -/
theorem keep_12 : after (postOps) V (main_arg0 : DevRef τ sig) = V (main_arg0 : DevRef τ sig)
    ∧ after (postOps) V (main_arg1 : DevRef τ sig) = V (main_arg1 : DevRef τ sig)
    ∧ after (postOps) V (main_arg2 : DevRef τ sig) = V (main_arg2 : DevRef τ sig)
    ∧ after (postOps) V (main_v7 : DevRef τ sig) = V (main_v7 : DevRef τ sig)
    ∧ after (postOps) V (main_v25 : DevRef τ sig) = V (main_v25 : DevRef τ sig)
    ∧ after (postOps) V (main_v26 : DevRef τ sig) = V (main_v26 : DevRef τ sig) :=
  ⟨after_of_writes_sub _ V post_writes (by decide +kernel), after_of_writes_sub _ V post_writes (by decide +kernel), after_of_writes_sub _ V post_writes (by decide +kernel), after_of_writes_sub _ V post_writes (by decide +kernel), after_of_writes_sub _ V post_writes (by decide +kernel), after_of_writes_sub _ V post_writes (by decide +kernel)⟩

/-- The means after `n` steps. -/
def rMn (kr : FVec F S12x8192x64 .f32) (mn : FVec F S12x64x64 .f32) : ℕ → FVec F S12x64x64 .f32
  | 0 => mn
  | n + 1 => rStep kr (rMn kr mn n)

/-- What the program's results and arguments hold at the end. -/
theorem values : after ops V (main_v25 : DevRef τ sig) = rDs (rKr (V (main_arg0 : DevRef τ sig))) (rMn (rKr (V (main_arg0 : DevRef τ sig))) (rNm (V (main_arg1 : DevRef τ sig))) 9)
    ∧ after ops V (main_v47 : DevRef τ sig) = rLs (rKr (V (main_arg0 : DevRef τ sig))) (rBk (rDs (rKr (V (main_arg0 : DevRef τ sig))) (rMn (rKr (V (main_arg0 : DevRef τ sig))) (rNm (V (main_arg1 : DevRef τ sig))) 9))) (V (main_arg2 : DevRef τ sig))
    ∧ after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig) := by
  unfold ops
  rw [after_app]
  have p7 := pre_v7 V
  have p15 := pre_v15 V
  obtain ⟨a0, a1, a2⟩ := keep_0 V
  generalize after preOps V = V0 at *
  rw [after_app]
  have s1 := step_0 V0
  obtain ⟨b0, b1, b2, b7⟩ := keep_1 V0
  generalize after (stepOps (.of main_v7) (.of main_v15) main_call0) V0 = V1 at *
  rw [a0] at b0; rw [a1] at b1; rw [a2] at b2; rw [p7] at b7; rw [p7, p15] at s1
  clear a0 a1 a2 p7 p15
  rename' b0 => a0, b1 => a1, b2 => a2, b7 => p7, s1 => p15
  rw [after_app]
  have s2 := step_1 V1
  obtain ⟨b0, b1, b2, b7⟩ := keep_2 V1
  generalize after (stepOps (.of main_v7) (.of main_v16) main_call1) V1 = V2 at *
  rw [a0] at b0; rw [a1] at b1; rw [a2] at b2; rw [p7] at b7; rw [p7, p15] at s2
  clear a0 a1 a2 p7 p15
  rename' b0 => a0, b1 => a1, b2 => a2, b7 => p7, s2 => p15
  rw [after_app]
  have s3 := step_2 V2
  obtain ⟨b0, b1, b2, b7⟩ := keep_3 V2
  generalize after (stepOps (.of main_v7) (.of main_v17) main_call2) V2 = V3 at *
  rw [a0] at b0; rw [a1] at b1; rw [a2] at b2; rw [p7] at b7; rw [p7, p15] at s3
  clear a0 a1 a2 p7 p15
  rename' b0 => a0, b1 => a1, b2 => a2, b7 => p7, s3 => p15
  rw [after_app]
  have s4 := step_3 V3
  obtain ⟨b0, b1, b2, b7⟩ := keep_4 V3
  generalize after (stepOps (.of main_v7) (.of main_v18) main_call3) V3 = V4 at *
  rw [a0] at b0; rw [a1] at b1; rw [a2] at b2; rw [p7] at b7; rw [p7, p15] at s4
  clear a0 a1 a2 p7 p15
  rename' b0 => a0, b1 => a1, b2 => a2, b7 => p7, s4 => p15
  rw [after_app]
  have s5 := step_4 V4
  obtain ⟨b0, b1, b2, b7⟩ := keep_5 V4
  generalize after (stepOps (.of main_v7) (.of main_v19) main_call4) V4 = V5 at *
  rw [a0] at b0; rw [a1] at b1; rw [a2] at b2; rw [p7] at b7; rw [p7, p15] at s5
  clear a0 a1 a2 p7 p15
  rename' b0 => a0, b1 => a1, b2 => a2, b7 => p7, s5 => p15
  rw [after_app]
  have s6 := step_5 V5
  obtain ⟨b0, b1, b2, b7⟩ := keep_6 V5
  generalize after (stepOps (.of main_v7) (.of main_v20) main_call5) V5 = V6 at *
  rw [a0] at b0; rw [a1] at b1; rw [a2] at b2; rw [p7] at b7; rw [p7, p15] at s6
  clear a0 a1 a2 p7 p15
  rename' b0 => a0, b1 => a1, b2 => a2, b7 => p7, s6 => p15
  rw [after_app]
  have s7 := step_6 V6
  obtain ⟨b0, b1, b2, b7⟩ := keep_7 V6
  generalize after (stepOps (.of main_v7) (.of main_v21) main_call6) V6 = V7 at *
  rw [a0] at b0; rw [a1] at b1; rw [a2] at b2; rw [p7] at b7; rw [p7, p15] at s7
  clear a0 a1 a2 p7 p15
  rename' b0 => a0, b1 => a1, b2 => a2, b7 => p7, s7 => p15
  rw [after_app]
  have s8 := step_7 V7
  obtain ⟨b0, b1, b2, b7⟩ := keep_8 V7
  generalize after (stepOps (.of main_v7) (.of main_v22) main_call7) V7 = V8 at *
  rw [a0] at b0; rw [a1] at b1; rw [a2] at b2; rw [p7] at b7; rw [p7, p15] at s8
  clear a0 a1 a2 p7 p15
  rename' b0 => a0, b1 => a1, b2 => a2, b7 => p7, s8 => p15
  rw [after_app]
  have s9 := step_8 V8
  obtain ⟨b0, b1, b2, b7⟩ := keep_9 V8
  generalize after (stepOps (.of main_v7) (.of main_v23) main_call8) V8 = V9 at *
  rw [a0] at b0; rw [a1] at b1; rw [a2] at b2; rw [p7] at b7; rw [p7, p15] at s9
  clear a0 a1 a2 p7 p15
  rename' b0 => a0, b1 => a1, b2 => a2, b7 => p7, s9 => p15
  rw [after_app]
  have s10 := dist_v25 V9
  obtain ⟨b0, b1, b2, b7⟩ := keep_10 V9
  generalize after (distOps (.of main_v7) (.of main_v24) main_call9) V9 = V10 at *
  rw [a0] at b0; rw [a1] at b1; rw [a2] at b2; rw [p7] at b7; rw [p7, p15] at s10
  clear a0 a1 a2 p7 p15
  rename' b0 => a0, b1 => a1, b2 => a2, b7 => p7, s10 => p25
  rw [after_app]
  have s11 := amax_v26 V10
  obtain ⟨b0, b1, b2, b7, b25⟩ := keep_11 V10
  generalize after (amaxOps (.of main_v25) main_call10) V10 = V11 at *
  rw [a0] at b0; rw [a1] at b1; rw [a2] at b2; rw [p7] at b7; rw [p25] at s11 b25
  clear a0 a1 a2 p7 p25
  rename' b0 => a0, b1 => a1, b2 => a2, b7 => p7, b25 => p25, s11 => p26
  have s12 := post_v47 V11
  obtain ⟨b0, b1, b2, b7, b25, b26⟩ := keep_12 V11
  generalize after (postOps) V11 = V12 at *
  rw [a0] at b0; rw [a1] at b1; rw [a2] at b2; rw [p7] at b7; rw [p25] at b25; rw [p7, p26, a2] at s12
  exact ⟨b25, s12, b0, b1, b2⟩

/-- The run, read: the distances, the loss lanes, the arguments unchanged, every counter at zero. -/
theorem run_main (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v25) = rDs (rKr (m ((c.tc : Thread nD τ).loc main_arg0))) (rMn (rKr (m ((c.tc : Thread nD τ).loc main_arg0))) (rNm (m ((c.tc : Thread nD τ).loc main_arg1))) 9)
      ∧ r.2.mem ((c.tc : Thread nD τ).loc main_v47) = rLs (rKr (m ((c.tc : Thread nD τ).loc main_arg0))) (rBk (rDs (rKr (m ((c.tc : Thread nD τ).loc main_arg0))) (rMn (rKr (m ((c.tc : Thread nD τ).loc main_arg0))) (rNm (m ((c.tc : Thread nD τ).loc main_arg1))) 9))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => ⟨(h c main_v25).trans (values _).1, (h c main_v47).trans (values _).2.1,
      (h c main_arg0).trans (values _).2.2.1, (h c main_arg1).trans (values _).2.2.2.1, (h c main_arg2).trans (values _).2.2.2.2⟩,
    Idealize.ShloMosaic.sem_eq_zero_of_no_sems (by decide) r.2⟩) (run m ρ)

end Cert.ReferenceIdeal.Hand

end
-- ==== Proof.RefVal.lean ====
module

public import proofs.«01_k».proof.Proof.KmMath
public import proofs.«01_k».proof.Proof.Ref
public import Idealize.ShloMosaic.Lib.Pipeline.ValueKit

@[expose] public section

set_option maxRecDepth 16384

noncomputable section

/-! The reference's values, read at coordinates. -/

namespace Cert.ReferenceIdeal.Hand

open Cert.ReferenceIdeal Cert.ReferenceIdeal.Gen Cert.Km
open Idealize.ShloMosaic Idealize.ShloMosaic.TcCoe

/-- A head of an array of tokens. -/
def hd (x : FVec Ideal S12x8192x64 .f32) (h : Fin 12) (t : Fin 8192) (k : Fin 64) : EReal := x (ix3 h t k)
/-- A head of an array of means. -/
def hm (x : FVec Ideal S12x64x64 .f32) (h : Fin 12) (c k : Fin 64) : EReal := x (ix3 h c k)

/-- The tokens normalised. -/
theorem rKr_at (x : FVec Ideal S12x8192x64 .f32) (h : Fin 12) (t : Fin 8192) (k : Fin 64) : rKr x (ix3 h t k) = nrm (hd x h t) k := by
  pointwise [rKr]
  rfl

/-- Means normalised. -/
theorem rNm_at (x : FVec Ideal S12x64x64 .f32) (h : Fin 12) (t k : Fin 64) : rNm x (ix3 h t k) = nrm (hm x h t) k := by
  pointwise [rNm]
  rfl

variable (kr : FVec Ideal S12x8192x64 .f32) (mn : FVec Ideal S12x64x64 .f32)

/-- The distances. -/
theorem rDs_at (h : Fin 12) (t : Fin 8192) (c : Fin 64) : rDs kr mn (ix3 h t c) = ds (hd kr h) (hm mn h) t c := by
  pointwise [rDs]
  rfl

/-- The reducer is one choice. -/
theorem reducer_eq : reducer_argmax_f32_i32 (F := Ideal) = pick := by
  funext a b
  unfold pick reducer_argmax_f32_i32
  have e1 : FloatOps.cmpf (F := Ideal) (φ := .f32) .ogt a.1 b.1 = if b.1 < a.1 then 1#1 else 0#1 := by
    by_cases h : b.1 < a.1 <;> simp [Ideal.cmpf_def, Ideal.cmp, h]
  have e2 : FloatOps.cmpf (F := Ideal) (φ := .f32) .une a.1 a.1 = 0#1 := by
    simp [Ideal.cmpf_def, Ideal.cmp]
  have e3 : FloatOps.cmpf (F := Ideal) (φ := .f32) .oeq a.1 b.1 = if a.1 = b.1 then 1#1 else 0#1 := by
    by_cases h : a.1 = b.1 <;> simp [Ideal.cmpf_def, Ideal.cmp, h]
  have e4 : IntOp.cmpi .slt a.2 b.2 = if a.2.slt b.2 then 1#1 else 0#1 := by
    simp only [IntOp.cmpi]
    cases a.2.slt b.2 <;> rfl
  simp only [e1, e2, e3, e4]
  by_cases h1 : b.1 < a.1 <;> by_cases h2 : a.1 = b.1 <;> by_cases h3 : a.2.slt b.2 <;> simp [h1, h2, h3, IntOp.ori, IntOp.andi, Scalar.select]

/-- The place an arg-max reduction leaves, where what it reduces at `j` are the pairs of `r`. -/
theorem argReduce_first {s t u : Shape} {axes : List (Fin s.rank)} (x : s.Idx → EReal) (y : s.Idx → BitVec 32) (ix : u.Idx → EReal) (iy : u.Idx → BitVec 32)
    (h : s.ReducesTo axes t) (hu : 0 < u.numel) (j : t.Idx) (r : Fin 64 → EReal)
    (hx : ∀ i, ix i = ⊥) (hy : ∀ i, iy i = 0#32)
    (hm : ∀ i, h.drop i = j → ∃ k : Fin 64, x i = r k ∧ y i = BitVec.ofNat 32 k.val)
    (ha : ∀ k : Fin 64, ∃ i, h.drop i = j ∧ x i = r k ∧ y i = BitVec.ofNat 32 k.val) :
    (Host.argReduce (F := Ideal) (φ := .f32) (reducer_argmax_f32_i32 (F := Ideal)) x y ix iy h hu j).2 = BitVec.ofNat 32 (first r).val := by
  rw [Ideal.argReduce_eq_reduce2, Host.reduce2_eq_foldl_fiber, reducer_eq, hx, hy]
  refine foldl_pick r _ (fun p hp => ?_) fun k => ?_
  · obtain ⟨n, hn, rfl⟩ := List.mem_map.mp hp
    obtain ⟨k, e1, e2⟩ := hm _ (by simpa using (List.mem_filter.mp hn).2)
    exact ⟨k, by rw [e1, e2]⟩
  · obtain ⟨i, e0, e1, e2⟩ := ha k
    refine List.mem_map.mpr ⟨s.rowMajor i, List.mem_filter.mpr ⟨List.mem_finRange _, ?_⟩, ?_⟩
    · simpa using e0
    · simp [e1, e2]

/-- The nearest cluster's number. -/
theorem rBk_first (d : FVec Ideal S12x8192x64 .f32) (h : Fin 12) (t : Fin 8192) : rBk d (ix2 h t) = BitVec.ofNat 32 (first fun c => d (ix3 h t c)).val := by
  have e : rBk d = fun j => (Host.argReduce (F := Ideal) (φ := .f32) reducer_argmax_f32_i32 d (iotaInDim S12x8192x64 32 2) (constant S_ .f32 0xFF800000#32) (constantI S_ 32 0#32) reducesTo_S12x8192x64_S12x8192_d2 h_S_ j).2 := rfl
  refine (congrFun e (ix2 h t)).trans (argReduce_first _ _ _ _ _ _ _ _ (fun i => ofBits_neg_inf) (fun i => rfl) (fun i hi => ?_) fun k => ?_)
  · have h0 := Shape.ReducesTo.drop_apply_val reducesTo_S12x8192x64_S12x8192_d2 i 0
    have h1 := Shape.ReducesTo.drop_apply_val reducesTo_S12x8192x64_S12x8192_d2 i 1
    rw [hi] at h0 h1
    refine ⟨i 2, congrArg d ?_, rfl⟩
    funext a
    match a with
    | ⟨0, _⟩ => exact Fin.ext h0.symm
    | ⟨1, _⟩ => exact Fin.ext h1.symm
    | ⟨2, _⟩ => rfl
  · refine ⟨ix3 h t k, ?_, rfl, rfl⟩
    funext a
    match a with
    | ⟨0, _⟩ => exact Fin.ext (Shape.ReducesTo.drop_apply_val reducesTo_S12x8192x64_S12x8192_d2 (ix3 h t k) 0)
    | ⟨1, _⟩ => exact Fin.ext (Shape.ReducesTo.drop_apply_val reducesTo_S12x8192x64_S12x8192_d2 (ix3 h t k) 1)

/-- The nearest cluster's number, of the distances. -/
theorem rBk_at (h : Fin 12) (t : Fin 8192) : rBk (rDs kr mn) (ix2 h t) = BitVec.ofNat 32 (first (ds (hd kr h) (hm mn h) t)).val := by
  rw [rBk_first]
  simp only [rDs_at]

/-- The one-hot rows. -/
theorem rOh_at (h : Fin 12) (t : Fin 8192) (c : Fin 64) : rOh (F := Ideal) (rBk (rDs kr mn)) (ix3 h t c) = oh (hd kr h) (hm mn h) t c := by
  have e : ∀ b : IVec S12x8192 32, rOh (F := Ideal) b (ix3 h t c) = FloatOps.uitofp FTy.f32 (IntOp.cmpi CmpIPredicate.eq (b (ix2 h t)) (BitVec.ofNat 32 c.val)) := fun b => by
    pointwise [rOh]
  rw [e, rBk_at]
  unfold oh
  have hinj : ∀ a b : Fin 64, (BitVec.ofNat 32 a.val = BitVec.ofNat 32 b.val) ↔ a = b := by decide
  by_cases h : first (ds (hd kr h) (hm mn h) t) = c
  · rw [if_pos h, h]
    simp [IntOp.cmpi]
    show (((1#1 : BitVec 1).toNat : ℝ) : EReal) = 1
    norm_num
  · rw [if_neg h]
    have h' := fun e => h ((hinj _ _).mp e)
    have hb : (BitVec.ofNat 32 (first (ds (hd kr _) (hm mn _) t)).val == BitVec.ofNat 32 c.val) = false := beq_eq_false_iff_ne.mpr h'
    simp only [IntOp.cmpi, hb]
    show (((0#1 : BitVec 1).toNat : ℝ) : EReal) = 0
    norm_num

/-- One step. -/
theorem rStep_at (h : Fin 12) (c d : Fin 64) : rStep kr mn (ix3 h c d) = stepM (hd kr h) (hm mn h) c d := by
  have e : ∀ o : FVec Ideal S12x8192x64 .f32, rUp kr mn o (ix3 h c d)
      = upd (fun c => ∑ t, o (ix3 h t c)) (fun c d => ∑ t, o (ix3 h t c) * kr (ix3 h t d)) (hm mn h) c d := fun o => by
    pointwise [rUp, rNm]
    rfl
  unfold rStep
  rw [e]
  simp only [rOh_at]
  rfl

/-- The means after `n` steps. -/
theorem rMn_at (h : Fin 12) (n : ℕ) : hm (rMn kr mn n) h = iter (hd kr h) (hm mn h) n := by
  induction n with
  | zero => rfl
  | succ n ih =>
    funext c d
    exact (rStep_at kr (rMn kr mn n) h c d).trans (by rw [ih]; rfl)

/-- The gather of the means' rows, at start indices in range. -/
theorem gather_at (mb : FVec Ideal S12x64x64 .f32) (ix : IVec S12x8192x2 32) (h : Fin 12) (t : Fin 8192) (d : Fin 64) (g : Fin 64)
    (e0 : ix (ix3 h t 0) = BitVec.ofNat 32 h.val) (e1 : ix (ix3 h t 1) = BitVec.ofNat 32 g.val) :
    Host.gather gather_S12x64x64_S12x8192x2_S12x8192x64_2_01_n_n_01_2_1164 mb ix (ix3 h t d) = mb (ix3 h g d) := by
  have v0 : ∀ a : Fin 12, min (BitVec.ofNat 32 a.val).toInt.toNat (12 - 1) = a.val := by decide
  have v1 : ∀ a : Fin 64, min (BitVec.ofNat 32 a.val).toInt.toNat (64 - 1) = a.val := by decide
  generalize hD : gather_S12x64x64_S12x8192x2_S12x8192x64_2_01_n_n_01_2_1164 = D
  have hs : D.startIndexMap = [0, 1] := by rw [← hD]; rfl
  have hb : D.operandBatchingDims = [] := by rw [← hD]; rfl
  have hc : D.collapsedSliceDims = [0, 1] := by rw [← hD]; rfl
  have si0 : ∀ q : Fin D.startIndexMap.length, q.val = 0 → D.siIdx (ix3 h t d) q = ix3 h t 0 := by
    subst hD
    intro q hq
    funext b
    refine Fin.ext ?_
    match b with
    | ⟨0, _⟩ => rfl
    | ⟨1, _⟩ => rfl
    | ⟨2, _⟩ => exact hq
  have si1 : ∀ q : Fin D.startIndexMap.length, q.val = 1 → D.siIdx (ix3 h t d) q = ix3 h t 1 := by
    subst hD
    intro q hq
    funext b
    refine Fin.ext ?_
    match b with
    | ⟨0, _⟩ => rfl
    | ⟨1, _⟩ => rfl
    | ⟨2, _⟩ => exact hq
  have off : D.offCoord (ix3 h t d) 2 = d.val := by
    subst hD
    rfl
  have sz : D.sliceSizes = ![1, 1, 64] := by rw [← hD]; rfl
  unfold Host.gather
  congr 1
  funext a
  refine Fin.ext ?_
  show D.start (ix3 h t d) ix a + D.batchCoord (ix3 h t d) a + D.offCoord (ix3 h t d) a = _
  rw [GatherDims.batchCoord_eq_zero _ _ _ (by rw [hb]; exact List.not_mem_nil), Nat.add_zero]
  match a with
  | ⟨0, _⟩ =>
    rw [GatherDims.offCoord_eq_zero _ _ _ (fun hk => ((GatherDims.mem_sKept _ _).mp hk).1 (by rw [hc]; first | exact List.mem_cons_self | exact List.mem_cons_of_mem _ List.mem_cons_self)), Nat.add_zero]
    unfold GatherDims.start
    rw [dif_pos (by rw [hs]; decide +revert), si0 _ (by simp only [hs]; rfl), e0, sz]
    exact v0 h
  | ⟨1, _⟩ =>
    rw [GatherDims.offCoord_eq_zero _ _ _ (fun hk => ((GatherDims.mem_sKept _ _).mp hk).1 (by rw [hc]; first | exact List.mem_cons_self | exact List.mem_cons_of_mem _ List.mem_cons_self)), Nat.add_zero]
    unfold GatherDims.start
    rw [dif_pos (by rw [hs]; decide +revert), si1 _ (by simp only [hs]; rfl), e1, sz]
    exact v1 g
  | ⟨2, _⟩ =>
    unfold GatherDims.start
    rw [dif_neg (by rw [hs]; decide +revert), Nat.zero_add]
    exact off

/-- The head's number of the start indices. -/
theorem rIx_head (b : IVec S12x8192 32) (h : Fin 12) (t : Fin 8192) : rIx b (ix3 h t 0) = BitVec.ofNat 32 h.val := by
  have e : rIx b (ix3 h t 0) = Scalar.select (IntOp.cmpi .slt (BitVec.ofNat 32 h.val) 0#32) (IntOp.addi (BitVec.ofNat 32 h.val) 12#32) (BitVec.ofNat 32 h.val) := by
    pointwise [rIx]
  have f : ∀ h : Fin 12, Scalar.select (IntOp.cmpi .slt (BitVec.ofNat 32 h.val) 0#32) (IntOp.addi (BitVec.ofNat 32 h.val) 12#32) (BitVec.ofNat 32 h.val) = BitVec.ofNat 32 h.val := by decide
  exact e.trans (f h)

/-- The cluster's number of the start indices. -/
theorem rIx_cluster (b : IVec S12x8192 32) (h : Fin 12) (t : Fin 8192) (g : Fin 64) (hg : b (ix2 h t) = BitVec.ofNat 32 g.val) : rIx b (ix3 h t 1) = BitVec.ofNat 32 g.val := by
  have e : rIx b (ix3 h t 1) = Scalar.select (IntOp.cmpi .slt (b (ix2 h t)) 0#32) (IntOp.addi (b (ix2 h t)) 64#32) (b (ix2 h t)) := by
    pointwise [rIx]
  have f : ∀ g : Fin 64, Scalar.select (IntOp.cmpi .slt (BitVec.ofNat 32 g.val) 0#32) (IntOp.addi (BitVec.ofNat 32 g.val) 64#32) (BitVec.ofNat 32 g.val) = BitVec.ofNat 32 g.val := by decide
  rw [e, hg, f]

/-- The loss lanes. -/
theorem rLs_at (mb : FVec Ideal S12x64x64 .f32) (h : Fin 12) (d : Fin 64) :
    rLs kr (rBk (rDs kr mn)) mb (ix3 h 0 d) = loss (hd kr h) (hm mn h) (hm mb h) d := by
  have e : ∀ g : FVec Ideal S12x8192x64 .f32, broadcastInDim S12x1x64 ![0, 2] bcast_S12x64_S12x1x64_0_2 (Host.reduceAdd (mulf (subf kr g) (subf kr g)) (constant S_ .f32 0x00000000#32) reducesTo_S12x8192x64_S12x64_d1 h_S_) (ix3 h 0 d)
      = ∑ t, (kr (ix3 h t d) - g (ix3 h t d)) * (kr (ix3 h t d) - g (ix3 h t d)) := fun g => by
    pointwise []
  refine (e _).trans (Finset.sum_congr rfl fun t _ => ?_)
  rw [gather_at mb (rIx (rBk (rDs kr mn))) h t d _ (rIx_head _ h t) (rIx_cluster _ h t _ (rBk_at kr mn h t))]
  rfl

end Cert.ReferenceIdeal.Hand

end
-- ==== Proof.Value.lean ====
module

public import proofs.«01_k».proof.Proof.KmVal
public import proofs.«01_k».proof.Proof.KmFrameKernelIdeal
public import proofs.«01_k».proof.Proof.RefVal

@[expose] public section

set_option maxRecDepth 16384

noncomputable section

/-! The kernel's two results are the reference's. -/

namespace Cert.KernelIdeal.Km

open Cert.KernelIdeal Cert.KernelIdeal.Gen Cert.Km
open Idealize.ShloMosaic Idealize.ShloMosaic.TcCoe Idealize.SL.Sem

/-- The kernel's run, read: the two results and the arguments. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = gDs (m ((c.tc : Thread nD τ).loc main_arg0)) (m ((c.tc : Thread nD τ).loc main_arg1))
      ∧ r.2.mem ((c.tc : Thread nD τ).loc main_v0_1) = gLs (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1.1 c).1 3).trans (arr3 (fun c b => m ((c : Thread nD τ).loc b)) c), ((h.1.1 c).1 4).trans (arr4 (fun c b => m ((c : Thread nD τ).loc b)) c), h.2.1 c⟩)
    (θ_run_and (run_quiescent m ρ) (frame m ρ))

end Cert.KernelIdeal.Km

namespace Cert.Proof

open Cert.Km Cert.KernelIdeal.Km Cert.ReferenceIdeal.Hand
open Idealize.ShloMosaic Idealize.ShloMosaic.TcCoe Idealize.SL.Sem

/-- The distances agree. -/
theorem dists_eq (X : FVec Ideal Cert.ReferenceIdeal.S12x8192x64 .f32) (M : FVec Ideal Cert.ReferenceIdeal.S12x64x64 .f32) :
    rDs (rKr X) (rMn (rKr X) (rNm M) 9) = gDs X M := by
  funext y
  obtain ⟨h, t, k, rfl⟩ : ∃ (h : Fin 12) (t : Fin 8192) (k : Fin 64), y = ix3 h t k := ⟨y 0, y 1, y 2, by blk_ext⟩
  have e1 : hd (rKr X) h = hX X h := funext fun t => funext fun k => rKr_at X h t k
  have e2 : hm (rNm M) h = hM M h := funext fun t => funext fun k => rNm_at M h t k
  rw [rDs_at, rMn_at, e1, e2]
  rfl

/-- The loss lanes agree. -/
theorem loss_eq (X : FVec Ideal Cert.ReferenceIdeal.S12x8192x64 .f32) (M B : FVec Ideal Cert.ReferenceIdeal.S12x64x64 .f32) :
    rLs (rKr X) (rBk (rDs (rKr X) (rMn (rKr X) (rNm M) 9))) B = gLs X M B := by
  funext y
  obtain ⟨h, t, k, rfl⟩ : ∃ (h : Fin 12) (t : Fin 1) (k : Fin 64), y = ix3 h t k := ⟨y 0, y 1, y 2, by blk_ext⟩
  have ht : t = 0 := Subsingleton.elim _ _
  subst ht
  have e1 : hd (rKr X) h = hX X h := funext fun t => funext fun k => rKr_at X h t k
  have e2 : hm (rNm M) h = hM M h := funext fun t => funext fun k => rNm_at M h t k
  rw [rLs_at, rMn_at, e1, e2]
  rfl

/-- The value claim. -/
theorem value : Cert.algebraic_KernelIdeal_ReferenceIdeal (hKernelIdeal := Cert.KernelIdeal.Gen.facts) (hReferenceIdeal := Cert.ReferenceIdeal.Gen.facts) := by
  intro m g m' g' _ hm
  refine ⟨fun c => gDs (m ((c.tc : Thread _ _).loc Cert.KernelIdeal.main_arg0)) (m ((c.tc : Thread _ _).loc Cert.KernelIdeal.main_arg1)),
    fun c => gLs (m ((c.tc : Thread _ _).loc Cert.KernelIdeal.main_arg0)) (m ((c.tc : Thread _ _).loc Cert.KernelIdeal.main_arg1)) (m ((c.tc : Thread _ _).loc Cert.KernelIdeal.main_arg2)),
    run_values m g, (θ_run _ _ _).mono (fun r h c => ?_) (run_main m' g')⟩
  obtain ⟨h0, h1, h2⟩ := h.1 c
  obtain ⟨a0, a1, a2⟩ := hm c
  rw [a0, a1] at h0
  rw [a0, a1, a2] at h1
  exact ⟨h0.trans (dists_eq _ _), h1.trans (loss_eq _ _ _), h2⟩

end Cert.Proof

end
-- ==== Proof.AtMath.lean ====
module

public import proofs.«01_k».proof.Proof.KmMath
public import Idealize.ShloMosaic.Lib.Pipeline.ValueKit

@[expose] public section

set_option maxRecDepth 16384

noncomputable section

/-! The attention of one window, and the mean over the windows a token is in, as plain sums. -/

namespace Cert.Attn

open Cert.Km
open Idealize.ShloMosaic

/-- The logit of slots `i` and `j`: the query row with the normalised row, scaled; a slot's own logit is a fixed one. -/
def lg (Q : Fin 128 → Fin 64 → EReal) (i j : Fin 128) : EReal :=
  if i = j then Ideal.ofBits FTy.f32 0xC7435000#32 else (∑ k, Q i k * nrm (Q j) k) * Ideal.ofBits FTy.f32 0x3E000000#32

/-- The exponential of a row's entry, the row's largest entry taken off. -/
def ew (l : Fin 128 → EReal) (j : Fin 128) : EReal :=
  Ideal.exp (l j - Finset.fold max (Ideal.ofBits FTy.f32 0xFF800000#32) l Finset.univ)

/-- The row's exponentials over their sum. -/
def sm (l : Fin 128 → EReal) (j : Fin 128) : EReal := Ideal.div (ew l j) (∑ k, ew l k)

/-- The attention of one window. -/
def att (Q V : Fin 128 → Fin 64 → EReal) (i : Fin 128) (d : Fin 64) : EReal := ∑ j, sm (lg Q i) j * V j d

/-- A choice by whether two slots' numbers are equal. -/
theorem pick_eq (i j : Fin 128) (a b : EReal) :
    Scalar.select (IntOp.cmpi .eq (BitVec.ofNat 32 i.val) (BitVec.ofNat 32 j.val)) a b = if i = j then a else b := by
  have hinj : ∀ a b : Fin 128, (BitVec.ofNat 32 a.val = BitVec.ofNat 32 b.val) ↔ a = b := by decide +kernel
  by_cases h : i = j
  · rw [if_pos h, h]
    simp [IntOp.cmpi, Scalar.select]
  · rw [if_neg h]
    have hb : (BitVec.ofNat 32 i.val == BitVec.ofNat 32 j.val) = false := beq_eq_false_iff_ne.mpr fun e => h ((hinj _ _).mp e)
    simp [IntOp.cmpi, hb, Scalar.select]

/-- A token number as a row of an array of 8192. -/
def tok (w : BitVec 32) : Fin 8192 := ⟨w.toNat % 8192, Nat.mod_lt _ (by decide)⟩

/-- A sum over the numbers below one more. -/
theorem sum_lt_succ {N : ℕ} (g : Fin N → EReal) (n : Fin N) :
    ∑ c ∈ Finset.univ.filter (fun c : Fin N => c.val < n.val + 1), g c = ∑ c ∈ Finset.univ.filter (fun c : Fin N => c.val < n.val), g c + g n := by
  have e : (Finset.univ.filter fun c : Fin N => c.val < n.val + 1) = insert n (Finset.univ.filter fun c : Fin N => c.val < n.val) := by
    ext c
    simp only [Finset.mem_filter, Finset.mem_univ, true_and, Finset.mem_insert, Fin.ext_iff]
    omega
  rw [e, Finset.sum_insert (by simp), add_comm]

/-- What a head's windows add to row `r`, lane `d`: over the slots that name the row. -/
def total (T : Fin 64 → Fin 128 → BitVec 32) (f : Fin 64 → Fin 128 → EReal) (n : ℕ) (r : Fin 8192) : EReal :=
  ∑ c ∈ Finset.univ.filter (fun c : Fin 64 => c.val < n), ∑ k, if tok (T c k) = r then f c k else 0

/-- One more window. -/
theorem total_succ (T : Fin 64 → Fin 128 → BitVec 32) (f : Fin 64 → Fin 128 → EReal) (n : Fin 64) (r : Fin 8192) :
    total T f (n.val + 1) r = total T f n.val r + ∑ k, if tok (T n k) = r then f n k else 0 := by
  unfold total
  exact sum_lt_succ _ n

/-- No window. -/
theorem total_zero (T : Fin 64 → Fin 128 → BitVec 32) (f : Fin 64 → Fin 128 → EReal) (r : Fin 8192) : total T f 0 r = 0 := by
  unfold total
  simp

/-- All windows: the slots in one list. -/
theorem total_all (T : Fin 64 → Fin 128 → BitVec 32) (f : Fin 64 → Fin 128 → EReal) (r : Fin 8192) :
    total T f 64 r = ∑ p : Fin 8192, if tok (T ⟨p.val / 128, by omega⟩ ⟨p.val % 128, by omega⟩) = r then f ⟨p.val / 128, by omega⟩ ⟨p.val % 128, by omega⟩ else 0 := by
  unfold total
  rw [Finset.filter_true_of_mem (fun c _ => c.isLt)]
  rw [← Finset.sum_product', Finset.univ_product_univ]
  refine (Finset.sum_nbij' (fun p : Fin 8192 => ((⟨p.val / 128, by omega⟩ : Fin 64), (⟨p.val % 128, by omega⟩ : Fin 128)))
    (fun q => (⟨q.1.val * 128 + q.2.val, by have := q.1.isLt; have := q.2.isLt; omega⟩ : Fin 8192)) ?_ ?_ ?_ ?_ ?_).symm
  · intro p _; exact Finset.mem_univ _
  · intro q _; exact Finset.mem_univ _
  · intro p _; exact Fin.ext (by show p.val / 128 * 128 + p.val % 128 = p.val; omega)
  · intro q _
    have h1 := q.1.isLt
    have h2 := q.2.isLt
    exact Prod.ext (Fin.ext (by show (q.1.val * 128 + q.2.val) / 128 = q.1.val; omega)) (Fin.ext (by show (q.1.val * 128 + q.2.val) % 128 = q.2.val; omega))
  · intro p _; rfl

/-- The mean over the windows a row is in. -/
def mean (T : Fin 64 → Fin 128 → BitVec 32) (f : Fin 64 → Fin 128 → EReal) (r : Fin 8192) : EReal :=
  Ideal.div (total T f 64 r) (total T (fun _ _ => Ideal.ofBits FTy.f32 0x3F800000#32) 64 r + Ideal.ofBits FTy.f32 0x3727C5AC#32)

end Cert.Attn

end
-- ==== Proof.AtRunAttnIdeal.lean ====
module

public import proofs.«01_k».proof.Proof.Gen.AttnIdeal.Frame
public import proofs.«01_k».proof.Proof.Gen.AttnIdeal.Points
public import proofs.«01_k».proof.Proof.Gen.AttnIdeal.Loops
public import proofs.«01_k».proof.Proof.Gen.AttnIdeal.Skeleton
public import Idealize.ShloMosaic.Lib.Exec
public import Idealize.ShloMosaic.Lib.WritesUnit
public import Idealize.ShloMosaic.Lib.Pipeline.ValueKit
public import proofs.«01_k».proof.Proof.Box

@[expose] public section

set_option maxRecDepth 16384

noncomputable section

namespace Cert.AttnIdeal.At

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four loops of the body -/

section Loops

variable (c : Dev nD) (i : grid0.Coords) (arg2 : Memref sig .tc .smem S1x64x128 .i32) (harg2 : arg2.IsWhole) (arg3 : Memref sig .tc .vmem S1x8192x64 .f32) (harg3 : arg3.IsWhole) (arg4 : Memref sig .tc .vmem S1x8192x64 .f32) (harg4 : arg4.IsWhole) (arg5 : Memref sig .tc .vmem S1x8192x64 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x64 .f32) (harg8 : arg8.IsWhole) (arg9 : Memref sig .tc .vmem S8192x64 .f32) (harg9 : arg9.IsWhole) (arg10 : Memref sig .tc .vmem S8192x1 .f32) (harg10 : arg10.IsWhole)

/-- A token number below 8192 is a row of the two gathered arrays. -/
theorem chk1_of (v : BitVec 32) (h : v.toNat < 8192) : k0_chk1 v := by
  unfold k0_chk1 k0_off4; intro a; fin_cases a <;> simp [Scalar.indexCast] <;> omega
/-- A token number below 8192 is a row of the two running sums. -/
theorem chk2_of (v : BitVec 32) (h : v.toNat < 8192) : k0_chk2 v := by
  unfold k0_chk2 k0_off7 k0_off9
  constructor <;> (intro a; fin_cases a <;> simp [Scalar.indexCast] <;> omega)

/-- Every word of a buffer of token numbers is one of the 8192 tokens. -/
def InRange (X2 : BufTy.Contents (Elt F) arg2.view.ty) : Prop := ∀ y, BitVec.toNat (w := 32) (arg2.view.read (Elt F) X2 y) < 8192

variable (X2 : BufTy.Contents (Elt F) arg2.view.ty)

/-- The token number that slot `k` of the point's window names, as the gathering loop loads it. -/
def w2 (k : Fin k0_t2_loop.trips) : BitVec 32 :=
  arg2.view.readAt (Elt F) (Rect.unit (s := S1x64x128) (k0_off3 i k) S1x1x1.size (k0_off3_inb i k)).toLoadRect X2
    (Shape.Idx.first (numel1_S1x1x1.symm ▸ Nat.one_pos))
/-- The token number that slot `k` of the point's window names, as the scattering loop loads it. -/
def w3 (k : Fin k0_t3_loop.trips) : BitVec 32 :=
  arg2.view.readAt (Elt F) (Rect.unit (s := S1x64x128) (k0_off6 i k) S1x1x1.size (k0_off6_inb i k)).toLoadRect X2
    (Shape.Idx.first (numel1_S1x1x1.symm ▸ Nat.one_pos))

variable (hw : InRange arg2 X2)
include hw in
/-- A gathered slot names one of the tokens. -/
theorem w2_lt (k : Fin k0_t2_loop.trips) : (w2 i arg2 X2 k).toNat < 8192 := by
  unfold w2; rw [View.readAt_apply]; exact hw _
include hw in
/-- A scattered slot names one of the tokens. -/
theorem w3_lt (k : Fin k0_t3_loop.trips) : (w3 i arg2 X2 k).toNat < 8192 := by
  unfold w3; rw [View.readAt_apply]; exact hw _

/-! ### The running sums set to zero -/

/-- The feature sums after `k` blocks are zeroed. -/
def Z9 (h1 : k0_cond1 i = 1#1) (f : BufTy.Contents (Elt F) arg9.view.ty) : ℕ → BufTy.Contents (Elt F) arg9.view.ty
  | 0 => f
  | k + 1 => if h : k < k0_t1_loop.trips then
      arg9.view.writes (Elt F) (Z9 h1 f k) [⟨Rect.unit (s := S8192x64) (k0_off1 ⟨k, h⟩) S2048x64.size (k0_off1_inb i ⟨k, h⟩ h1), k0_pay4 (F := F)⟩]
    else Z9 h1 f k
/-- The counts after `k` blocks are zeroed. -/
def Z10 (h1 : k0_cond1 i = 1#1) (f : BufTy.Contents (Elt F) arg10.view.ty) : ℕ → BufTy.Contents (Elt F) arg10.view.ty
  | 0 => f
  | k + 1 => if h : k < k0_t1_loop.trips then
      arg10.view.writes (Elt F) (Z10 h1 f k) [⟨Rect.unit (s := S8192x1) (k0_off2 ⟨k, h⟩) S2048x1.size (k0_off2_inb i ⟨k, h⟩ h1), k0_pay5 (F := F)⟩]
    else Z10 h1 f k

/-- The zeroing loop goes through its blocks one after the other. -/
@[sl_loop] def loopInv_k0_t1 (h1 : k0_cond1 i = 1#1) (X9 : BufTy.Contents (Elt F) arg9.view.ty) (X10 : BufTy.Contents (Elt F) arg10.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 h1 where
  inv := fun k _ => iprop((∃ f, (arg9.view.loc (c : Thread nD τ) ↦[arg9.view.set]{fullShare} f) ∗ ⌜f = Z9 i arg9 h1 X9 k⌝)
    ∗ (∃ f, (arg10.view.loc (c : Thread nD τ) ↦[arg10.view.set]{fullShare} f) ∗ ⌜f = Z10 i arg10 h1 X10 k⌝))
  step := fun k _ => by
    have hk : k.val < 4 := Nat.lt_of_lt_of_le k.isLt k0_t1_abs.2.1
    unfold k0_t1_body
    iintro ⟨⟨%f9, H9, %e9⟩, ⟨%f10, H10, %e10⟩⟩
    subst e9 e10
    sl_exec
    sl_step
    rw [Z9, Z10, dif_pos k.isLt, dif_pos k.isLt]
    isplitl [H9]
    · iexists _; isplitl; · iexact H9
      ipureintro; rfl
    · iexists _; isplitl; · iexact H10
      ipureintro; rfl

/-! ### The window's rows gathered -/

/-- The gathered query rows after `k` slots. -/
def G6 (X3 : BufTy.Contents (Elt F) arg3.view.ty) (f : BufTy.Contents (Elt F) arg6.view.ty) : ℕ → BufTy.Contents (Elt F) arg6.view.ty
  | 0 => f
  | k + 1 => if h : k < k0_t2_loop.trips then
      arg6.view.writes (Elt F) (G6 X3 f k) [⟨Rect.unit (s := S128x64) (k0_off5 ⟨k, h⟩) S1x64.size (k0_off5_inb ⟨k, h⟩),
        k0_pay6 (arg3.view.readAt (Elt F) (Rect.unit (s := S1x8192x64) (k0_off4 (w2 i arg2 X2 ⟨k, h⟩)) S1x1x64.size (k0_off4_inb _ (chk1_of _ (w2_lt i arg2 X2 hw ⟨k, h⟩)))).toLoadRect X3)⟩]
    else G6 X3 f k
/-- The gathered value rows after `k` slots. -/
def G7 (X4 : BufTy.Contents (Elt F) arg4.view.ty) (f : BufTy.Contents (Elt F) arg7.view.ty) : ℕ → BufTy.Contents (Elt F) arg7.view.ty
  | 0 => f
  | k + 1 => if h : k < k0_t2_loop.trips then
      arg7.view.writes (Elt F) (G7 X4 f k) [⟨Rect.unit (s := S128x64) (k0_off5 ⟨k, h⟩) S1x64.size (k0_off5_inb ⟨k, h⟩),
        k0_pay7 (arg4.view.readAt (Elt F) (Rect.unit (s := S1x8192x64) (k0_off4 (w2 i arg2 X2 ⟨k, h⟩)) S1x1x64.size (k0_off4_inb _ (chk1_of _ (w2_lt i arg2 X2 hw ⟨k, h⟩)))).toLoadRect X4)⟩]
    else G7 X4 f k

/-- The gathering loop goes through the window's slots one after the other. -/
@[sl_loop] def loopInv_k0_t2 (X3 : BufTy.Contents (Elt F) arg3.view.ty) (X4 : BufTy.Contents (Elt F) arg4.view.ty) (X6 : BufTy.Contents (Elt F) arg6.view.ty) (X7 : BufTy.Contents (Elt F) arg7.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 where
  inv := fun k _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, (arg6.view.loc (c : Thread nD τ) ↦[arg6.view.set]{fullShare} f) ∗ ⌜f = G6 i arg2 arg3 arg6 X2 hw X3 X6 k⌝)
    ∗ (∃ f, (arg7.view.loc (c : Thread nD τ) ↦[arg7.view.set]{fullShare} f) ∗ ⌜f = G7 i arg2 arg4 arg7 X2 hw X4 X7 k⌝))
  step := fun k _ => by
    have hk : k.val < 128 := Nat.lt_of_lt_of_le k.isLt k0_t2_abs.2.1
    have h1 : k0_chk1 (w2 i arg2 X2 k) := chk1_of _ (w2_lt i arg2 X2 hw k)
    unfold k0_t2_body
    iintro ⟨H2, H3, H4, ⟨%f6, H6, %e6⟩, ⟨%f7, H7, %e7⟩⟩
    subst e6 e7
    sl_exec (disch := sl_exact h1)
    sl_step
    rw [G6, G7, dif_pos k.isLt, dif_pos k.isLt]
    isplitl [H2]; · iexact H2
    isplitl [H3]; · iexact H3
    isplitl [H4]; · iexact H4
    isplitl [H6]
    · iexists _; isplitl; · iexact H6
      ipureintro; rfl
    · iexists _; isplitl; · iexact H7
      ipureintro; rfl

/-! ### The window's attention added to its tokens' rows -/

/-- The feature sums after `k` slots are added. -/
def S9 (X8 : BufTy.Contents (Elt F) arg8.view.ty) (f : BufTy.Contents (Elt F) arg9.view.ty) : ℕ → BufTy.Contents (Elt F) arg9.view.ty
  | 0 => f
  | k + 1 => if h : k < k0_t3_loop.trips then
      arg9.view.writes (Elt F) (S9 X8 f k) [⟨Rect.unit (s := S8192x64) (k0_off7 (w3 i arg2 X2 ⟨k, h⟩)) S1x64.size (k0_off7_inb _ (chk2_of _ (w3_lt i arg2 X2 hw ⟨k, h⟩))),
        k0_pay1 (arg9.view.readAt (Elt F) (Rect.unit (s := S8192x64) (k0_off7 (w3 i arg2 X2 ⟨k, h⟩)) S1x64.size (k0_off7_inb _ (chk2_of _ (w3_lt i arg2 X2 hw ⟨k, h⟩)))).toLoadRect (S9 X8 f k))
          (arg8.view.readAt (Elt F) (Rect.unit (s := S128x64) (k0_off8 ⟨k, h⟩) S1x64.size (k0_off8_inb ⟨k, h⟩)).toLoadRect X8)⟩]
    else S9 X8 f k
/-- The counts after `k` slots are added. -/
def S10 (f : BufTy.Contents (Elt F) arg10.view.ty) : ℕ → BufTy.Contents (Elt F) arg10.view.ty
  | 0 => f
  | k + 1 => if h : k < k0_t3_loop.trips then
      arg10.view.writes (Elt F) (S10 f k) [⟨Rect.unit (s := S8192x1) (k0_off9 (w3 i arg2 X2 ⟨k, h⟩)) S1x1.size (k0_off9_inb _ (chk2_of _ (w3_lt i arg2 X2 hw ⟨k, h⟩))),
        k0_pay2 (arg10.view.readAt (Elt F) (Rect.unit (s := S8192x1) (k0_off9 (w3 i arg2 X2 ⟨k, h⟩)) S1x1.size (k0_off9_inb _ (chk2_of _ (w3_lt i arg2 X2 hw ⟨k, h⟩)))).toLoadRect (S10 f k))⟩]
    else S10 f k

/-- The scattering loop goes through the window's slots one after the other. -/
@[sl_loop] def loopInv_k0_t3 (X8 : BufTy.Contents (Elt F) arg8.view.ty) (X9 : BufTy.Contents (Elt F) arg9.view.ty) (X10 : BufTy.Contents (Elt F) arg10.view.ty) :
    LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 where
  inv := fun k _ => iprop((arg2.view.loc (c : Thread nD τ) ↦[arg2.view.set]{fullShare} X2) ∗ (arg8.view.loc (c : Thread nD τ) ↦[arg8.view.set]{fullShare} X8)
    ∗ (∃ f, (arg9.view.loc (c : Thread nD τ) ↦[arg9.view.set]{fullShare} f) ∗ ⌜f = S9 i arg2 arg8 arg9 X2 hw X8 X9 k⌝)
    ∗ (∃ f, (arg10.view.loc (c : Thread nD τ) ↦[arg10.view.set]{fullShare} f) ∗ ⌜f = S10 i arg2 arg10 X2 hw X10 k⌝))
  step := fun k _ => by
    have hk : k.val < 128 := Nat.lt_of_lt_of_le k.isLt k0_t3_abs.2.1
    have h1 : k0_chk2 (w3 i arg2 X2 k) := chk2_of _ (w3_lt i arg2 X2 hw k)
    unfold k0_t3_body
    iintro ⟨H2, H8, ⟨%f9, H9, %e9⟩, ⟨%f10, H10, %e10⟩⟩
    subst e9 e10
    sl_exec (disch := sl_exact h1)
    sl_step
    rw [S9, S10, dif_pos k.isLt, dif_pos k.isLt]
    isplitl [H2]; · iexact H2
    isplitl [H8]; · iexact H8
    isplitl [H9]
    · iexists _; isplitl; · iexact H9
      ipureintro; rfl
    · iexists _; isplitl; · iexact H10
      ipureintro; rfl

/-! ### The means written out -/

/-- The output block after `k` blocks of rows are written. -/
def D5 (h2 : k0_cond2 i = 1#1) (X9 : BufTy.Contents (Elt F) arg9.view.ty) (X10 : BufTy.Contents (Elt F) arg10.view.ty) (f : BufTy.Contents (Elt F) arg5.view.ty) : ℕ → BufTy.Contents (Elt F) arg5.view.ty
  | 0 => f
  | k + 1 => if h : k < k0_t4_loop.trips then
      arg5.view.writes (Elt F) (D5 h2 X9 X10 f k) [⟨Rect.unit (s := S1x8192x64) (k0_off12 ⟨k, h⟩) S1x2048x64.size (k0_off12_inb i ⟨k, h⟩ h2),
        k0_pay3 (arg9.view.readAt (Elt F) (Rect.unit (s := S8192x64) (k0_off10 ⟨k, h⟩) S2048x64.size (k0_off10_inb i ⟨k, h⟩ h2)).toLoadRect X9)
          (arg10.view.readAt (Elt F) (Rect.unit (s := S8192x1) (k0_off11 ⟨k, h⟩) S2048x1.size (k0_off11_inb i ⟨k, h⟩ h2)).toLoadRect X10)⟩]
    else D5 h2 X9 X10 f k

/-- The loop of the divisions goes through its blocks one after the other. -/
@[sl_loop] def loopInv_k0_t4 (h2 : k0_cond2 i = 1#1) (X9 : BufTy.Contents (Elt F) arg9.view.ty) (X10 : BufTy.Contents (Elt F) arg10.view.ty) (X5 : BufTy.Contents (Elt F) arg5.view.ty) :
    LoopInvTy_k0_t4 (F := F) Unit ℕ (UR sig nD τ) ℕ Variants.none c none Set.univ i arg2 harg2 arg3 harg3 arg4 harg4 arg5 harg5 arg6 harg6 arg7 harg7 arg8 harg8 arg9 harg9 arg10 harg10 h2 where
  inv := fun k _ => iprop((arg9.view.loc (c : Thread nD τ) ↦[arg9.view.set]{fullShare} X9) ∗ (arg10.view.loc (c : Thread nD τ) ↦[arg10.view.set]{fullShare} X10)
    ∗ (∃ f, (arg5.view.loc (c : Thread nD τ) ↦[arg5.view.set]{fullShare} f) ∗ ⌜f = D5 i arg5 arg9 arg10 h2 X9 X10 X5 k⌝))
  step := fun k _ => by
    have hk : k.val < 4 := Nat.lt_of_lt_of_le k.isLt k0_t4_abs.2.1
    unfold k0_t4_body
    iintro ⟨H9, H10, ⟨%f5, H5, %e5⟩⟩
    subst e5
    sl_exec
    sl_step
    rw [D5, dif_pos k.isLt]
    isplitl [H9]; · iexact H9
    isplitl [H10]; · iexact H10
    iexists _; isplitl; · iexact H5
    ipureintro; rfl

end Loops

/-! ## One grid point as a function of its blocks and of the state it finds -/

/-- The cluster of a grid point. -/
def nC (i : grid0.Coords) : Fin 64 := ⟨(i 1).val, (i 1).isLt⟩
/-- The token that slot `k` of cluster `n`'s window names. -/
def tokAt (x : Vec F S1x64x128 .i32) (n : Fin 64) (k : Fin 128) : BitVec 32 := x (ix3 0 n k)
/-- A token number as a row of an array of 8192. -/
def rowOf (w : BitVec 32) : Fin 8192 := ⟨w.toNat % 8192, Nat.mod_lt _ (by decide)⟩
/-- The query rows of a window. -/
def gatQ (x : Vec F S1x64x128 .i32) (n : Fin 64) (q : Vec F S1x8192x64 .f32) : Vec F S128x64 .f32 :=
  fun y => k0_pay6 (fun z => q (ix3 0 (rowOf (tokAt x n (y 0))) (z 2))) (ix2 0 (y 1))
/-- The value rows of a window. -/
def gatV (x : Vec F S1x64x128 .i32) (n : Fin 64) (v : Vec F S1x8192x64 .f32) : Vec F S128x64 .f32 :=
  fun y => k0_pay7 (fun z => v (ix3 0 (rowOf (tokAt x n (y 0))) (z 2))) (ix2 0 (y 1))
/-- Feature sums of zero. -/
def zeroN : Vec F S8192x64 .f32 := fun y => k0_pay4 (ix2 ⟨(y 0).val % 2048, Nat.mod_lt _ (by decide)⟩ (y 1))
/-- Counts of zero. -/
def zeroC : Vec F S8192x1 .f32 := fun y => k0_pay5 (ix2 ⟨(y 0).val % 2048, Nat.mod_lt _ (by decide)⟩ (y 1))
/-- One slot's row added to its token's feature sums. -/
def addN (x : Vec F S1x64x128 .i32) (n : Fin 64) (b : Vec F S128x64 .f32) (k : Fin 128) (s : Vec F S8192x64 .f32) : Vec F S8192x64 .f32 :=
  fun y => if (y 0).val = (tokAt x n k).toNat then k0_pay1 (fun z => s (ix2 (y 0) (z 1))) (fun z => b (ix2 k (z 1))) (ix2 0 (y 1)) else s y
/-- One slot counted for its token. -/
def addC (x : Vec F S1x64x128 .i32) (n : Fin 64) (k : Fin 128) (s : Vec F S8192x1 .f32) : Vec F S8192x1 .f32 :=
  fun y => if (y 0).val = (tokAt x n k).toNat then k0_pay2 (fun z => s (ix2 (y 0) (z 1))) (ix2 0 (y 1)) else s y
/-- The feature sums after the first `k` slots of a window. -/
def sumN (x : Vec F S1x64x128 .i32) (n : Fin 64) (b : Vec F S128x64 .f32) (s : Vec F S8192x64 .f32) : ℕ → Vec F S8192x64 .f32
  | 0 => s
  | k + 1 => if h : k < 128 then addN x n b ⟨k, h⟩ (sumN x n b s k) else sumN x n b s k
/-- The counts after the first `k` slots of a window. -/
def sumC (x : Vec F S1x64x128 .i32) (n : Fin 64) (s : Vec F S8192x1 .f32) : ℕ → Vec F S8192x1 .f32
  | 0 => s
  | k + 1 => if h : k < 128 then addC x n ⟨k, h⟩ (sumC x n s k) else sumC x n s k
/-- One more slot added. -/
theorem sumN_succ (x : Vec F S1x64x128 .i32) (n : Fin 64) (b : Vec F S128x64 .f32) (s : Vec F S8192x64 .f32) (k : ℕ) (h : k < 128) :
    sumN x n b s (k + 1) = addN x n b ⟨k, h⟩ (sumN x n b s k) := by
  funext y; simp only [sumN, dif_pos h]
/-- One more slot counted. -/
theorem sumC_succ (x : Vec F S1x64x128 .i32) (n : Fin 64) (s : Vec F S8192x1 .f32) (k : ℕ) (h : k < 128) :
    sumC x n s (k + 1) = addC x n ⟨k, h⟩ (sumC x n s k) := by
  funext y; simp only [sumC, dif_pos h]
/-- The means of the sums, as written out. -/
def outD (s : Vec F S8192x64 .f32) (n : Vec F S8192x1 .f32) : Vec F S1x8192x64 .f32 :=
  fun y => k0_pay3 (fun z => s (ix2 ⟨2048 * ((y 1).val / 2048) + (z 0).val, by have h : (y 1).val < 8192 := (y 1).isLt; have h' : (z 0).val < 2048 := (z 0).isLt; omega⟩ (z 1)))
    (fun z => n (ix2 ⟨2048 * ((y 1).val / 2048) + (z 0).val, by have h : (y 1).val < 8192 := (y 1).isLt; have h' : (z 0).val < 2048 := (z 0).isLt; omega⟩ (z 1)))
    (ix3 0 ⟨(y 1).val % 2048, Nat.mod_lt _ (by decide)⟩ (y 2))
/-- The attention of one window. -/
def winB (x : Vec F S1x64x128 .i32) (n : Fin 64) (q v : Vec F S1x8192x64 .f32) : Vec F S128x64 .f32 := k0_pay8 (gatQ x n q) (gatV x n v)

/-! ## What the loops leave, read as values -/

section Reads

variable (i : grid0.Coords) (arg2 : Memref sig .tc .smem S1x64x128 .i32) (arg3 : Memref sig .tc .vmem S1x8192x64 .f32) (arg4 : Memref sig .tc .vmem S1x8192x64 .f32) (arg5 : Memref sig .tc .vmem S1x8192x64 .f32) (arg6 : Memref sig .tc .vmem S128x64 .f32) (arg7 : Memref sig .tc .vmem S128x64 .f32) (arg8 : Memref sig .tc .vmem S128x64 .f32) (arg9 : Memref sig .tc .vmem S8192x64 .f32) (arg10 : Memref sig .tc .vmem S8192x1 .f32)
variable (X2 : BufTy.Contents (Elt F) arg2.view.ty) (hw : InRange arg2 X2)

/-- The clearing loop makes four rounds. -/
theorem trips_t1 : k0_t1_loop.trips = 4 := by decide +kernel
/-- The gathering loop makes a round for each slot. -/
theorem trips_t2 : k0_t2_loop.trips = 128 := by decide +kernel
/-- The adding loop makes a round for each slot. -/
theorem trips_t3 : k0_t3_loop.trips = 128 := by decide +kernel
/-- The dividing loop makes four rounds. -/
theorem trips_t4 : k0_t4_loop.trips = 4 := by decide +kernel

/-- The gathering loop's word of slot `k`. -/
theorem w2_eq (k : ℕ) (h : k < k0_t2_loop.trips) (h' : k < 128) : w2 i arg2 X2 ⟨k, h⟩ = tokAt (arg2.view.read (Elt F) X2) (nC i) ⟨k, h'⟩ := by
  unfold w2 tokAt
  rw [View.readAt_apply]
  refine congrArg (arg2.view.read (Elt F) X2) (Cert.Box.idx_unit _ _ _ (k0_off3_eq i ⟨k, h⟩) fun a => ?_)
  generalize Shape.Idx.first _ = z
  fin_cases a
  · show 0 + (z 0).val = 0; have : (z 0).val < 1 := (z 0).isLt; omega
  · show (i 1).val + (z 1).val = (i 1).val; have : (z 1).val < 1 := (z 1).isLt; omega
  · show k + (z 2).val = k; have : (z 2).val < 1 := (z 2).isLt; omega
/-- The scattering loop's word of slot `k`. -/
theorem w3_eq (k : ℕ) (h : k < k0_t3_loop.trips) (h' : k < 128) : w3 i arg2 X2 ⟨k, h⟩ = tokAt (arg2.view.read (Elt F) X2) (nC i) ⟨k, h'⟩ := by
  unfold w3 tokAt
  rw [View.readAt_apply]
  refine congrArg (arg2.view.read (Elt F) X2) (Cert.Box.idx_unit _ _ _ (k0_off6_eq i ⟨k, h⟩) fun a => ?_)
  generalize Shape.Idx.first _ = z
  fin_cases a
  · show 0 + (z 0).val = 0; have : (z 0).val < 1 := (z 0).isLt; omega
  · show (i 1).val + (z 1).val = (i 1).val; have : (z 1).val < 1 := (z 1).isLt; omega
  · show k + (z 2).val = k; have : (z 2).val < 1 := (z 2).isLt; omega

/-- A gathered row's offsets. -/
theorem off4_eq (w : BitVec 32) : k0_off4 w = ![0, w.toNat, 0] := rfl
/-- A scattered row's offsets. -/
theorem off7_eq (w : BitVec 32) : k0_off7 w = ![w.toNat, 0] := rfl
/-- A counted row's offsets. -/
theorem off9_eq (w : BitVec 32) : k0_off9 w = ![w.toNat, 0] := rfl

/-- The feature sums are zero once the zeroing loop is through. -/
theorem Z9_read (h1 : k0_cond1 i = 1#1) (f : BufTy.Contents (Elt F) arg9.view.ty) (k : ℕ) (hk : k ≤ 4) (y : S8192x64.Idx) (hy : (y 0).val < 2048 * k) :
    arg9.view.read (Elt F) (Z9 i arg9 h1 f k) y = zeroN y := by
  induction k with
  | zero => omega
  | succ k ih =>
    have hk' : k < k0_t1_loop.trips := by rw [trips_t1]; omega
    rw [Z9, dif_pos hk']
    by_cases e : (y 0).val < 2048 * k
    · rw [View.read_writes_cons_unit_of_not_mem (size := S2048x64.size) arg9.view _ _ _ _ y (k0_off1_eq ⟨k, hk'⟩) 0 (Or.inl (by simpa using e)), View.writes_nil]
      exact ih (by omega) e
    · rw [View.read_writes_cons_unit_of_mem (size := S2048x64.size) arg9.view _ _ _ _ y (ix2 ⟨(y 0).val % 2048, Nat.mod_lt _ (by decide)⟩ (y 1)) (k0_off1_eq ⟨k, hk'⟩) (by
        intro a; fin_cases a
        · show (y 0).val = 2048 * k + (y 0).val % 2048; omega
        · show (y 1).val = 0 + (y 1).val; omega)]
      rfl
/-- The counts are zero once the zeroing loop is through. -/
theorem Z10_read (h1 : k0_cond1 i = 1#1) (f : BufTy.Contents (Elt F) arg10.view.ty) (k : ℕ) (hk : k ≤ 4) (y : S8192x1.Idx) (hy : (y 0).val < 2048 * k) :
    arg10.view.read (Elt F) (Z10 i arg10 h1 f k) y = zeroC y := by
  induction k with
  | zero => omega
  | succ k ih =>
    have hk' : k < k0_t1_loop.trips := by rw [trips_t1]; omega
    rw [Z10, dif_pos hk']
    by_cases e : (y 0).val < 2048 * k
    · rw [View.read_writes_cons_unit_of_not_mem (size := S2048x1.size) arg10.view _ _ _ _ y (k0_off2_eq ⟨k, hk'⟩) 0 (Or.inl (by simpa using e)), View.writes_nil]
      exact ih (by omega) e
    · rw [View.read_writes_cons_unit_of_mem (size := S2048x1.size) arg10.view _ _ _ _ y (ix2 ⟨(y 0).val % 2048, Nat.mod_lt _ (by decide)⟩ (y 1)) (k0_off2_eq ⟨k, hk'⟩) (by
        intro a; fin_cases a
        · show (y 0).val = 2048 * k + (y 0).val % 2048; omega
        · show (y 1).val = 0 + (y 1).val; omega)]
      rfl

/-- A load of one row of an array of 8192. -/
theorem row_load (v : View sig .tc .vmem S1x8192x64 .f32) (X : BufTy.Contents (Elt F) v.ty) (w w' : BitVec 32) (e : w = w') (hw : w.toNat < 8192) (inb) :
    (v.readAt (Elt F) (Rect.unit (s := S1x8192x64) (k0_off4 w) S1x1x64.size inb).toLoadRect X : Vec F S1x1x64 .f32) = fun z : S1x1x64.Idx => v.read (Elt F) X (ix3 0 (rowOf w') (z 2)) := by
  subst e
  funext z
  rw [View.readAt_apply]
  refine congrArg (v.read (Elt F) X) (Cert.Box.idx_unit _ _ _ (off4_eq w) fun a => ?_)
  fin_cases a
  · show 0 + (z 0).val = 0; have : (z 0).val < 1 := (z 0).isLt; omega
  · show w.toNat + (z 1).val = w.toNat % 8192; have : (z 1).val < 1 := (z 1).isLt; omega
  · show 0 + (z 2).val = (z 2).val; omega

include hw in
/-- The query buffer holds the window's rows once the gathering loop is through. -/
theorem G6_read (X3 : BufTy.Contents (Elt F) arg3.view.ty) (f : BufTy.Contents (Elt F) arg6.view.ty) (k : ℕ) (hk : k ≤ 128) (y : S128x64.Idx) (hy : (y 0).val < k) :
    arg6.view.read (Elt F) (G6 i arg2 arg3 arg6 X2 hw X3 f k) y = gatQ (arg2.view.read (Elt F) X2) (nC i) (arg3.view.read (Elt F) X3) y := by
  induction k with
  | zero => omega
  | succ k ih =>
    have hk' : k < k0_t2_loop.trips := by rw [trips_t2]; omega
    rw [G6, dif_pos hk']
    by_cases e : (y 0).val < k
    · rw [View.read_writes_cons_unit_of_not_mem (size := S1x64.size) arg6.view _ _ _ _ y (k0_off5_eq ⟨k, hk'⟩) 0 (Or.inl (by simpa using e)), View.writes_nil]
      exact ih (by omega) e
    · have ek : (y 0).val = k := by omega
      rw [View.read_writes_cons_unit_of_mem (size := S1x64.size) arg6.view _ _ _ _ y (ix2 0 (y 1)) (k0_off5_eq ⟨k, hk'⟩) (by
        intro a; fin_cases a
        · show (y 0).val = k + 0; omega
        · show (y 1).val = 0 + (y 1).val; omega)]
      subst ek
      exact congrFun (congrArg k0_pay6 (row_load arg3.view _ _ _ (w2_eq i arg2 X2 _ hk' (by omega)) (w2_lt i arg2 X2 hw _) _)) _
include hw in
/-- The value buffer holds the window's rows once the gathering loop is through. -/
theorem G7_read (X4 : BufTy.Contents (Elt F) arg4.view.ty) (f : BufTy.Contents (Elt F) arg7.view.ty) (k : ℕ) (hk : k ≤ 128) (y : S128x64.Idx) (hy : (y 0).val < k) :
    arg7.view.read (Elt F) (G7 i arg2 arg4 arg7 X2 hw X4 f k) y = gatV (arg2.view.read (Elt F) X2) (nC i) (arg4.view.read (Elt F) X4) y := by
  induction k with
  | zero => omega
  | succ k ih =>
    have hk' : k < k0_t2_loop.trips := by rw [trips_t2]; omega
    rw [G7, dif_pos hk']
    by_cases e : (y 0).val < k
    · rw [View.read_writes_cons_unit_of_not_mem (size := S1x64.size) arg7.view _ _ _ _ y (k0_off5_eq ⟨k, hk'⟩) 0 (Or.inl (by simpa using e)), View.writes_nil]
      exact ih (by omega) e
    · have ek : (y 0).val = k := by omega
      rw [View.read_writes_cons_unit_of_mem (size := S1x64.size) arg7.view _ _ _ _ y (ix2 0 (y 1)) (k0_off5_eq ⟨k, hk'⟩) (by
        intro a; fin_cases a
        · show (y 0).val = k + 0; omega
        · show (y 1).val = 0 + (y 1).val; omega)]
      subst ek
      exact congrFun (congrArg k0_pay7 (row_load arg4.view _ _ _ (w2_eq i arg2 X2 _ hk' (by omega)) (w2_lt i arg2 X2 hw _) _)) _

include hw in
/-- The feature sums after the scattering loop's first `k` trips. -/
theorem S9_read (X8 : BufTy.Contents (Elt F) arg8.view.ty) (f : BufTy.Contents (Elt F) arg9.view.ty) (k : ℕ) (hk : k ≤ 128) :
    arg9.view.read (Elt F) (S9 i arg2 arg8 arg9 X2 hw X8 f k) = sumN (arg2.view.read (Elt F) X2) (nC i) (arg8.view.read (Elt F) X8) (arg9.view.read (Elt F) f) k := by
  induction k with
  | zero => rfl
  | succ k ih =>
    have hk' : k < k0_t3_loop.trips := by rw [trips_t3]; omega
    rw [S9, dif_pos hk', sumN_succ _ _ _ _ k (by omega), ← ih (by omega)]
    generalize S9 i arg2 arg8 arg9 X2 hw X8 f k = g
    funext y
    have ew := w3_eq i arg2 X2 k hk' (by omega : k < 128)
    unfold addN
    rw [← ew]
    by_cases e : (y 0).val = (w3 i arg2 X2 ⟨k, hk'⟩).toNat
    · rw [if_pos e, View.read_writes_cons_unit_of_mem (size := S1x64.size) arg9.view _ _ _ _ y (ix2 0 (y 1)) (off7_eq _) (by
        intro a; fin_cases a
        · show (y 0).val = _ + 0; exact e
        · show (y 1).val = 0 + (y 1).val; omega)]
      refine congrFun (congrArg₂ k0_pay1 (funext fun z => ?_) (funext fun z => ?_)) _
      · rw [View.readAt_apply]
        refine congrArg (arg9.view.read (Elt F) g) (Cert.Box.idx_unit _ _ _ (off7_eq _) fun a => ?_)
        fin_cases a
        · show (w3 i arg2 X2 ⟨k, hk'⟩).toNat + (z 0).val = (y 0).val; have : (z 0).val < 1 := (z 0).isLt; omega
        · show 0 + (z 1).val = (z 1).val; omega
      · rw [View.readAt_apply]
        refine congrArg (arg8.view.read (Elt F) X8) (Cert.Box.idx_unit _ _ _ (k0_off8_eq ⟨k, hk'⟩) fun a => ?_)
        fin_cases a
        · show k + (z 0).val = k; have : (z 0).val < 1 := (z 0).isLt; omega
        · show 0 + (z 1).val = (z 1).val; omega
    · rw [if_neg e, View.read_writes_cons_unit_of_not_mem (size := S1x64.size) arg9.view _ _ _ _ y (off7_eq _) 0 (by
        show (y 0).val < _ ∨ _ + 1 ≤ (y 0).val
        show (y 0).val < (w3 i arg2 X2 ⟨k, hk'⟩).toNat ∨ (w3 i arg2 X2 ⟨k, hk'⟩).toNat + 1 ≤ (y 0).val
        omega), View.writes_nil]
include hw in
/-- The counts after the scattering loop's first `k` trips. -/
theorem S10_read (f : BufTy.Contents (Elt F) arg10.view.ty) (k : ℕ) (hk : k ≤ 128) :
    arg10.view.read (Elt F) (S10 i arg2 arg10 X2 hw f k) = sumC (arg2.view.read (Elt F) X2) (nC i) (arg10.view.read (Elt F) f) k := by
  induction k with
  | zero => rfl
  | succ k ih =>
    have hk' : k < k0_t3_loop.trips := by rw [trips_t3]; omega
    rw [S10, dif_pos hk', sumC_succ _ _ _ k (by omega), ← ih (by omega)]
    generalize S10 i arg2 arg10 X2 hw f k = g
    funext y
    have ew := w3_eq i arg2 X2 k hk' (by omega : k < 128)
    unfold addC
    rw [← ew]
    by_cases e : (y 0).val = (w3 i arg2 X2 ⟨k, hk'⟩).toNat
    · rw [if_pos e, View.read_writes_cons_unit_of_mem (size := S1x1.size) arg10.view _ _ _ _ y (ix2 0 (y 1)) (off9_eq _) (by
        intro a; fin_cases a
        · show (y 0).val = _ + 0; exact e
        · show (y 1).val = 0 + (y 1).val; omega)]
      refine congrFun (congrArg k0_pay2 (funext fun z => ?_)) _
      rw [View.readAt_apply]
      refine congrArg (arg10.view.read (Elt F) g) (Cert.Box.idx_unit _ _ _ (off9_eq _) fun a => ?_)
      fin_cases a
      · show (w3 i arg2 X2 ⟨k, hk'⟩).toNat + (z 0).val = (y 0).val; have : (z 0).val < 1 := (z 0).isLt; omega
      · show 0 + (z 1).val = (z 1).val; omega
    · rw [if_neg e, View.read_writes_cons_unit_of_not_mem (size := S1x1.size) arg10.view _ _ _ _ y (off9_eq _) 0 (by
        show (y 0).val < (w3 i arg2 X2 ⟨k, hk'⟩).toNat ∨ (w3 i arg2 X2 ⟨k, hk'⟩).toNat + 1 ≤ (y 0).val
        omega), View.writes_nil]

/-- The output block is the means once the loop of the divisions is through. -/
theorem D5_read (h2 : k0_cond2 i = 1#1) (X9 : BufTy.Contents (Elt F) arg9.view.ty) (X10 : BufTy.Contents (Elt F) arg10.view.ty) (f : BufTy.Contents (Elt F) arg5.view.ty)
    (k : ℕ) (hk : k ≤ 4) (y : S1x8192x64.Idx) (hy : (y 1).val < 2048 * k) :
    arg5.view.read (Elt F) (D5 i arg5 arg9 arg10 h2 X9 X10 f k) y = outD (arg9.view.read (Elt F) X9) (arg10.view.read (Elt F) X10) y := by
  induction k with
  | zero => omega
  | succ k ih =>
    have hk' : k < k0_t4_loop.trips := by rw [trips_t4]; omega
    rw [D5, dif_pos hk']
    by_cases e : (y 1).val < 2048 * k
    · rw [View.read_writes_cons_unit_of_not_mem (size := S1x2048x64.size) arg5.view _ _ _ _ y (k0_off12_eq ⟨k, hk'⟩) 1 (Or.inl (by simpa using e)), View.writes_nil]
      exact ih (by omega) e
    · have ek : (y 1).val / 2048 = k := by omega
      rw [View.read_writes_cons_unit_of_mem (size := S1x2048x64.size) arg5.view _ _ _ _ y (ix3 0 ⟨(y 1).val % 2048, Nat.mod_lt _ (by decide)⟩ (y 2)) (k0_off12_eq ⟨k, hk'⟩) (by
        intro a; fin_cases a
        · show (y 0).val = 0 + 0; have : (y 0).val < 1 := (y 0).isLt; omega
        · show (y 1).val = 2048 * k + (y 1).val % 2048; omega
        · show (y 2).val = 0 + (y 2).val; omega)]
      unfold outD
      refine congrFun (congrArg₂ k0_pay3 (funext fun z => ?_) (funext fun z => ?_)) _
      · rw [View.readAt_apply]
        refine congrArg (arg9.view.read (Elt F) X9) (Cert.Box.idx_unit _ _ _ (k0_off10_eq ⟨k, hk'⟩) fun a => ?_)
        fin_cases a
        · show 2048 * k + (z 0).val = 2048 * ((y 1).val / 2048) + (z 0).val; omega
        · show 0 + (z 1).val = (z 1).val; omega
      · rw [View.readAt_apply]
        refine congrArg (arg10.view.read (Elt F) X10) (Cert.Box.idx_unit _ _ _ (k0_off11_eq ⟨k, hk'⟩) fun a => ?_)
        fin_cases a
        · show 2048 * k + (z 0).val = 2048 * ((y 1).val / 2048) + (z 0).val; omega
        · show 0 + (z 1).val = (z 1).val; omega

end Reads

/-! ## The body at a grid point -/

/-- One more block zeroed. -/
theorem Z9_succ (i : grid0.Coords) (arg9 : Memref sig .tc .vmem S8192x64 .f32) (h1 : k0_cond1 i = 1#1) (f : BufTy.Contents (Elt F) arg9.view.ty) (k : ℕ) (h : k < k0_t1_loop.trips) :
    Z9 i arg9 h1 f (k + 1) = arg9.view.writes (Elt F) (Z9 i arg9 h1 f k) [⟨Rect.unit (s := S8192x64) (k0_off1 ⟨k, h⟩) S2048x64.size (k0_off1_inb i ⟨k, h⟩ h1), k0_pay4 (F := F)⟩] := by
  rw [Z9, dif_pos h]

/-- The last block zeroed makes the sums all zero. -/
theorem Z9_last (i : grid0.Coords) (arg9 : Memref sig .tc .vmem S8192x64 .f32) (h1 : k0_cond1 i = 1#1) (f : BufTy.Contents (Elt F) arg9.view.ty) (h3 : 3 < k0_t1_loop.trips) (inb) :
    arg9.view.read (Elt F) (arg9.view.writes (Elt F) (Z9 i arg9 h1 f 3) [⟨Rect.unit (s := S8192x64) (k0_off1 ⟨3, h3⟩) S2048x64.size inb, k0_pay4 (F := F)⟩]) = zeroN := by
  have e : arg9.view.writes (Elt F) (Z9 i arg9 h1 f 3) [⟨Rect.unit (s := S8192x64) (k0_off1 ⟨3, h3⟩) S2048x64.size inb, k0_pay4 (F := F)⟩] = Z9 i arg9 h1 f 4 := by
    exact (Z9_succ i arg9 h1 f 3 h3).symm
  rw [e]
  exact funext fun y => Z9_read i arg9 h1 f 4 le_rfl y (y 0).isLt

/-- One more block zeroed. -/
theorem Z10_succ (i : grid0.Coords) (arg10 : Memref sig .tc .vmem S8192x1 .f32) (h1 : k0_cond1 i = 1#1) (f : BufTy.Contents (Elt F) arg10.view.ty) (k : ℕ) (h : k < k0_t1_loop.trips) :
    Z10 i arg10 h1 f (k + 1) = arg10.view.writes (Elt F) (Z10 i arg10 h1 f k) [⟨Rect.unit (s := S8192x1) (k0_off2 ⟨k, h⟩) S2048x1.size (k0_off2_inb i ⟨k, h⟩ h1), k0_pay5 (F := F)⟩] := by
  rw [Z10, dif_pos h]

/-- The last block zeroed makes the counts all zero. -/
theorem Z10_last (i : grid0.Coords) (arg10 : Memref sig .tc .vmem S8192x1 .f32) (h1 : k0_cond1 i = 1#1) (f : BufTy.Contents (Elt F) arg10.view.ty) (h3 : 3 < k0_t1_loop.trips) (inb) :
    arg10.view.read (Elt F) (arg10.view.writes (Elt F) (Z10 i arg10 h1 f 3) [⟨Rect.unit (s := S8192x1) (k0_off2 ⟨3, h3⟩) S2048x1.size inb, k0_pay5 (F := F)⟩]) = zeroC := by
  have e : arg10.view.writes (Elt F) (Z10 i arg10 h1 f 3) [⟨Rect.unit (s := S8192x1) (k0_off2 ⟨3, h3⟩) S2048x1.size inb, k0_pay5 (F := F)⟩] = Z10 i arg10 h1 f 4 := by
    exact (Z10_succ i arg10 h1 f 3 h3).symm
  rw [e]
  exact funext fun y => Z10_read i arg10 h1 f 4 le_rfl y (y 0).isLt

set_option maxHeartbeats 800000 in
/-- The body at a grid point: the window's attention added to the running sums, which start from zero at a head's first cluster; the means written out at its last. -/
theorem run (c : Dev nD) (i : grid0.Coords) (arg2 : Memref sig .tc .smem S1x64x128 .i32) (harg2 : arg2.IsWhole) (arg3 : Memref sig .tc .vmem S1x8192x64 .f32) (harg3 : arg3.IsWhole) (arg4 : Memref sig .tc .vmem S1x8192x64 .f32) (harg4 : arg4.IsWhole) (arg5 : Memref sig .tc .vmem S1x8192x64 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S128x64 .f32) (harg8 : arg8.IsWhole) (arg9 : Memref sig .tc .vmem S8192x64 .f32) (harg9 : arg9.IsWhole) (arg10 : Memref sig .tc .vmem S8192x1 .f32) (harg10 : arg10.IsWhole)
    (x : Vec F S1x64x128 .i32) (q v o : Vec F S1x8192x64 .f32) (a6 a7 a8 : Vec F S128x64 .f32) (s : Vec F S8192x64 .f32) (n : Vec F S8192x1 .f32)
    (hx : ∀ y, BitVec.toNat (w := 32) (x y) < 8192) (K : PUnit → sProp 𝕄) :
    iprop(owns (c : Thread nD τ) arg2 fullShare x ∗ owns (c : Thread nD τ) arg3 fullShare q ∗ owns (c : Thread nD τ) arg4 fullShare v ∗ owns (c : Thread nD τ) arg5 fullShare o
        ∗ owns (c : Thread nD τ) arg6 fullShare a6 ∗ owns (c : Thread nD τ) arg7 fullShare a7 ∗ owns (c : Thread nD τ) arg8 fullShare a8 ∗ owns (c : Thread nD τ) arg9 fullShare s ∗ owns (c : Thread nD τ) arg10 fullShare n
        ∗ (iprop(owns (c : Thread nD τ) arg2 fullShare x ∗ owns (c : Thread nD τ) arg3 fullShare q ∗ owns (c : Thread nD τ) arg4 fullShare v
            ∗ owns (c : Thread nD τ) arg5 fullShare (if k0_cond2 i = 1#1 then outD (sumN x (nC i) (winB x (nC i) q v) (if k0_cond1 i = 1#1 then zeroN else s) 128) (sumC x (nC i) (if k0_cond1 i = 1#1 then zeroC else n) 128) else o)
            ∗ owns (c : Thread nD τ) arg6 fullShare (gatQ x (nC i) q) ∗ owns (c : Thread nD τ) arg7 fullShare (gatV x (nC i) v) ∗ owns (c : Thread nD τ) arg8 fullShare (winB x (nC i) q v)
            ∗ owns (c : Thread nD τ) arg9 fullShare (sumN x (nC i) (winB x (nC i) q v) (if k0_cond1 i = 1#1 then zeroN else s) 128)
            ∗ owns (c : Thread nD τ) arg10 fullShare (sumC x (nC i) (if k0_cond1 i = 1#1 then zeroC else n) 128)) -∗ K PUnit.unit))
      ⊢ wp frame (wpE (defs₀ (F := F)) Variants.none c none) Set.univ (cc0__attn_body i arg2 harg2 arg3 harg3 arg4 harg4 arg5 harg5 arg6 harg6 arg7 harg7 arg8 harg8 arg9 harg9 arg10 harg10) K := by
  simp only [cc0__attn_body_eq_skeleton]; unfold cc0__attn_body_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  have hw : InRange arg2 f2 := fun y => by rw [hf2]; exact hx y
  have e6 : arg6.view.read (Elt F) (G6 i arg2 arg3 arg6 f2 hw f3 f6 (Scf.trips k0_t2_loop.lb k0_t2_loop.ub k0_t2_loop.st)) = gatQ x (nC i) q :=
    funext fun y => by rw [show Scf.trips k0_t2_loop.lb k0_t2_loop.ub k0_t2_loop.st = _ from trips_t2, G6_read i arg2 arg3 arg6 f2 hw f3 f6 128 le_rfl y (y 0).isLt, hf2, hf3]
  have e7 : arg7.view.read (Elt F) (G7 i arg2 arg4 arg7 f2 hw f4 f7 (Scf.trips k0_t2_loop.lb k0_t2_loop.ub k0_t2_loop.st)) = gatV x (nC i) v :=
    funext fun y => by rw [show Scf.trips k0_t2_loop.lb k0_t2_loop.ub k0_t2_loop.st = _ from trips_t2, G7_read i arg2 arg4 arg7 f2 hw f4 f7 128 le_rfl y (y 0).isLt, hf2, hf4]
  have e9 : ∀ X8 X9, arg8.view.read (Elt F) X8 = winB x (nC i) q v → arg9.view.read (Elt F) X9 = (if k0_cond1 i = 1#1 then zeroN else s) →
      arg9.view.read (Elt F) (S9 i arg2 arg8 arg9 f2 hw X8 X9 (Scf.trips k0_t3_loop.lb k0_t3_loop.ub k0_t3_loop.st)) = sumN x (nC i) (winB x (nC i) q v) (if k0_cond1 i = 1#1 then zeroN else s) 128 :=
    fun X8 X9 h8 h9 => by rw [show Scf.trips k0_t3_loop.lb k0_t3_loop.ub k0_t3_loop.st = _ from trips_t3, S9_read i arg2 arg8 arg9 f2 hw X8 X9 128 le_rfl, hf2, h8, h9]
  have e10 : ∀ X10, arg10.view.read (Elt F) X10 = (if k0_cond1 i = 1#1 then zeroC else n) →
      arg10.view.read (Elt F) (S10 i arg2 arg10 f2 hw X10 (Scf.trips k0_t3_loop.lb k0_t3_loop.ub k0_t3_loop.st)) = sumC x (nC i) (if k0_cond1 i = 1#1 then zeroC else n) 128 :=
    fun X10 h10 => by rw [show Scf.trips k0_t3_loop.lb k0_t3_loop.ub k0_t3_loop.st = _ from trips_t3, S10_read i arg2 arg10 f2 hw X10 128 le_rfl, hf2, h10]
  have e5 : ∀ h2 X9 X10, arg5.view.read (Elt F) (D5 i arg5 arg9 arg10 h2 X9 X10 f5 (Scf.trips k0_t4_loop.lb k0_t4_loop.ub k0_t4_loop.st)) = outD (arg9.view.read (Elt F) X9) (arg10.view.read (Elt F) X10) :=
    fun h2 X9 X10 => funext fun y => by rw [show Scf.trips k0_t4_loop.lb k0_t4_loop.ub k0_t4_loop.st = _ from trips_t4]; exact D5_read i arg5 arg9 arg10 h2 X9 X10 f5 4 le_rfl y (y 1).isLt
  by_cases h1 : k0_cond1 i = 1#1 <;> by_cases h2 : k0_cond2 i = 1#1
  all_goals
    sl_exec (disch := first | sl_exact h1 | sl_exact h2)
    sl_step
    iapply Hk
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap; · iexact H5
      ipureintro
      first
      | (rw [if_neg h2]; exact hf5)
      | rw [if_pos h2, e5]
        refine congrArg₂ outD (e9 _ _ ?_ ?_) (e10 _ ?_)
        · first | unfold run.sl.H8_1 | unfold run.sl.H8_1_1 | unfold run.sl.H8_1_2 | unfold run.sl.H8_1_3
          rw [Cert.Box.read_cons]; first | rw [Cert.Box.readAt_all, Cert.Box.readAt_all, e6, e7]; rfl
        · first
          | (rw [if_neg h1]; exact hf9)
          | (rw [if_pos h1]; exact Z9_last i arg9 h1 f9 _ _)
        · first
          | (rw [if_neg h1]; exact hf10)
          | (rw [if_pos h1]; exact Z10_last i arg10 h1 f10 _ _)
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro
      first | unfold run.sl.H8_1 | unfold run.sl.H8_1_1 | unfold run.sl.H8_1_2 | unfold run.sl.H8_1_3
      rw [Cert.Box.read_cons]; first | rw [Cert.Box.readAt_all, Cert.Box.readAt_all, e6, e7]; rfl
    isplitl [H9]
    · iexists _; isplitr; swap; · iexact H9
      ipureintro
      refine e9 _ _ ?_ ?_
      · first | unfold run.sl.H8_1 | unfold run.sl.H8_1_1 | unfold run.sl.H8_1_2 | unfold run.sl.H8_1_3
        rw [Cert.Box.read_cons]; first | rw [Cert.Box.readAt_all, Cert.Box.readAt_all, e6, e7]; rfl
      · first
        | (rw [if_neg h1]; exact hf9)
        | (rw [if_pos h1]; exact Z9_last i arg9 h1 f9 _ _)
    · iexists _; isplitr; swap; · iexact H10
      ipureintro
      refine e10 _ ?_
      first
      | (rw [if_neg h1]; exact hf10)
      | (rw [if_pos h1]; exact Z10_last i arg10 h1 f10 _ _)

end Cert.AttnIdeal.At

end
-- ==== Proof.AtDataAttnIdeal.lean ====
module

public import proofs.«01_k».proof.Proof.AtRunAttnIdeal

@[expose] public section

set_option maxRecDepth 16384

noncomputable section

namespace Cert.AttnIdeal.At

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions over the point's number -/

/-- A point's cluster. -/
theorem nC_coords (t : Fin cfg0.N) : (nC (grid0.coords t)).val = t.val % 64 := by
  have e1 : (grid0.coords t 1).val = t.val / 1 % 64 := Pipeline.Grid.coords_val t 1 (by decide) rfl
  rw [Nat.div_one] at e1
  exact e1
/-- A head's first cluster. -/
theorem hcond1 (t : Fin cfg0.N) : k0_cond1 (grid0.coords t) = 1#1 ↔ t.val % 64 = 0 := by
  have ht : t.val < 768 := Nat.lt_of_lt_of_eq t.isLt N_0
  have e0 : (grid0.coords t 0).val = t.val / 64 % 12 := Pipeline.Grid.coords_val t 0 (by decide) rfl
  have e1 : (grid0.coords t 1).val = t.val / 1 % 64 := Pipeline.Grid.coords_val t 1 (by decide) rfl
  simp only [k0_cond1, e0, e1]
  word_cmp
/-- A head's last cluster. -/
theorem hcond2 (t : Fin cfg0.N) : k0_cond2 (grid0.coords t) = 1#1 ↔ t.val % 64 = 63 := by
  have ht : t.val < 768 := Nat.lt_of_lt_of_eq t.isLt N_0
  have e0 : (grid0.coords t 0).val = t.val / 64 % 12 := Pipeline.Grid.coords_val t 0 (by decide) rfl
  have e1 : (grid0.coords t 1).val = t.val / 1 % 64 := Pipeline.Grid.coords_val t 1 (by decide) rfl
  simp only [k0_cond2, e0, e1]
  word_cmp

/-! ## Where the output is written -/

/-- Before a head's last point nothing is written out. -/
theorem idle_3 (t : Fin cfg0.N) (h : ¬t.val % 64 = 63) : cfg0.idle 3 (grid0.coords t) = true :=
  (by decide +kernel : ∀ t : Fin cfg0.N, ¬t.val % 64 = 63 → cfg0.idle 3 (grid0.coords t) = true) t h
/-- At a head's last point the output is written. -/
theorem live_3 (t : Fin cfg0.N) (h : t.val % 64 = 63) : cfg0.idle 3 (grid0.coords t) = false :=
  (by decide +kernel : ∀ t : Fin cfg0.N, t.val % 64 = 63 → cfg0.idle 3 (grid0.coords t) = false) t h
/-- Before a head's last point nothing of the output goes back. -/
theorem noFlush_3 (t : Fin cfg0.N) (h : ¬t.val % 64 = 63) : (cfg0.win 3).flush t = false :=
  (by decide +kernel : ∀ t : Fin cfg0.N, ¬t.val % 64 = 63 → (cfg0.win 3).flush t = false) t h

/-- Window 0's current staging buffer. -/
abbrev ms0 (t : Fin cfg0.N) : Memref sig .tc .smem S1x64x128 .i32 := win0_0.stage (cfg0.slots t 0)
/-- It is a whole buffer. -/
abbrev hs0 (t : Fin cfg0.N) : (ms0 t).IsWhole := hstage0_0 ((cfg0.slots t 0).cast nbuf0_0)
/-- Window 1's current staging buffer. -/
abbrev ms1 (t : Fin cfg0.N) : Memref sig .tc .vmem S1x8192x64 .f32 := win0_1.stage (cfg0.slots t 1)
/-- It is a whole buffer. -/
abbrev hs1 (t : Fin cfg0.N) : (ms1 t).IsWhole := hstage0_1 ((cfg0.slots t 1).cast nbuf0_1)
/-- Window 2's current staging buffer. -/
abbrev ms2 (t : Fin cfg0.N) : Memref sig .tc .vmem S1x8192x64 .f32 := win0_2.stage (cfg0.slots t 2)
/-- It is a whole buffer. -/
abbrev hs2 (t : Fin cfg0.N) : (ms2 t).IsWhole := hstage0_2 ((cfg0.slots t 2).cast nbuf0_2)
/-- Window 3's current staging buffer. -/
abbrev ms3 (t : Fin cfg0.N) : Memref sig .tc .vmem S1x8192x64 .f32 := win0_3.stage (cfg0.slots t 3)
/-- It is a whole buffer. -/
abbrev hs3 (t : Fin cfg0.N) : (ms3 t).IsWhole := hstage0_3 ((cfg0.slots t 3).cast nbuf0_3)
/-- Scratch buffer 0. -/
abbrev sc0 : Memref sig .tc .vmem S128x64 .f32 := Memref.whole cc0_scratch0
/-- Scratch buffer 1. -/
abbrev sc1 : Memref sig .tc .vmem S128x64 .f32 := Memref.whole cc0_scratch1
/-- Scratch buffer 2. -/
abbrev sc2 : Memref sig .tc .vmem S128x64 .f32 := Memref.whole cc0_scratch2
/-- Scratch buffer 3. -/
abbrev sc3 : Memref sig .tc .vmem S8192x64 .f32 := Memref.whole cc0_scratch3
/-- Scratch buffer 4. -/
abbrev sc4 : Memref sig .tc .vmem S8192x1 .f32 := Memref.whole cc0_scratch4

/-- What the launch hands the region: the five scratch buffers at some contents, and the generator register. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-! ## The state the points build -/

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sums after the first `n` points. -/
def stN (c : Dev nD) : ℕ → Vec F S8192x64 .f32
  | 0 => zeroN
  | n + 1 => if h : n < cfg0.N then
      sumN (iblk V c 0 ⟨n, h⟩) (nC (grid0.coords ⟨n, h⟩)) (winB (iblk V c 0 ⟨n, h⟩) (nC (grid0.coords ⟨n, h⟩)) (iblk V c 1 ⟨n, h⟩) (iblk V c 2 ⟨n, h⟩)) (if n % 64 = 0 then zeroN else stN c n) 128
    else stN c n
/-- The running counts after the first `n` points. -/
def stC (c : Dev nD) : ℕ → Vec F S8192x1 .f32
  | 0 => zeroC
  | n + 1 => if h : n < cfg0.N then
      sumC (iblk V c 0 ⟨n, h⟩) (nC (grid0.coords ⟨n, h⟩)) (if n % 64 = 0 then zeroC else stC c n) 128
    else stC c n

/-- One more point's sums. -/
theorem stN_succ (c : Dev nD) (t : Fin cfg0.N) :
    stN V c (t.val + 1) = sumN (iblk V c 0 t) (nC (grid0.coords t)) (winB (iblk V c 0 t) (nC (grid0.coords t)) (iblk V c 1 t) (iblk V c 2 t)) (if t.val % 64 = 0 then zeroN else stN V c t.val) 128 := by
  rw [stN, dif_pos t.isLt]
/-- One more point's counts. -/
theorem stC_succ (c : Dev nD) (t : Fin cfg0.N) :
    stC V c (t.val + 1) = sumC (iblk V c 0 t) (nC (grid0.coords t)) (if t.val % 64 = 0 then zeroC else stC V c t.val) 128 := by
  rw [stC, dif_pos t.isLt]

/-- What the scratch holds before point `n`: past a head's first point, the sums and counts so far. -/
def Phi (c : Dev nD) (n : ℕ) : sProp 𝕄 :=
  iprop(∃ a6 a7 a8 s k, ⌜¬n % 64 = 0 → s = stN V c n ∧ k = stC V c n⌝
    ∗ owns (c : Thread nD τ) sc0 fullShare a6 ∗ owns (c : Thread nD τ) sc1 fullShare a7 ∗ owns (c : Thread nD τ) sc2 fullShare a8 ∗ owns (c : Thread nD τ) sc3 fullShare s ∗ owns (c : Thread nD τ) sc4 fullShare k
    ∗ (∃ r, prngReg c r))

/-- The region's proof data. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outD (stN V c (t.val + 1)) (stC V c (t.val + 1))
  Φ t := Phi V c t.val
  q _ := fullShare
  owed _ := 0

/-- The arrays are those the region finds. -/
theorem A_eq (c : Dev nD) (w : Fin cfg0.W) : (dat V c).A w = V c (Pipeline.arrRef spec0 w) := by
  dsimp only [dat]

/-- What the body leaves in window 0's staging buffer. -/
theorem after_0 (c : Dev nD) (t : Fin cfg0.N) : (dat V c).after 0 t = iblk V c 0 t := by dsimp only [dat]
/-- What the body leaves in window 1's staging buffer. -/
theorem after_1 (c : Dev nD) (t : Fin cfg0.N) : (dat V c).after 1 t = iblk V c 1 t := by dsimp only [dat]
/-- What the body leaves in window 2's staging buffer. -/
theorem after_2 (c : Dev nD) (t : Fin cfg0.N) : (dat V c).after 2 t = iblk V c 2 t := by dsimp only [dat]
/-- What the body leaves in the output's staging buffer. -/
theorem after_3 (c : Dev nD) (t : Fin cfg0.N) : (dat V c).after 3 t = outD (stN V c (t.val + 1)) (stC V c (t.val + 1)) := by dsimp only [dat]
/-- Input window 0's staging buffer holds its block at every point. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's staging buffer holds its block at every point. -/
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's staging buffer holds its block at every point. -/
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is given at a point. -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- What the body gives back at a point. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

/-- The output's buffer after a point, from what the body left there. -/
theorem leaves_3 (c : Dev nD) (t : Fin cfg0.N) (d) :
    (owns (c : Thread nD τ) (ms3 t) fullShare (if k0_cond2 (grid0.coords t) = 1#1 then outD (stN V c (t.val + 1)) (stC V c (t.val + 1)) else (dat V c).before 3 t d) : sProp 𝕄) ⊢ (dat V c).leavesExact 3 t := by
  by_cases h3 : t.val % 64 = 63
  · rw [if_pos ((hcond2 t).mpr h3)]
    rw [show (dat V c).leavesExact 3 t = owns (c : Thread nD τ) (ms3 t) fullShare ((dat V c).after 3 t) from by
      unfold Dat.leavesExact; rw [live_3 t h3], after_3]
  · rw [if_neg (fun h' => h3 ((hcond2 t).mp h'))]
    rw [Dat.leavesExact_idle (dat V c) 3 t (idle_3 t h3) (noFlush_3 t h3)]
    iintro H; iexists _; iexact H

set_option maxHeartbeats 1000000 in
/-- The body at any point, the words of its indices being tokens' numbers. -/
theorem sound_body (c : Dev nD) (t : Fin cfg0.N) (hx : ∀ y : S1x64x128.Idx, BitVec.toNat (w := 32) (iblk V c 0 t y) < 8192) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) from rfl, show (dat V c).Φ t.castSucc = Phi V c t.val from rfl]
  unfold Phi
  rw [show (dat V c).leavesExact 0 t = owns (c : Thread nD τ) (ms0 t) fullShare ((dat V c).after 0 t) from by
      unfold Dat.leavesExact; rw [show cfg0.idle 0 (grid0.coords t) = false from rfl], after_0]
  rw [show (dat V c).leavesExact 1 t = owns (c : Thread nD τ) (ms1 t) fullShare ((dat V c).after 1 t) from by
      unfold Dat.leavesExact; rw [show cfg0.idle 1 (grid0.coords t) = false from rfl], after_1]
  rw [show (dat V c).leavesExact 2 t = owns (c : Thread nD τ) (ms2 t) fullShare ((dat V c).after 2 t) from by
      unfold Dat.leavesExact; rw [show cfg0.idle 2 (grid0.coords t) = false from rfl], after_2]
  iintro ⟨⟨%a6, %a7, %a8, %s, %k, %hok, HS0, HS1, HS2, HS3, HS4, Hg⟩, Ho, ⟨%d0, H0⟩, ⟨%d1, H1⟩, ⟨%d2, H2⟩, ⟨%d3, H3⟩⟩
  have e1 : (if k0_cond1 (grid0.coords t) = 1#1 then zeroN else s) = if t.val % 64 = 0 then zeroN (F := F) else stN V c t.val := by
    by_cases h : t.val % 64 = 0
    · rw [if_pos h, if_pos ((hcond1 t).mpr h)]
    · rw [if_neg h, if_neg (fun h' => h ((hcond1 t).mp h')), (hok h).1]
  have e2 : (if k0_cond1 (grid0.coords t) = 1#1 then zeroC else k) = if t.val % 64 = 0 then zeroC (F := F) else stC V c t.val := by
    by_cases h : t.val % 64 = 0
    · rw [if_pos h, if_pos ((hcond1 t).mpr h)]
    · rw [if_neg h, if_neg (fun h' => h ((hcond1 t).mp h')), (hok h).2]
  iapply (run c (grid0.coords t) _ (hs0 t) _ (hs1 t) _ (hs2 t) _ (hs3 t) sc0 (Memref.isWhole_whole _) sc1 (Memref.isWhole_whole _) sc2 (Memref.isWhole_whole _) sc3 (Memref.isWhole_whole _) sc4 (Memref.isWhole_whole _) (iblk V c 0 t) (iblk V c 1 t) (iblk V c 2 t) _ _ _ _ _ _ hx _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  rw [e1, e2, ← stN_succ, ← stC_succ]
  iintro ⟨H0, H1, H2, H3, HS0, HS1, HS2, HS3, HS4⟩
  isplitl [HS0 HS1 HS2 HS3 HS4 Hg]
  · iexists _; iexists _; iexists _; iexists _; iexists _
    isplitr; swap
    · isplitl [HS0]; · iexact HS0
      isplitl [HS1]; · iexact HS1
      isplitl [HS2]; · iexact HS2
      isplitl [HS3]; · iexact HS3
      isplitl [HS4]; · iexact HS4
      iexact Hg
    ipureintro
    exact fun _ => ⟨rfl, rfl⟩
  isplitl [Ho]; · iexact Ho
  isplitl [H0]; · iexact H0
  isplitl [H1]; · iexact H1
  isplitl [H2]; · iexact H2
  iapply (leaves_3 V c t d3)
  iexact H3

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) (hx : ∀ (t : Fin cfg0.N) (y : S1x64x128.Idx), BitVec.toNat (w := 32) (iblk V c 0 t y) < 8192) :
    BodyObligation (dat (F := F) V c) (defs₀ (F := F)) Variants.none () Set.univ := fun t => by
  rw [bigSep_W0, bigSep_W0, defs₀_row]
  exact triple_restated (sound_body V c t (hx t)) rfl .rfl fun _ => .rfl

/-- The launch's scratch is the invariant before the first point. -/
theorem hin (c : Dev nD) : Pipeline.ΦA spec0 c ⊢ (dat V c).Φ 0 := by
  rw [show (dat V c).Φ 0 = Phi V c 0 from rfl, PhiA0_eq]
  unfold Phi
  iintro ⟨⟨⟨%a, HS0⟩, ⟨%b, HS1⟩, ⟨%d, HS2⟩, ⟨%e, HS3⟩, ⟨%f, HS4⟩⟩, Hg⟩
  iexists a; iexists b; iexists d; iexists e; iexists f
  isplitr; swap
  · isplitl [HS0]; · iexact HS0
    isplitl [HS1]; · iexact HS1
    isplitl [HS2]; · iexact HS2
    isplitl [HS3]; · iexact HS3
    isplitl [HS4]; · iexact HS4
    iexact Hg
  ipureintro
  exact fun h => absurd rfl h

/-- After the last point the scratch goes back at some contents. -/
theorem hout (c : Dev nD) : (dat V c).Φ (Fin.last cfg0.N) ⊢ Pipeline.ΦA spec0 c := by
  rw [show (dat V c).Φ (Fin.last cfg0.N) = Phi V c cfg0.N from rfl, PhiA0_eq]
  unfold Phi
  iintro ⟨%a, %b, %d, %e, %f, -, HS0, HS1, HS2, HS3, HS4, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

end Cert.AttnIdeal.At

end
-- ==== Proof.AtPay.lean ====
module

public import proofs.«01_k».proof.Proof.AtMath
public import proofs.«01_k».proof.Proof.AtDataAttnIdeal
public import Idealize.ShloMosaic.Lib.Pipeline.ValueKit

@[expose] public section

set_option maxRecDepth 16384

noncomputable section

/-! What one point of the kernel's attention computes, read at coordinates. -/

namespace Cert.AttnIdeal.At

open Cert.AttnIdeal Cert.AttnIdeal.Gen Cert.Attn
open Idealize.ShloMosaic Idealize.ShloMosaic.TcCoe

/-- A window's rows at coordinates. -/
def mat (x : Vec Ideal S128x64 .f32) (i : Fin 128) (d : Fin 64) : EReal := x (ix2 i d)

/-- The attention of one window. -/
theorem pay8_at (q v : Vec Ideal S128x64 .f32) (i : Fin 128) (d : Fin 64) : k0_pay8 q v (ix2 i d) = att (mat q) (mat v) i d := by
  pointwise [k0_pay8]
  simp only [pick_eq]
  rfl

/-- The gathered query rows. -/
theorem gatQ_at (x : Vec Ideal S1x64x128 .i32) (n : Fin 64) (q : Vec Ideal S1x8192x64 .f32) (i : Fin 128) (d : Fin 64) :
    gatQ x n q (ix2 i d) = q (ix3 0 (Cert.Attn.tok (x (ix3 0 n i))) d) := by
  unfold gatQ
  pointwise [k0_pay6]
  rfl

/-- The gathered value rows. -/
theorem gatV_at (x : Vec Ideal S1x64x128 .i32) (n : Fin 64) (q : Vec Ideal S1x8192x64 .f32) (i : Fin 128) (d : Fin 64) :
    gatV x n q (ix2 i d) = q (ix3 0 (Cert.Attn.tok (x (ix3 0 n i))) d) := by
  unfold gatV
  pointwise [k0_pay7]
  rfl

/-- Sums of zero. -/
theorem zeroN_at (r : Fin 8192) (d : Fin 64) : zeroN (F := Ideal) (ix2 r d) = 0 := by
  unfold zeroN
  pointwise [k0_pay4]

/-- Counts of zero. -/
theorem zeroC_at (r : Fin 8192) : zeroC (F := Ideal) (ix2 r 0) = 0 := by
  unfold zeroC
  pointwise [k0_pay5]

/-- One slot's row added. -/
theorem addN_at (x : Vec Ideal S1x64x128 .i32) (n : Fin 64) (b : Vec Ideal S128x64 .f32) (k : Fin 128) (s : Vec Ideal S8192x64 .f32) (hx : (x (ix3 0 n k)).toNat < 8192) (r : Fin 8192) (d : Fin 64) :
    addN x n b k s (ix2 r d) = s (ix2 r d) + if Cert.Attn.tok (x (ix3 0 n k)) = r then b (ix2 k d) else 0 := by
  have e : (r.val = (x (ix3 0 n k)).toNat) ↔ Cert.Attn.tok (x (ix3 0 n k)) = r := by
    rw [Fin.ext_iff]
    show _ ↔ (x (ix3 0 n k)).toNat % 8192 = r.val
    omega
  show (if r.val = (x (ix3 0 n k)).toNat then _ else _) = _
  by_cases h : r.val = (x (ix3 0 n k)).toNat
  · rw [if_pos h, if_pos (e.mp h)]
    pointwise [k0_pay1]
  · rw [if_neg h, if_neg (fun h' => h (e.mpr h')), add_zero]

/-- One slot counted. -/
theorem addC_at (x : Vec Ideal S1x64x128 .i32) (n : Fin 64) (k : Fin 128) (s : Vec Ideal S8192x1 .f32) (hx : (x (ix3 0 n k)).toNat < 8192) (r : Fin 8192) :
    addC x n k s (ix2 r 0) = s (ix2 r 0) + if Cert.Attn.tok (x (ix3 0 n k)) = r then Ideal.ofBits FTy.f32 0x3F800000#32 else 0 := by
  have e : (r.val = (x (ix3 0 n k)).toNat) ↔ Cert.Attn.tok (x (ix3 0 n k)) = r := by
    rw [Fin.ext_iff]
    show _ ↔ (x (ix3 0 n k)).toNat % 8192 = r.val
    omega
  show (if r.val = (x (ix3 0 n k)).toNat then _ else _) = _
  by_cases h : r.val = (x (ix3 0 n k)).toNat
  · rw [if_pos h, if_pos (e.mp h)]
    pointwise [k0_pay2]
  · rw [if_neg h, if_neg (fun h' => h (e.mpr h')), add_zero]

/-- The mean written out. -/
theorem outD_at (s : Vec Ideal S8192x64 .f32) (n : Vec Ideal S8192x1 .f32) (r : Fin 8192) (d : Fin 64) :
    outD s n (ix3 0 r d) = Ideal.div (s (ix2 r d)) (n (ix2 r 0) + Ideal.ofBits FTy.f32 0x3727C5AC#32) := by
  have hr : (⟨2048 * (r.val / 2048) + r.val % 2048, by omega⟩ : Fin 8192) = r := Fin.ext (by show 2048 * (r.val / 2048) + r.val % 2048 = r.val; omega)
  have e : ∀ (a : Vec Ideal S2048x64 .f32) (b : Vec Ideal S2048x1 .f32) (t : Fin 2048), k0_pay3 a b (ix3 0 t d) = Ideal.div (a (ix2 t d)) (b (ix2 t 0) + Ideal.ofBits FTy.f32 0x3727C5AC#32) := fun a b t => by
    pointwise [k0_pay3]
  refine (e _ _ ⟨r.val % 2048, Nat.mod_lt _ (by decide)⟩).trans ?_
  show Ideal.div (s (ix2 (⟨2048 * (r.val / 2048) + r.val % 2048, _⟩ : Fin 8192) d)) (n (ix2 (⟨2048 * (r.val / 2048) + r.val % 2048, _⟩ : Fin 8192) 0) + _) = _
  rw [hr]

end Cert.AttnIdeal.At

end
-- ==== Proof.AtVal.lean ====
module

public import proofs.«01_k».proof.Proof.AtPay

@[expose] public section

set_option maxRecDepth 16384

noncomputable section

/-! What the kernel's attention leaves in its result. -/

namespace Cert.AttnIdeal.At

open Cert.AttnIdeal Cert.AttnIdeal.Gen Cert.Attn
open Idealize.ShloMosaic Idealize.ShloMosaic.TcCoe

section Sums

variable (x : Vec Ideal S1x64x128 .i32) (n : Fin 64) (hx : ∀ k, (x (ix3 0 n k)).toNat < 8192)
include hx

/-- The sums after the first slots of a window. -/
theorem sumN_at (b : Vec Ideal S128x64 .f32) (s : Vec Ideal S8192x64 .f32) (r : Fin 8192) (d : Fin 64) (m : ℕ) (hm : m ≤ 128) :
    sumN x n b s m (ix2 r d) = s (ix2 r d) + ∑ k ∈ Finset.univ.filter (fun k : Fin 128 => k.val < m), if Cert.Attn.tok (x (ix3 0 n k)) = r then b (ix2 k d) else 0 := by
  induction m with
  | zero => simp [sumN]
  | succ m ih =>
    rw [sumN_succ x n b s m (by omega), addN_at x n b _ _ (hx _), ih (by omega), sum_lt_succ _ (⟨m, by omega⟩ : Fin 128), add_assoc]

/-- The counts after the first slots of a window. -/
theorem sumC_at (s : Vec Ideal S8192x1 .f32) (r : Fin 8192) (m : ℕ) (hm : m ≤ 128) :
    sumC x n s m (ix2 r 0) = s (ix2 r 0) + ∑ k ∈ Finset.univ.filter (fun k : Fin 128 => k.val < m), if Cert.Attn.tok (x (ix3 0 n k)) = r then Ideal.ofBits FTy.f32 0x3F800000#32 else 0 := by
  induction m with
  | zero => simp [sumC]
  | succ m ih =>
    rw [sumC_succ x n s m (by omega), addC_at x n _ _ (hx _), ih (by omega), sum_lt_succ _ (⟨m, by omega⟩ : Fin 128), add_assoc]

/-- The sums after a window. -/
theorem sumN_all (b : Vec Ideal S128x64 .f32) (s : Vec Ideal S8192x64 .f32) (r : Fin 8192) (d : Fin 64) :
    sumN x n b s 128 (ix2 r d) = s (ix2 r d) + ∑ k, if Cert.Attn.tok (x (ix3 0 n k)) = r then b (ix2 k d) else 0 := by
  rw [sumN_at x n hx b s r d 128 le_rfl, Finset.filter_true_of_mem fun k _ => k.isLt]

/-- The counts after a window. -/
theorem sumC_all (s : Vec Ideal S8192x1 .f32) (r : Fin 8192) :
    sumC x n s 128 (ix2 r 0) = s (ix2 r 0) + ∑ k, if Cert.Attn.tok (x (ix3 0 n k)) = r then Ideal.ofBits FTy.f32 0x3F800000#32 else 0 := by
  rw [sumC_at x n hx s r 128 le_rfl, Finset.filter_true_of_mem fun k _ => k.isLt]

end Sums

/-- A head's token numbers. -/
def hT (I : Vec Ideal S12x64x128 .i32) (h : Fin 12) (c : Fin 64) (k : Fin 128) : BitVec 32 := I (ix3 h c k)
/-- A window's rows of an array of tokens. -/
def hR (I : Vec Ideal S12x64x128 .i32) (A : Vec Ideal S12x8192x64 .f32) (h : Fin 12) (c : Fin 64) (k : Fin 128) (d : Fin 64) : EReal :=
  A (ix3 h (Cert.Attn.tok (hT I h c k)) d)
/-- What the call writes. -/
def gOut (I : Vec Ideal S12x64x128 .i32) (Q W : Vec Ideal S12x8192x64 .f32) : Vec Ideal S12x8192x64 .f32 := fun y =>
  mean (hT I (y 0)) (fun c k => att (hR I Q (y 0) c) (hR I W (y 0) c) k (y 2)) (y 1)

/-- The windows' block numbers at a point. -/
theorem idx : ∀ t : Fin cfg0.N, win0_0.index t = ![t.val / 64, 0, 0] ∧ win0_1.index t = ![t.val / 64, 0, 0] ∧ win0_2.index t = ![t.val / 64, 0, 0]
    ∧ win0_3.index t = ![t.val / 64, 0, 0] ∧ t.val / 64 < 12 :=
  (by decide +kernel : ∀ t : Fin grid0.N, _)

variable (V : (c : Dev nD) → (b : Ref sig .tc) → Buf (Elt Ideal) ((c : Thread nD τ).loc b)) (c : Dev nD)

/-- The token numbers' array. -/
abbrev aI : Vec Ideal S12x64x128 .i32 := V c (Pipeline.arrRef spec0 0)
/-- The queries' array. -/
abbrev aQ : Vec Ideal S12x8192x64 .f32 := V c (Pipeline.arrRef spec0 1)
/-- The values' array. -/
abbrev aW : Vec Ideal S12x8192x64 .f32 := V c (Pipeline.arrRef spec0 2)

/-- A point's token numbers. -/
theorem blk0_at (t : Fin cfg0.N) (h : Fin 12) (hh : t.val / 64 = h.val) (n : Fin 64) (k : Fin 128) :
    (iblk V c 0 t : Vec Ideal S1x64x128 .i32) (ix3 0 n k) = aI V c (ix3 h n k) := by
  blk_ext [iblk, idx t]
/-- A point's queries. -/
theorem blk1_at (t : Fin cfg0.N) (h : Fin 12) (hh : t.val / 64 = h.val) (s : Fin 8192) (k : Fin 64) :
    (iblk V c 1 t : Vec Ideal S1x8192x64 .f32) (ix3 0 s k) = aQ V c (ix3 h s k) := by
  blk_ext [iblk, idx t]
/-- A point's values. -/
theorem blk2_at (t : Fin cfg0.N) (h : Fin 12) (hh : t.val / 64 = h.val) (s : Fin 8192) (k : Fin 64) :
    (iblk V c 2 t : Vec Ideal S1x8192x64 .f32) (ix3 0 s k) = aW V c (ix3 h s k) := by
  blk_ext [iblk, idx t]

/-- A point's attention. -/
theorem winB_at (t : Fin cfg0.N) (h : Fin 12) (hh : t.val / 64 = h.val) (n : Fin 64) (k : Fin 128) (d : Fin 64) :
    winB (iblk V c 0 t) n (iblk V c 1 t) (iblk V c 2 t) (ix2 k d) = att (hR (aI V c) (aQ V c) h n) (hR (aI V c) (aW V c) h n) k d := by
  unfold winB
  rw [pay8_at]
  congr 1
  · funext i j
    unfold mat hR hT
    rw [gatQ_at, blk1_at V c t h hh, blk0_at V c t h hh]
  · funext i j
    unfold mat hR hT
    rw [gatV_at, blk2_at V c t h hh, blk0_at V c t h hh]

variable (hI : ∀ y, (aI V c y).toNat < 8192)
include hI

/-- The sums and the counts after `p` points of a head. -/
theorem inv (h : Fin 12) (p : ℕ) (h1 : 1 ≤ p) (h64 : p ≤ 64) (r : Fin 8192) :
    (∀ d, stN V c (64 * h.val + p) (ix2 r d) = total (hT (aI V c) h) (fun n k => att (hR (aI V c) (aQ V c) h n) (hR (aI V c) (aW V c) h n) k d) p r)
    ∧ stC V c (64 * h.val + p) (ix2 r 0) = total (hT (aI V c) h) (fun _ _ => Ideal.ofBits FTy.f32 0x3F800000#32) p r := by
  have hN : cfg0.N = 768 := by decide +kernel
  have hh := h.isLt
  have step : ∀ (p : ℕ) (hp : p < 64),
      (∀ d, stN V c (64 * h.val + p + 1) (ix2 r d) = (if p = 0 then (0 : EReal) else stN V c (64 * h.val + p) (ix2 r d))
        + ∑ k, if Cert.Attn.tok (hT (aI V c) h ⟨p, hp⟩ k) = r then att (hR (aI V c) (aQ V c) h ⟨p, hp⟩) (hR (aI V c) (aW V c) h ⟨p, hp⟩) k d else 0)
      ∧ stC V c (64 * h.val + p + 1) (ix2 r 0) = (if p = 0 then (0 : EReal) else stC V c (64 * h.val + p) (ix2 r 0))
        + ∑ k, if Cert.Attn.tok (hT (aI V c) h ⟨p, hp⟩ k) = r then Ideal.ofBits FTy.f32 0x3F800000#32 else 0 := by
    intro p hp
    have hlt : 64 * h.val + p < cfg0.N := by omega
    have hdiv : (⟨64 * h.val + p, hlt⟩ : Fin cfg0.N).val / 64 = h.val := by show (64 * h.val + p) / 64 = _; omega
    have hn : nC (grid0.coords ⟨64 * h.val + p, hlt⟩) = ⟨p, hp⟩ := Fin.ext ((nC_coords _).trans (by show (64 * h.val + p) % 64 = p; omega))
    have hx : ∀ k, ((iblk V c 0 ⟨64 * h.val + p, hlt⟩ : Vec Ideal S1x64x128 .i32) (ix3 0 (⟨p, hp⟩ : Fin 64) k)).toNat < 8192 := fun k => by
      rw [blk0_at V c _ h hdiv]; exact hI _
    have hz : ((64 * h.val + p) % 64 = 0) ↔ p = 0 := by omega
    constructor
    · intro d
      refine (congrFun (stN_succ V c ⟨64 * h.val + p, hlt⟩) _).trans ?_
      rw [hn, sumN_all _ _ hx]
      refine congrArg₂ (· + ·) ?_ (Finset.sum_congr rfl fun k _ => ?_)
      · show (if (64 * h.val + p) % 64 = 0 then zeroN else stN V c (64 * h.val + p)) (ix2 r d) = _
        by_cases h0 : p = 0
        · rw [if_pos (hz.mpr h0), if_pos h0, zeroN_at]
        · rw [if_neg (fun h' => h0 (hz.mp h')), if_neg h0]
      · rw [blk0_at V c _ h hdiv, winB_at V c _ h hdiv]
        rfl
    · refine (congrFun (stC_succ V c ⟨64 * h.val + p, hlt⟩) _).trans ?_
      rw [hn, sumC_all _ _ hx]
      refine congrArg₂ (· + ·) ?_ (Finset.sum_congr rfl fun k _ => ?_)
      · show (if (64 * h.val + p) % 64 = 0 then zeroC else stC V c (64 * h.val + p)) (ix2 r 0) = _
        by_cases h0 : p = 0
        · rw [if_pos (hz.mpr h0), if_pos h0, zeroC_at]
        · rw [if_neg (fun h' => h0 (hz.mp h')), if_neg h0]
      · rw [blk0_at V c _ h hdiv]
        rfl
  induction p, h1 using Nat.le_induction with
  | base =>
    refine ⟨fun d => ((step 0 (by omega)).1 d).trans ?_, (step 0 (by omega)).2.trans ?_⟩
    · rw [if_pos rfl, total_succ _ _ (⟨0, by omega⟩ : Fin 64), total_zero]
    · rw [if_pos rfl, total_succ _ _ (⟨0, by omega⟩ : Fin 64), total_zero]
  | succ p h1 ih =>
    obtain ⟨i1, i2⟩ := ih (by omega)
    refine ⟨fun d => ((step p (by omega)).1 d).trans ?_, (step p (by omega)).2.trans ?_⟩
    · rw [if_neg (by omega), i1, total_succ _ _ (⟨p, by omega⟩ : Fin 64)]
    · rw [if_neg (by omega), i2, total_succ _ _ (⟨p, by omega⟩ : Fin 64)]

/-- The output's block of a head's last point. -/
theorem after3_at (t : Fin cfg0.N) (h : Fin 12) (hh : t.val / 64 = h.val) (h63 : t.val % 64 = 63) (r : Fin 8192) (d : Fin 64) :
    ((dat V c).after 3 t : Vec Ideal S1x8192x64 .f32) (ix3 0 r d) = gOut (aI V c) (aQ V c) (aW V c) (ix3 h r d) := by
  have hi := inv V c hI h 64 (by omega) (by omega) r
  rw [show 64 * h.val + 64 = t.val + 1 by omega] at hi
  rw [after_3, outD_at, hi.1, hi.2]
  rfl

/-- The result at the call's end. -/
theorem arr3 : (dat V c).arrAt 3 cfg0.N = gOut (aI V c) (aQ V c) (aW V c) := by
  refine (dat V c).arrAt_eq_of_covers 3 (gOut (aI V c) (aQ V c) (aW V c)) (by decide +kernel) fun t hf y => ?_
  have h63 : t.val % 64 = 63 := by
    by_contra hn; rw [noFlush_3 t hn] at hf; exact Bool.noConfusion hf
  blk_simp
  obtain ⟨a, s, k, rfl⟩ : ∃ (a : Fin 1) (s : Fin 8192) (k : Fin 64), y = ix3 a s k := ⟨y 0, y 1, y 2, by blk_ext⟩
  have ha : a = 0 := Subsingleton.elim _ _
  subst ha
  refine (after3_at V c hI t ⟨t.val / 64, (idx t).2.2.2.2⟩ rfl h63 s k).trans ?_
  have e := (idx t).2.2.2.1
  blk_ext [e]

end Cert.AttnIdeal.At

end
-- ==== Proof.AtFrameAttnIdeal.lean ====
module

public import proofs.«01_k».proof.Proof.AtDataAttnIdeal
public import proofs.«01_k».proof.Proof.Gen.AttnIdeal.Frame
public import Idealize.ShloMosaic.Lib.Claim

@[expose] public section

set_option maxRecDepth 16384

noncomputable section

namespace Cert.AttnIdeal.At

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The proof data of the one region, as launched. -/
def dats : (p : Fin 1) → (c : Dev nD) → Dat τ (Elt F) Unit ℕ (UR sig nD τ) ℕ (cfgs p) c
  | ⟨0, _⟩ => fun c => dat (fun c b => m ((c : Thread nD τ).loc b)) c

/-- Every word of the indices is a token's number. -/
def Tokens : Prop := ∀ (c : Dev nD) (t : Fin cfg0.N) (y : S1x64x128.Idx), BitVec.toNat (w := 32) (iblk (fun c b => m ((c : Thread nD τ).loc b)) c 0 t y) < 8192

/-- Words of the whole array below 8192 are words of every block below 8192. -/
theorem tokens_of (h : ∀ (c : Dev nD) (y : S12x64x128.Idx), BitVec.toNat (w := 32) (m ((c : Thread nD τ).loc main_arg0) y) < 8192) : Tokens m := fun c t y => by
  unfold iblk
  rw [View.read_apply, cast_eq]
  exact h c _

set_option backward.isDefEq.respectTransparency.types false in
/-- The launch: every execution ends with the windows' arrays at what the proof data says and every counter at zero. -/
theorem run_quiescent (hx : Tokens m) : θ_run defs (onTc (τ := τ) (main (F := F))) (s₀ m ρ) (fun r => (Pipeline.FramePost cfgs (dats m) 0 (Gen.V m)) r ∧ r.2.sem = fun _ => 0) :=
  Pipeline.θ_run_frame_track (Q' := _) cfgs (dats m) (0 : Fin 1) launch0 defs₀ Variants.none m ρ main
    (hbody := fun c => (body_obligation _ c (hx c)).loose) (hshare := fun c => (dats m 0 c).share_full fun _ => rfl)
    (howed := fun _ _ => rfl) (V := Gen.V m) (hmain := hmain m Variants.none) (hA := fun c w => A_eq (fun c b => m ((c : Thread nD τ).loc b)) c w) (hin := fun c => hin _ c) (hout := fun c => hout _ c)

/-- The arguments end unchanged and every counter at zero. -/
theorem frame (hx : Tokens m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (fun c w => A_eq (fun c b => m ((c : Thread nD τ).loc b)) c w) ((θ_run defs _ _).mono (fun _ h => h.1) (run_quiescent m ρ hx)))
    ((θ_run defs _ _).mono (fun _ h => h.2) (run_quiescent m ρ hx))

end Cert.AttnIdeal.At

end
-- ==== Proof.AtRef.lean ====
module

public import proofs.«01_k».proof.Defs
public import proofs.«01_k».proof.Proof.Gen.AttnReferenceIdeal
public import Idealize.ShloMosaic.Lib.StableHlo.Run
public import Idealize.ShloMosaic.Lib.Quiescent
public import Idealize.ShloMosaic.Lib.Claim

@[expose] public section

set_option maxRecDepth 200000

noncomputable section

namespace Cert.AttnReferenceIdeal.Hand

open Cert.AttnReferenceIdeal Cert.AttnReferenceIdeal.Gen
open Idealize.ShloMosaic Idealize.ShloMosaic.TcCoe Idealize.ShloMosaic.StableHlo Idealize.SL.Sem

variable {F : FTy → Type} [FloatOps F]

/-! ## The operations, by parts -/

/-- The operations of the indices as one list a head. -/
abbrev ixAOps : List (HloOp τ sig (Elt F)) :=
  [ StableHlo.reshape main_arg0 main_v0 (rfl : (.i32 : EltTy) = .i32) shapeCasts_S12x64x128_S12x8192,
    StableHlo.unary main_v0 main_v1 (broadcastInDim S12x8192x1 ![0, 1] bcast_S12x8192_S12x8192x1_0_1 : (⟨S12x8192, .i32⟩ : BufTy).Contents (Elt F) → (⟨S12x8192x1, .i32⟩ : BufTy).Contents (Elt F)) ]

/-- They touch TensorCore references only. -/
theorem ixA_sub : (ixAOps : List (HloOp τ sig (Elt F))).Forall fun op => op.bufs ⊆ tcRefs τ sig :=
  ⟨reshape_bufs_sub .., unary_bufs_sub ..⟩

/-- They determine their results. -/
theorem ixA_fresh : (ixAOps : List (HloOp τ sig (Elt F))).Forall fun op => op.fresh = ∅ :=
  forall_fresh_of_map rfl

/-- The references they write. -/
abbrev ixAW : List (Ref sig .tc) := [main_v0, main_v1]

/-- They write those. -/
theorem ixA_writes : (ixAOps : List (HloOp τ sig (Elt F))).Forall fun op => op.writes ⊆ ((ixAW).map (Proc.devRef (τ := τ) .tc)).toFinset :=
  forall_writes_sub_of_map rfl

/-- The operations of a gather of rows. -/
abbrev takeOps (arg0 : StableHlo.TRef sig ⟨S12x8192x64, .f32⟩) (arg1 : StableHlo.TRef sig ⟨S12x8192x1, .i32⟩) (φ : fn_take_along_axis.Bufs) : List (HloOp τ sig (Elt F)) :=
  [ StableHlo.TRef.nullary φ.c (constantI S_ 32 0#32),
    StableHlo.TRef.unary φ.c φ.v0 (broadcastInDim S12x8192x1 ![] bcast_S_S12x8192x1),
    StableHlo.TRef.binary arg1 φ.v0 φ.v1 (cmpi .slt),
    StableHlo.TRef.nullary φ.c_0 (constantI S_ 32 8192#32),
    StableHlo.TRef.unary φ.c_0 φ.v2 (broadcastInDim S12x8192x1 ![] bcast_S_S12x8192x1),
    StableHlo.TRef.binary arg1 φ.v2 φ.v3 addi,
    StableHlo.TRef.ternary φ.v1 φ.v3 arg1 φ.v4 select,
    StableHlo.TRef.nullary φ.c_1 (constantI S1 32 8191#32),
    StableHlo.TRef.nullary φ.c_2 (constantI S_ 32 0#32),
    StableHlo.TRef.unary φ.c_2 φ.v5 (broadcastInDim S12x8192x1 ![] bcast_S_S12x8192x1),
    StableHlo.TRef.binary φ.v4 φ.v5 φ.v6 (cmpi .sge),
    StableHlo.TRef.unary φ.c_1 φ.v7 (broadcastInDim S1x1x1 ![2] bcast_S1_S1x1x1_2),
    StableHlo.TRef.unary φ.v7 φ.v8 (broadcastInDim S12x8192x1 ![0, 1, 2] bcast_S1x1x1_S12x8192x1_0_1_2),
    StableHlo.TRef.binary φ.v4 φ.v8 φ.v9 (cmpi .sle),
    StableHlo.TRef.binary φ.v6 φ.v9 φ.v10 andi,
    StableHlo.TRef.nullary φ.c_3 (constantI S_ 1 1#1),
    StableHlo.TRef.binary φ.v10 φ.c_3 φ.v11 (fun x v => Host.reduce IntOp.andi x v reducesTo_S12x8192x1_S12x8192_d2 h_S_),
    StableHlo.TRef.binary arg0 φ.v4 φ.v12 (fun x i => Host.gather gather_S12x8192x64_S12x8192x1_S12x8192x64_2_1_0_0_1_2_1164 x i),
    StableHlo.TRef.unary φ.v11 φ.v13 (broadcastInDim S12x8192x64 ![0, 1] bcast_S12x8192_S12x8192x64_0_1),
    StableHlo.TRef.nullary φ.cst (constant S_ .f32 0x7FC00000#32),
    StableHlo.TRef.unary φ.cst φ.v14 (broadcastInDim S12x8192x64 ![] bcast_S_S12x8192x64),
    StableHlo.TRef.ternary φ.v13 φ.v12 φ.v14 φ.v15 select ]

/-- They touch TensorCore references only. -/
theorem take_sub (arg0 : StableHlo.TRef sig ⟨S12x8192x64, .f32⟩) (arg1 : StableHlo.TRef sig ⟨S12x8192x1, .i32⟩) (φ : fn_take_along_axis.Bufs) : (takeOps arg0 arg1 φ : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- They determine their results. -/
theorem take_fresh (arg0 : StableHlo.TRef sig ⟨S12x8192x64, .f32⟩) (arg1 : StableHlo.TRef sig ⟨S12x8192x1, .i32⟩) (φ : fn_take_along_axis.Bufs) : (takeOps arg0 arg1 φ : List (HloOp τ sig (Elt F))).Forall fun op => op.fresh = ∅ :=
  forall_fresh_of_map rfl

/-- The references they write. -/
abbrev takeW (arg0 : StableHlo.TRef sig ⟨S12x8192x64, .f32⟩) (arg1 : StableHlo.TRef sig ⟨S12x8192x1, .i32⟩) (φ : fn_take_along_axis.Bufs) : List (Ref sig .tc) := [φ.c.ref, φ.v0.ref, φ.v1.ref, φ.c_0.ref, φ.v2.ref, φ.v3.ref, φ.v4.ref, φ.c_1.ref, φ.c_2.ref, φ.v5.ref, φ.v6.ref, φ.v7.ref, φ.v8.ref, φ.v9.ref, φ.v10.ref, φ.c_3.ref, φ.v11.ref, φ.v12.ref, φ.v13.ref, φ.cst.ref, φ.v14.ref, φ.v15.ref]

/-- They write those. -/
theorem take_writes (arg0 : StableHlo.TRef sig ⟨S12x8192x64, .f32⟩) (arg1 : StableHlo.TRef sig ⟨S12x8192x1, .i32⟩) (φ : fn_take_along_axis.Bufs) : (takeOps arg0 arg1 φ : List (HloOp τ sig (Elt F))).Forall fun op => op.writes ⊆ ((takeW arg0 arg1 φ).map (Proc.devRef (τ := τ) .tc)).toFinset :=
  forall_writes_sub_of_map rfl

/-- The operations of the indices again. -/
abbrev ixBOps : List (HloOp τ sig (Elt F)) :=
  [ StableHlo.reshape main_v2 main_v3 (rfl : (.f32 : EltTy) = .f32) shapeCasts_S12x8192x64_S12x64x128x64,
    StableHlo.unary main_v0 main_v4 (broadcastInDim S12x8192x1 ![0, 1] bcast_S12x8192_S12x8192x1_0_1 : (⟨S12x8192, .i32⟩ : BufTy).Contents (Elt F) → (⟨S12x8192x1, .i32⟩ : BufTy).Contents (Elt F)) ]

/-- They touch TensorCore references only. -/
theorem ixB_sub : (ixBOps : List (HloOp τ sig (Elt F))).Forall fun op => op.bufs ⊆ tcRefs τ sig :=
  ⟨reshape_bufs_sub .., unary_bufs_sub ..⟩

/-- They determine their results. -/
theorem ixB_fresh : (ixBOps : List (HloOp τ sig (Elt F))).Forall fun op => op.fresh = ∅ :=
  forall_fresh_of_map rfl

/-- The references they write. -/
abbrev ixBW : List (Ref sig .tc) := [main_v3, main_v4]

/-- They write those. -/
theorem ixB_writes : (ixBOps : List (HloOp τ sig (Elt F))).Forall fun op => op.writes ⊆ ((ixBW).map (Proc.devRef (τ := τ) .tc)).toFinset :=
  forall_writes_sub_of_map rfl

/-- The operations of the logits. -/
abbrev dotsOps : List (HloOp τ sig (Elt F)) :=
  [ StableHlo.reshape main_v5 main_v6 (rfl : (.f32 : EltTy) = .f32) shapeCasts_S12x8192x64_S12x64x128x64,
    StableHlo.binary main_v3 main_v3 main_v7 (mulf : (⟨S12x64x128x64, .f32⟩ : BufTy).Contents (Elt F) → (⟨S12x64x128x64, .f32⟩ : BufTy).Contents (Elt F) → (⟨S12x64x128x64, .f32⟩ : BufTy).Contents (Elt F)),
    StableHlo.nullary main_cst (constant S_ .f32 0x00000000#32),
    StableHlo.binary main_v7 main_cst main_v8 ((fun x v => Host.reduceAdd x v reducesTo_S12x64x128x64_S12x64x128_d3 h_S_) : (⟨S12x64x128x64, .f32⟩ : BufTy).Contents (Elt F) → (⟨S_, .f32⟩ : BufTy).Contents (Elt F) → (⟨S12x64x128, .f32⟩ : BufTy).Contents (Elt F)),
    StableHlo.unary main_v8 main_v9 (broadcastInDim S12x64x128x1 ![0, 1, 2] bcast_S12x64x128_S12x64x128x1_0_1_2 : (⟨S12x64x128, .f32⟩ : BufTy).Contents (Elt F) → (⟨S12x64x128x1, .f32⟩ : BufTy).Contents (Elt F)),
    StableHlo.unary main_v9 main_v10 (Host.sqrt : (⟨S12x64x128x1, .f32⟩ : BufTy).Contents (Elt F) → (⟨S12x64x128x1, .f32⟩ : BufTy).Contents (Elt F)),
    StableHlo.nullary main_cst_0 (constant S_ .f32 0x2B8CBCCC#32),
    StableHlo.unary main_cst_0 main_v11 (broadcastInDim S12x64x128x1 ![] bcast_S_S12x64x128x1 : (⟨S_, .f32⟩ : BufTy).Contents (Elt F) → (⟨S12x64x128x1, .f32⟩ : BufTy).Contents (Elt F)),
    StableHlo.binary main_v10 main_v11 main_v12 (maximumf : (⟨S12x64x128x1, .f32⟩ : BufTy).Contents (Elt F) → (⟨S12x64x128x1, .f32⟩ : BufTy).Contents (Elt F) → (⟨S12x64x128x1, .f32⟩ : BufTy).Contents (Elt F)),
    StableHlo.unary main_v12 main_v13 (broadcastInDim S12x64x128x64 ![0, 1, 2, 3] bcast_S12x64x128x1_S12x64x128x64_0_1_2_3 : (⟨S12x64x128x1, .f32⟩ : BufTy).Contents (Elt F) → (⟨S12x64x128x64, .f32⟩ : BufTy).Contents (Elt F)),
    StableHlo.binary main_v3 main_v13 main_v14 (Host.divf : (⟨S12x64x128x64, .f32⟩ : BufTy).Contents (Elt F) → (⟨S12x64x128x64, .f32⟩ : BufTy).Contents (Elt F) → (⟨S12x64x128x64, .f32⟩ : BufTy).Contents (Elt F)),
    StableHlo.binary main_v3 main_v14 main_v15 ((fun l r => Host.dotGeneral dot_S12x64x128x64_S12x64x128x64_S12x64x128x128_3_3_2_2_01_01 none l r) : (⟨S12x64x128x64, .f32⟩ : BufTy).Contents (Elt F) → (⟨S12x64x128x64, .f32⟩ : BufTy).Contents (Elt F) → (⟨S12x64x128x128, .f32⟩ : BufTy).Contents (Elt F)),
    StableHlo.nullary main_cst_1 (constant S_ .f32 0x3E000000#32),
    StableHlo.unary main_cst_1 main_v16 (broadcastInDim S12x64x128x128 ![] bcast_S_S12x64x128x128 : (⟨S_, .f32⟩ : BufTy).Contents (Elt F) → (⟨S12x64x128x128, .f32⟩ : BufTy).Contents (Elt F)),
    StableHlo.binary main_v15 main_v16 main_v17 (mulf : (⟨S12x64x128x128, .f32⟩ : BufTy).Contents (Elt F) → (⟨S12x64x128x128, .f32⟩ : BufTy).Contents (Elt F) → (⟨S12x64x128x128, .f32⟩ : BufTy).Contents (Elt F)),
    StableHlo.binary main_v3 main_arg3 main_v18 ((fun l r => Host.dotGeneral dot_S12x64x128x64_S128x12x64_S12x64x128x128_3_2_12_0_0_1 none l r) : (⟨S12x64x128x64, .f32⟩ : BufTy).Contents (Elt F) → (⟨S128x12x64, .f32⟩ : BufTy).Contents (Elt F) → (⟨S12x64x128x128, .f32⟩ : BufTy).Contents (Elt F)),
    StableHlo.nullary main_cst_2 (constant S_ .f32 0x3E000000#32),
    StableHlo.unary main_cst_2 main_v19 (broadcastInDim S12x64x128x128 ![] bcast_S_S12x64x128x128 : (⟨S_, .f32⟩ : BufTy).Contents (Elt F) → (⟨S12x64x128x128, .f32⟩ : BufTy).Contents (Elt F)),
    StableHlo.binary main_v18 main_v19 main_v20 (mulf : (⟨S12x64x128x128, .f32⟩ : BufTy).Contents (Elt F) → (⟨S12x64x128x128, .f32⟩ : BufTy).Contents (Elt F) → (⟨S12x64x128x128, .f32⟩ : BufTy).Contents (Elt F)),
    StableHlo.nullary main_cst_3 (constant S_ .f32 0x00000000#32),
    StableHlo.unary main_cst_3 main_v21 (broadcastInDim S12x64x128x128 ![] bcast_S_S12x64x128x128 : (⟨S_, .f32⟩ : BufTy).Contents (Elt F) → (⟨S12x64x128x128, .f32⟩ : BufTy).Contents (Elt F)),
    StableHlo.binary main_v20 main_v21 main_v22 ((fun a b => concatenate S12x64x128x256 3 [⟨S12x64x128x128, a⟩, ⟨S12x64x128x128, b⟩] concatenates_S12x64x128x128_S12x64x128x128_S12x64x128x256_d3) : (⟨S12x64x128x128, .f32⟩ : BufTy).Contents (Elt F) → (⟨S12x64x128x128, .f32⟩ : BufTy).Contents (Elt F) → (⟨S12x64x128x256, .f32⟩ : BufTy).Contents (Elt F)),
    StableHlo.reshape main_v22 main_v23 (rfl : (.f32 : EltTy) = .f32) shapeCasts_S12x64x128x256_S12x64x32768,
    StableHlo.nullary main_cst_4 (constant S_ .f32 0x00000000#32),
    StableHlo.unary main_cst_4 main_v24 (broadcastInDim S12x64x127 ![] bcast_S_S12x64x127 : (⟨S_, .f32⟩ : BufTy).Contents (Elt F) → (⟨S12x64x127, .f32⟩ : BufTy).Contents (Elt F)),
    StableHlo.binary main_v23 main_v24 main_v25 ((fun a b => concatenate S12x64x32895 2 [⟨S12x64x32768, a⟩, ⟨S12x64x127, b⟩] concatenates_S12x64x32768_S12x64x127_S12x64x32895_d2) : (⟨S12x64x32768, .f32⟩ : BufTy).Contents (Elt F) → (⟨S12x64x127, .f32⟩ : BufTy).Contents (Elt F) → (⟨S12x64x32895, .f32⟩ : BufTy).Contents (Elt F)),
    StableHlo.reshape main_v25 main_v26 (rfl : (.f32 : EltTy) = .f32) shapeCasts_S12x64x32895_S12x64x129x255,
    StableHlo.unary main_v26 main_v27 ((extractStridedSlice S12x64x128x128 ![0, 0, 0, 127] · slices_S12x64x129x255_S12x64x128x128_0_0_0_127) : (⟨S12x64x129x255, .f32⟩ : BufTy).Contents (Elt F) → (⟨S12x64x128x128, .f32⟩ : BufTy).Contents (Elt F)),
    StableHlo.binary main_v17 main_v27 main_v28 (addf : (⟨S12x64x128x128, .f32⟩ : BufTy).Contents (Elt F) → (⟨S12x64x128x128, .f32⟩ : BufTy).Contents (Elt F) → (⟨S12x64x128x128, .f32⟩ : BufTy).Contents (Elt F)),
    StableHlo.nullary main_v29 (iotaInDim S128x128 32 0),
    StableHlo.nullary main_v30 (iotaInDim S128x128 32 1),
    StableHlo.nullary main_c (constantI S_ 32 0#32),
    StableHlo.unary main_c main_v31 (broadcastInDim S128x128 ![] bcast_S_S128x128 : (⟨S_, .i32⟩ : BufTy).Contents (Elt F) → (⟨S128x128, .i32⟩ : BufTy).Contents (Elt F)),
    StableHlo.binary main_v29 main_v31 main_v32 (addi : (⟨S128x128, .i32⟩ : BufTy).Contents (Elt F) → (⟨S128x128, .i32⟩ : BufTy).Contents (Elt F) → (⟨S128x128, .i32⟩ : BufTy).Contents (Elt F)),
    StableHlo.binary main_v32 main_v30 main_v33 (cmpi .eq : (⟨S128x128, .i32⟩ : BufTy).Contents (Elt F) → (⟨S128x128, .i32⟩ : BufTy).Contents (Elt F) → (⟨S128x128, .i1⟩ : BufTy).Contents (Elt F)),
    StableHlo.nullary main_cst_5 (constant S_ .f32 0xC7435000#32) ]

/-- They touch TensorCore references only. -/
theorem dots_sub : (dotsOps : List (HloOp τ sig (Elt F))).Forall fun op => op.bufs ⊆ tcRefs τ sig :=
  ⟨reshape_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., reshape_bufs_sub .., nullary_bufs_sub .., unary_bufs_sub .., binary_bufs_sub .., reshape_bufs_sub .., unary_bufs_sub .., binary_bufs_sub .., nullary_bufs_sub .., nullary_bufs_sub .., nullary_bufs_sub .., unary_bufs_sub .., binary_bufs_sub .., binary_bufs_sub .., nullary_bufs_sub ..⟩

/-- They determine their results. -/
theorem dots_fresh : (dotsOps : List (HloOp τ sig (Elt F))).Forall fun op => op.fresh = ∅ :=
  forall_fresh_of_map rfl

/-- The references they write. -/
abbrev dotsW : List (Ref sig .tc) := [main_v6, main_v7, main_cst, main_v8, main_v9, main_v10, main_cst_0, main_v11, main_v12, main_v13, main_v14, main_v15, main_cst_1, main_v16, main_v17, main_v18, main_cst_2, main_v19, main_v20, main_cst_3, main_v21, main_v22, main_v23, main_cst_4, main_v24, main_v25, main_v26, main_v27, main_v28, main_v29, main_v30, main_c, main_v31, main_v32, main_v33, main_cst_5]

/-- They write those. -/
theorem dots_writes : (dotsOps : List (HloOp τ sig (Elt F))).Forall fun op => op.writes ⊆ ((dotsW).map (Proc.devRef (τ := τ) .tc)).toFinset :=
  forall_writes_sub_of_map rfl

/-- The operations of the diagonal. -/
abbrev maskOps (arg0 : StableHlo.TRef sig ⟨S128x128, .i1⟩) (arg1 : StableHlo.TRef sig ⟨S_, .f32⟩) (arg2 : StableHlo.TRef sig ⟨S12x64x128x128, .f32⟩) (φ : fn_where.Bufs) : List (HloOp τ sig (Elt F)) :=
  [ StableHlo.TRef.unary arg1 φ.v0 id,
    StableHlo.TRef.unary arg0 φ.v1 (broadcastInDim S12x64x128x128 ![2, 3] bcast_S128x128_S12x64x128x128_2_3),
    StableHlo.TRef.unary φ.v0 φ.v2 (broadcastInDim S12x64x128x128 ![] bcast_S_S12x64x128x128),
    StableHlo.TRef.ternary φ.v1 φ.v2 arg2 φ.v3 select ]

/-- They touch TensorCore references only. -/
theorem mask_sub (arg0 : StableHlo.TRef sig ⟨S128x128, .i1⟩) (arg1 : StableHlo.TRef sig ⟨S_, .f32⟩) (arg2 : StableHlo.TRef sig ⟨S12x64x128x128, .f32⟩) (φ : fn_where.Bufs) : (maskOps arg0 arg1 arg2 φ : List (HloOp τ sig (Elt F))).Forall fun op => op.bufs ⊆ tcRefs τ sig :=
  ⟨unary_bufs_sub .., unary_bufs_sub .., unary_bufs_sub .., ternary_bufs_sub ..⟩

/-- They determine their results. -/
theorem mask_fresh (arg0 : StableHlo.TRef sig ⟨S128x128, .i1⟩) (arg1 : StableHlo.TRef sig ⟨S_, .f32⟩) (arg2 : StableHlo.TRef sig ⟨S12x64x128x128, .f32⟩) (φ : fn_where.Bufs) : (maskOps arg0 arg1 arg2 φ : List (HloOp τ sig (Elt F))).Forall fun op => op.fresh = ∅ :=
  forall_fresh_of_map rfl

/-- The references they write. -/
abbrev maskW (arg0 : StableHlo.TRef sig ⟨S128x128, .i1⟩) (arg1 : StableHlo.TRef sig ⟨S_, .f32⟩) (arg2 : StableHlo.TRef sig ⟨S12x64x128x128, .f32⟩) (φ : fn_where.Bufs) : List (Ref sig .tc) := [φ.v0.ref, φ.v1.ref, φ.v2.ref, φ.v3.ref]

/-- They write those. -/
theorem mask_writes (arg0 : StableHlo.TRef sig ⟨S128x128, .i1⟩) (arg1 : StableHlo.TRef sig ⟨S_, .f32⟩) (arg2 : StableHlo.TRef sig ⟨S12x64x128x128, .f32⟩) (φ : fn_where.Bufs) : (maskOps arg0 arg1 arg2 φ : List (HloOp τ sig (Elt F))).Forall fun op => op.writes ⊆ ((maskW arg0 arg1 arg2 φ).map (Proc.devRef (τ := τ) .tc)).toFinset :=
  forall_writes_sub_of_map rfl

/-- The operations of the softmax and the values. -/
abbrev softOps : List (HloOp τ sig (Elt F)) :=
  [ StableHlo.nullary main_cst_6 (constant S_ .f32 0xFF800000#32),
    StableHlo.binary main_v34 main_cst_6 main_v35 ((fun x v => Host.reduce FloatOps.maximumf x v reducesTo_S12x64x128x128_S12x64x128_d3 h_S_) : (⟨S12x64x128x128, .f32⟩ : BufTy).Contents (Elt F) → (⟨S_, .f32⟩ : BufTy).Contents (Elt F) → (⟨S12x64x128, .f32⟩ : BufTy).Contents (Elt F)),
    StableHlo.nullary main_cst_7 (constant S_ .f32 0xFF800000#32),
    StableHlo.unary main_cst_7 main_v36 (broadcastInDim S12x64x128 ![] bcast_S_S12x64x128 : (⟨S_, .f32⟩ : BufTy).Contents (Elt F) → (⟨S12x64x128, .f32⟩ : BufTy).Contents (Elt F)),
    StableHlo.binary main_v36 main_v35 main_v37 (maximumf : (⟨S12x64x128, .f32⟩ : BufTy).Contents (Elt F) → (⟨S12x64x128, .f32⟩ : BufTy).Contents (Elt F) → (⟨S12x64x128, .f32⟩ : BufTy).Contents (Elt F)),
    StableHlo.unary main_v37 main_v38 (broadcastInDim S12x64x128x1 ![0, 1, 2] bcast_S12x64x128_S12x64x128x1_0_1_2 : (⟨S12x64x128, .f32⟩ : BufTy).Contents (Elt F) → (⟨S12x64x128x1, .f32⟩ : BufTy).Contents (Elt F)),
    StableHlo.unary main_v38 main_v39 (broadcastInDim S12x64x128x128 ![0, 1, 2, 3] bcast_S12x64x128x1_S12x64x128x128_0_1_2_3 : (⟨S12x64x128x1, .f32⟩ : BufTy).Contents (Elt F) → (⟨S12x64x128x128, .f32⟩ : BufTy).Contents (Elt F)),
    StableHlo.binary main_v34 main_v39 main_v40 (subf : (⟨S12x64x128x128, .f32⟩ : BufTy).Contents (Elt F) → (⟨S12x64x128x128, .f32⟩ : BufTy).Contents (Elt F) → (⟨S12x64x128x128, .f32⟩ : BufTy).Contents (Elt F)),
    StableHlo.unary main_v40 main_v41 (Host.exp : (⟨S12x64x128x128, .f32⟩ : BufTy).Contents (Elt F) → (⟨S12x64x128x128, .f32⟩ : BufTy).Contents (Elt F)),
    StableHlo.nullary main_cst_8 (constant S_ .f32 0x00000000#32),
    StableHlo.binary main_v41 main_cst_8 main_v42 ((fun x v => Host.reduceAdd x v reducesTo_S12x64x128x128_S12x64x128_d3 h_S_) : (⟨S12x64x128x128, .f32⟩ : BufTy).Contents (Elt F) → (⟨S_, .f32⟩ : BufTy).Contents (Elt F) → (⟨S12x64x128, .f32⟩ : BufTy).Contents (Elt F)),
    StableHlo.unary main_v42 main_v43 (broadcastInDim S12x64x128x1 ![0, 1, 2] bcast_S12x64x128_S12x64x128x1_0_1_2 : (⟨S12x64x128, .f32⟩ : BufTy).Contents (Elt F) → (⟨S12x64x128x1, .f32⟩ : BufTy).Contents (Elt F)),
    StableHlo.unary main_v43 main_v44 (broadcastInDim S12x64x128x128 ![0, 1, 2, 3] bcast_S12x64x128x1_S12x64x128x128_0_1_2_3 : (⟨S12x64x128x1, .f32⟩ : BufTy).Contents (Elt F) → (⟨S12x64x128x128, .f32⟩ : BufTy).Contents (Elt F)),
    StableHlo.binary main_v41 main_v44 main_v45 (Host.divf : (⟨S12x64x128x128, .f32⟩ : BufTy).Contents (Elt F) → (⟨S12x64x128x128, .f32⟩ : BufTy).Contents (Elt F) → (⟨S12x64x128x128, .f32⟩ : BufTy).Contents (Elt F)),
    StableHlo.binary main_v45 main_v6 main_v46 ((fun l r => Host.dotGeneral dot_S12x64x128x128_S12x64x128x64_S12x64x128x64_3_2_2_3_01_01 none l r) : (⟨S12x64x128x128, .f32⟩ : BufTy).Contents (Elt F) → (⟨S12x64x128x64, .f32⟩ : BufTy).Contents (Elt F) → (⟨S12x64x128x64, .f32⟩ : BufTy).Contents (Elt F)),
    StableHlo.reshape main_v46 main_v47 (rfl : (.f32 : EltTy) = .f32) shapeCasts_S12x64x128x64_S12x8192x64,
    StableHlo.nullary main_v48 (iotaInDim S12 32 0) ]

/-- They touch TensorCore references only. -/
theorem soft_sub : (softOps : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub .., nullary_bufs_sub ..⟩

/-- They determine their results. -/
theorem soft_fresh : (softOps : List (HloOp τ sig (Elt F))).Forall fun op => op.fresh = ∅ :=
  forall_fresh_of_map rfl

/-- The references they write. -/
abbrev softW : List (Ref sig .tc) := [main_cst_6, main_v35, main_cst_7, main_v36, main_v37, main_v38, main_v39, main_v40, main_v41, main_cst_8, main_v42, main_v43, main_v44, main_v45, main_v46, main_v47, main_v48]

/-- They write those. -/
theorem soft_writes : (softOps : List (HloOp τ sig (Elt F))).Forall fun op => op.writes ⊆ ((softW).map (Proc.devRef (τ := τ) .tc)).toFinset :=
  forall_writes_sub_of_map rfl

/-- The operations of the mean over the windows. -/
abbrev meanOps : List (HloOp τ sig (Elt F)) :=
  [ StableHlo.unary main_v48 main_v49 (broadcastInDim S12x1 ![0] bcast_S12_S12x1_0 : (⟨S12, .i32⟩ : BufTy).Contents (Elt F) → (⟨S12x1, .i32⟩ : BufTy).Contents (Elt F)),
    StableHlo.nullary main_cst_9 (constant S_ .f32 0x00000000#32),
    StableHlo.unary main_cst_9 main_v50 (broadcastInDim S12x8192x64 ![] bcast_S_S12x8192x64 : (⟨S_, .f32⟩ : BufTy).Contents (Elt F) → (⟨S12x8192x64, .f32⟩ : BufTy).Contents (Elt F)),
    StableHlo.nullary main_c_10 (constantI S_ 32 0#32),
    StableHlo.unary main_c_10 main_v51 (broadcastInDim S12x1 ![] bcast_S_S12x1 : (⟨S_, .i32⟩ : BufTy).Contents (Elt F) → (⟨S12x1, .i32⟩ : BufTy).Contents (Elt F)),
    StableHlo.binary main_v49 main_v51 main_v52 (cmpi .slt : (⟨S12x1, .i32⟩ : BufTy).Contents (Elt F) → (⟨S12x1, .i32⟩ : BufTy).Contents (Elt F) → (⟨S12x1, .i1⟩ : BufTy).Contents (Elt F)),
    StableHlo.nullary main_c_11 (constantI S_ 32 12#32),
    StableHlo.unary main_c_11 main_v53 (broadcastInDim S12x1 ![] bcast_S_S12x1 : (⟨S_, .i32⟩ : BufTy).Contents (Elt F) → (⟨S12x1, .i32⟩ : BufTy).Contents (Elt F)),
    StableHlo.binary main_v49 main_v53 main_v54 (addi : (⟨S12x1, .i32⟩ : BufTy).Contents (Elt F) → (⟨S12x1, .i32⟩ : BufTy).Contents (Elt F) → (⟨S12x1, .i32⟩ : BufTy).Contents (Elt F)),
    StableHlo.ternary main_v52 main_v54 main_v49 main_v55 (select : (⟨S12x1, .i1⟩ : BufTy).Contents (Elt F) → (⟨S12x1, .i32⟩ : BufTy).Contents (Elt F) → (⟨S12x1, .i32⟩ : BufTy).Contents (Elt F) → (⟨S12x1, .i32⟩ : BufTy).Contents (Elt F)),
    StableHlo.nullary main_c_12 (constantI S_ 32 0#32),
    StableHlo.unary main_c_12 main_v56 (broadcastInDim S12x8192 ![] bcast_S_S12x8192 : (⟨S_, .i32⟩ : BufTy).Contents (Elt F) → (⟨S12x8192, .i32⟩ : BufTy).Contents (Elt F)),
    StableHlo.binary main_v0 main_v56 main_v57 (cmpi .slt : (⟨S12x8192, .i32⟩ : BufTy).Contents (Elt F) → (⟨S12x8192, .i32⟩ : BufTy).Contents (Elt F) → (⟨S12x8192, .i1⟩ : BufTy).Contents (Elt F)),
    StableHlo.nullary main_c_13 (constantI S_ 32 8192#32),
    StableHlo.unary main_c_13 main_v58 (broadcastInDim S12x8192 ![] bcast_S_S12x8192 : (⟨S_, .i32⟩ : BufTy).Contents (Elt F) → (⟨S12x8192, .i32⟩ : BufTy).Contents (Elt F)),
    StableHlo.binary main_v0 main_v58 main_v59 (addi : (⟨S12x8192, .i32⟩ : BufTy).Contents (Elt F) → (⟨S12x8192, .i32⟩ : BufTy).Contents (Elt F) → (⟨S12x8192, .i32⟩ : BufTy).Contents (Elt F)),
    StableHlo.ternary main_v57 main_v59 main_v0 main_v60 (select : (⟨S12x8192, .i1⟩ : BufTy).Contents (Elt F) → (⟨S12x8192, .i32⟩ : BufTy).Contents (Elt F) → (⟨S12x8192, .i32⟩ : BufTy).Contents (Elt F) → (⟨S12x8192, .i32⟩ : BufTy).Contents (Elt F)),
    StableHlo.unary main_v55 main_v61 (broadcastInDim S12x8192 ![0, 1] bcast_S12x1_S12x8192_0_1 : (⟨S12x1, .i32⟩ : BufTy).Contents (Elt F) → (⟨S12x8192, .i32⟩ : BufTy).Contents (Elt F)),
    StableHlo.unary main_v61 main_v62 (broadcastInDim S12x8192x1 ![0, 1] bcast_S12x8192_S12x8192x1_0_1 : (⟨S12x8192, .i32⟩ : BufTy).Contents (Elt F) → (⟨S12x8192x1, .i32⟩ : BufTy).Contents (Elt F)),
    StableHlo.unary main_v60 main_v63 (broadcastInDim S12x8192x1 ![0, 1] bcast_S12x8192_S12x8192x1_0_1 : (⟨S12x8192, .i32⟩ : BufTy).Contents (Elt F) → (⟨S12x8192x1, .i32⟩ : BufTy).Contents (Elt F)),
    StableHlo.binary main_v62 main_v63 main_v64 ((fun a b => concatenate S12x8192x2 2 [⟨S12x8192x1, a⟩, ⟨S12x8192x1, b⟩] concatenates_S12x8192x1_S12x8192x1_S12x8192x2_d2) : (⟨S12x8192x1, .i32⟩ : BufTy).Contents (Elt F) → (⟨S12x8192x1, .i32⟩ : BufTy).Contents (Elt F) → (⟨S12x8192x2, .i32⟩ : BufTy).Contents (Elt F)),
    StableHlo.ternary main_v50 main_v64 main_v47 main_v65 ((fun x i u => Host.scatterAdd scatter_S12x8192x64_S12x8192x2_S12x8192x64_2_01_01_2 x i u) : (⟨S12x8192x64, .f32⟩ : BufTy).Contents (Elt F) → (⟨S12x8192x2, .i32⟩ : BufTy).Contents (Elt F) → (⟨S12x8192x64, .f32⟩ : BufTy).Contents (Elt F) → (⟨S12x8192x64, .f32⟩ : BufTy).Contents (Elt F)),
    StableHlo.nullary main_cst_14 (constant S_ .f32 0x00000000#32),
    StableHlo.unary main_cst_14 main_v66 (broadcastInDim S12x8192x64 ![] bcast_S_S12x8192x64 : (⟨S_, .f32⟩ : BufTy).Contents (Elt F) → (⟨S12x8192x64, .f32⟩ : BufTy).Contents (Elt F)),
    StableHlo.nullary main_cst_15 (constant S_ .f32 0x3F800000#32),
    StableHlo.unary main_cst_15 main_v67 (broadcastInDim S12x8192x64 ![] bcast_S_S12x8192x64 : (⟨S_, .f32⟩ : BufTy).Contents (Elt F) → (⟨S12x8192x64, .f32⟩ : BufTy).Contents (Elt F)),
    StableHlo.nullary main_c_16 (constantI S_ 32 0#32),
    StableHlo.unary main_c_16 main_v68 (broadcastInDim S12x1 ![] bcast_S_S12x1 : (⟨S_, .i32⟩ : BufTy).Contents (Elt F) → (⟨S12x1, .i32⟩ : BufTy).Contents (Elt F)),
    StableHlo.binary main_v49 main_v68 main_v69 (cmpi .slt : (⟨S12x1, .i32⟩ : BufTy).Contents (Elt F) → (⟨S12x1, .i32⟩ : BufTy).Contents (Elt F) → (⟨S12x1, .i1⟩ : BufTy).Contents (Elt F)),
    StableHlo.nullary main_c_17 (constantI S_ 32 12#32),
    StableHlo.unary main_c_17 main_v70 (broadcastInDim S12x1 ![] bcast_S_S12x1 : (⟨S_, .i32⟩ : BufTy).Contents (Elt F) → (⟨S12x1, .i32⟩ : BufTy).Contents (Elt F)),
    StableHlo.binary main_v49 main_v70 main_v71 (addi : (⟨S12x1, .i32⟩ : BufTy).Contents (Elt F) → (⟨S12x1, .i32⟩ : BufTy).Contents (Elt F) → (⟨S12x1, .i32⟩ : BufTy).Contents (Elt F)),
    StableHlo.ternary main_v69 main_v71 main_v49 main_v72 (select : (⟨S12x1, .i1⟩ : BufTy).Contents (Elt F) → (⟨S12x1, .i32⟩ : BufTy).Contents (Elt F) → (⟨S12x1, .i32⟩ : BufTy).Contents (Elt F) → (⟨S12x1, .i32⟩ : BufTy).Contents (Elt F)),
    StableHlo.nullary main_c_18 (constantI S_ 32 0#32),
    StableHlo.unary main_c_18 main_v73 (broadcastInDim S12x8192 ![] bcast_S_S12x8192 : (⟨S_, .i32⟩ : BufTy).Contents (Elt F) → (⟨S12x8192, .i32⟩ : BufTy).Contents (Elt F)),
    StableHlo.binary main_v0 main_v73 main_v74 (cmpi .slt : (⟨S12x8192, .i32⟩ : BufTy).Contents (Elt F) → (⟨S12x8192, .i32⟩ : BufTy).Contents (Elt F) → (⟨S12x8192, .i1⟩ : BufTy).Contents (Elt F)),
    StableHlo.nullary main_c_19 (constantI S_ 32 8192#32),
    StableHlo.unary main_c_19 main_v75 (broadcastInDim S12x8192 ![] bcast_S_S12x8192 : (⟨S_, .i32⟩ : BufTy).Contents (Elt F) → (⟨S12x8192, .i32⟩ : BufTy).Contents (Elt F)),
    StableHlo.binary main_v0 main_v75 main_v76 (addi : (⟨S12x8192, .i32⟩ : BufTy).Contents (Elt F) → (⟨S12x8192, .i32⟩ : BufTy).Contents (Elt F) → (⟨S12x8192, .i32⟩ : BufTy).Contents (Elt F)),
    StableHlo.ternary main_v74 main_v76 main_v0 main_v77 (select : (⟨S12x8192, .i1⟩ : BufTy).Contents (Elt F) → (⟨S12x8192, .i32⟩ : BufTy).Contents (Elt F) → (⟨S12x8192, .i32⟩ : BufTy).Contents (Elt F) → (⟨S12x8192, .i32⟩ : BufTy).Contents (Elt F)),
    StableHlo.unary main_v72 main_v78 (broadcastInDim S12x8192 ![0, 1] bcast_S12x1_S12x8192_0_1 : (⟨S12x1, .i32⟩ : BufTy).Contents (Elt F) → (⟨S12x8192, .i32⟩ : BufTy).Contents (Elt F)),
    StableHlo.unary main_v78 main_v79 (broadcastInDim S12x8192x1 ![0, 1] bcast_S12x8192_S12x8192x1_0_1 : (⟨S12x8192, .i32⟩ : BufTy).Contents (Elt F) → (⟨S12x8192x1, .i32⟩ : BufTy).Contents (Elt F)),
    StableHlo.unary main_v77 main_v80 (broadcastInDim S12x8192x1 ![0, 1] bcast_S12x8192_S12x8192x1_0_1 : (⟨S12x8192, .i32⟩ : BufTy).Contents (Elt F) → (⟨S12x8192x1, .i32⟩ : BufTy).Contents (Elt F)),
    StableHlo.binary main_v79 main_v80 main_v81 ((fun a b => concatenate S12x8192x2 2 [⟨S12x8192x1, a⟩, ⟨S12x8192x1, b⟩] concatenates_S12x8192x1_S12x8192x1_S12x8192x2_d2) : (⟨S12x8192x1, .i32⟩ : BufTy).Contents (Elt F) → (⟨S12x8192x1, .i32⟩ : BufTy).Contents (Elt F) → (⟨S12x8192x2, .i32⟩ : BufTy).Contents (Elt F)),
    StableHlo.ternary main_v66 main_v81 main_v67 main_v82 ((fun x i u => Host.scatterAdd scatter_S12x8192x64_S12x8192x2_S12x8192x64_2_01_01_2 x i u) : (⟨S12x8192x64, .f32⟩ : BufTy).Contents (Elt F) → (⟨S12x8192x2, .i32⟩ : BufTy).Contents (Elt F) → (⟨S12x8192x64, .f32⟩ : BufTy).Contents (Elt F) → (⟨S12x8192x64, .f32⟩ : BufTy).Contents (Elt F)),
    StableHlo.nullary main_cst_20 (constant S_ .f32 0x3727C5AC#32),
    StableHlo.unary main_cst_20 main_v83 (broadcastInDim S12x8192x64 ![] bcast_S_S12x8192x64 : (⟨S_, .f32⟩ : BufTy).Contents (Elt F) → (⟨S12x8192x64, .f32⟩ : BufTy).Contents (Elt F)),
    StableHlo.binary main_v82 main_v83 main_v84 (addf : (⟨S12x8192x64, .f32⟩ : BufTy).Contents (Elt F) → (⟨S12x8192x64, .f32⟩ : BufTy).Contents (Elt F) → (⟨S12x8192x64, .f32⟩ : BufTy).Contents (Elt F)),
    StableHlo.binary main_v65 main_v84 main_v85 (Host.divf : (⟨S12x8192x64, .f32⟩ : BufTy).Contents (Elt F) → (⟨S12x8192x64, .f32⟩ : BufTy).Contents (Elt F) → (⟨S12x8192x64, .f32⟩ : BufTy).Contents (Elt F)) ]

/-- They touch TensorCore references only. -/
theorem mean_sub : (meanOps : List (HloOp τ sig (Elt F))).Forall fun op => op.bufs ⊆ tcRefs τ sig :=
  ⟨unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., nullary_bufs_sub .., unary_bufs_sub .., binary_bufs_sub .., binary_bufs_sub ..⟩

/-- They determine their results. -/
theorem mean_fresh : (meanOps : List (HloOp τ sig (Elt F))).Forall fun op => op.fresh = ∅ :=
  forall_fresh_of_map rfl

/-- The references they write. -/
abbrev meanW : List (Ref sig .tc) := [main_v49, main_cst_9, main_v50, main_c_10, main_v51, main_v52, main_c_11, main_v53, main_v54, main_v55, main_c_12, main_v56, main_v57, main_c_13, main_v58, main_v59, main_v60, main_v61, main_v62, main_v63, main_v64, main_v65, main_cst_14, main_v66, main_cst_15, main_v67, main_c_16, main_v68, main_v69, main_c_17, main_v70, main_v71, main_v72, main_c_18, main_v73, main_v74, main_c_19, main_v75, main_v76, main_v77, main_v78, main_v79, main_v80, main_v81, main_v82, main_cst_20, main_v83, main_v84, main_v85]

/-- They write those. -/
theorem mean_writes : (meanOps : List (HloOp τ sig (Elt F))).Forall fun op => op.writes ⊆ ((meanW).map (Proc.devRef (τ := τ) .tc)).toFinset :=
  forall_writes_sub_of_map rfl

/-- All of the program's operations. -/
def ops : List (HloOp τ sig (Elt F)) :=
  ixAOps ++
  (takeOps (.of main_arg1) (.of main_v1) main_call0 ++
  (ixBOps ++
  (takeOps (.of main_arg2) (.of main_v4) main_call1 ++
  (dotsOps ++
  (maskOps (.of main_v33) (.of main_cst_5) (.of main_v28) main_call2 ++
  (softOps ++
  (meanOps)))))))

/-- The program is that straight line. -/
theorem main_eq (c : Dev nD) : main (F := F) c = seq ops := rfl

/-- Nothing is scoped. -/
theorem scopedRefs_eq : (Finset.univ.filter fun b : Ref sig .tc => b.isScoped) = ∅ := by decide +kernel
/-- No semaphore is scoped. -/
theorem scopedSems_eq : (Finset.univ.filter fun sm : SemLoc sig => sm.isScoped .tc) = ∅ := by decide +kernel

/-- What holds on both parts of a line holds on the line. -/
theorem forall_app {α : Type} {p : α → Prop} {l₁ l₂ : List α} (h₁ : l₁.Forall p) (h₂ : l₂.Forall p) : (l₁ ++ l₂).Forall p := by
  rw [List.forall_iff_forall_mem] at *
  intro a ha
  rcases List.mem_append.mp ha with h | h
  · exact h₁ a h
  · exact h₂ a h

/-- The program touches TensorCore references only. -/
theorem ops_sub : (ops : List (HloOp τ sig (Elt F))).Forall fun op => op.bufs ⊆ tcRefs τ sig :=
  forall_app ixA_sub <| forall_app (take_sub _ _ _) <| forall_app ixB_sub <| forall_app (take_sub _ _ _) <| forall_app dots_sub <| forall_app (mask_sub _ _ _ _) <| forall_app soft_sub <| mean_sub

/-- The program's operations determine their results. -/
theorem ops_fresh : (ops : List (HloOp τ sig (Elt F))).Forall fun op => op.fresh = ∅ :=
  forall_app ixA_fresh <| forall_app (take_fresh _ _ _) <| forall_app ixB_fresh <| forall_app (take_fresh _ _ _) <| forall_app dots_fresh <| forall_app (mask_fresh _ _ _ _) <| forall_app soft_fresh <| mean_fresh

/-- The run: every buffer ends at the operations' results folded over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => List.forall_iff_forall_mem.mp ops_fresh)

/-- A line in two parts is the second after the first. -/
theorem after_app (l₁ l₂ : List (HloOp τ sig (Elt F))) (V : Valuation τ sig (Elt F)) : after (l₁ ++ l₂) V = after l₂ (after l₁ V) := by
  induction l₁ generalizing V with
  | nil => rfl
  | cons op l ih => rw [List.cons_append, after_cons, after_cons, ih]

/-! ## What the parts compute -/

/-- The indices as one list a head. -/
def rIx (x : IVec S12x64x128 32) : IVec S12x8192 32 := shapeCast S12x8192 x shapeCasts_S12x64x128_S12x8192

/-- That list as a column. -/
def rCol (x : IVec S12x8192 32) : IVec S12x8192x1 32 := broadcastInDim S12x8192x1 ![0, 1] bcast_S12x8192_S12x8192x1_0_1 x

/-- A list of row numbers, those below zero counted from the end. -/
def rWrap (x : IVec S12x8192x1 32) : IVec S12x8192x1 32 :=
  select (cmpi .slt x (broadcastInDim S12x8192x1 ![] bcast_S_S12x8192x1 (constantI S_ 32 0#32)))
    (addi x (broadcastInDim S12x8192x1 ![] bcast_S_S12x8192x1 (constantI S_ 32 8192#32))) x

/-- Whether each is a row's number. -/
def rIn (y : IVec S12x8192x1 32) : IVec S12x8192 1 :=
  Host.reduce IntOp.andi (andi (cmpi .sge y (broadcastInDim S12x8192x1 ![] bcast_S_S12x8192x1 (constantI S_ 32 0#32)))
    (cmpi .sle y (broadcastInDim S12x8192x1 ![0, 1, 2] bcast_S1x1x1_S12x8192x1_0_1_2 (broadcastInDim S1x1x1 ![2] bcast_S1_S1x1x1_2 (constantI S1 32 8191#32)))))
    (constantI S_ 1 1#1) reducesTo_S12x8192x1_S12x8192_d2 h_S_

/-- The rows gathered. -/
def rTake (a : FVec F S12x8192x64 .f32) (x : IVec S12x8192x1 32) : FVec F S12x8192x64 .f32 :=
  select (broadcastInDim S12x8192x64 ![0, 1] bcast_S12x8192_S12x8192x64_0_1 (rIn (rWrap x)))
    (Host.gather gather_S12x8192x64_S12x8192x1_S12x8192x64_2_1_0_0_1_2_1164 a (rWrap x))
    (broadcastInDim S12x8192x64 ![] bcast_S_S12x8192x64 (constant S_ .f32 0x7FC00000#32))

/-- Rows by windows. -/
def rWin (a : FVec F S12x8192x64 .f32) : FVec F S12x64x128x64 .f32 := shapeCast S12x64x128x64 a shapeCasts_S12x8192x64_S12x64x128x64

/-- The rows normalised. -/
def rKn (q : FVec F S12x64x128x64 .f32) : FVec F S12x64x128x64 .f32 :=
  Host.divf q (broadcastInDim S12x64x128x64 ![0, 1, 2, 3] bcast_S12x64x128x1_S12x64x128x64_0_1_2_3
    (maximumf (Host.sqrt (broadcastInDim S12x64x128x1 ![0, 1, 2] bcast_S12x64x128_S12x64x128x1_0_1_2
      (Host.reduceAdd (mulf q q) (constant S_ .f32 0x00000000#32) reducesTo_S12x64x128x64_S12x64x128_d3 h_S_)))
      (broadcastInDim S12x64x128x1 ![] bcast_S_S12x64x128x1 (constant S_ .f32 0x2B8CBCCC#32))))

/-- The positional term. -/
def rEmb (q : FVec F S12x64x128x64 .f32) (w : FVec F S128x12x64 .f32) : FVec F S12x64x128x128 .f32 :=
  mulf (Host.dotGeneral dot_S12x64x128x64_S128x12x64_S12x64x128x128_3_2_12_0_0_1 none q w)
    (broadcastInDim S12x64x128x128 ![] bcast_S_S12x64x128x128 (constant S_ .f32 0x3E000000#32))

/-- The positional term shifted. -/
def rShift (e : FVec F S12x64x128x128 .f32) : FVec F S12x64x128x128 .f32 :=
  extractStridedSlice S12x64x128x128 ![0, 0, 0, 127] (shapeCast S12x64x129x255 (concatenate S12x64x32895 2 [⟨S12x64x32768,
      (shapeCast S12x64x32768 (concatenate S12x64x128x256 3 [⟨S12x64x128x128, e⟩, ⟨S12x64x128x128, broadcastInDim S12x64x128x128 ![] bcast_S_S12x64x128x128 (constant S_ .f32 0x00000000#32)⟩]
        concatenates_S12x64x128x128_S12x64x128x128_S12x64x128x256_d3) shapeCasts_S12x64x128x256_S12x64x32768)⟩,
      ⟨S12x64x127, broadcastInDim S12x64x127 ![] bcast_S_S12x64x127 (constant S_ .f32 0x00000000#32)⟩] concatenates_S12x64x32768_S12x64x127_S12x64x32895_d2)
    shapeCasts_S12x64x32895_S12x64x129x255) slices_S12x64x129x255_S12x64x128x128_0_0_0_127

/-- The logits. -/
def rLg (q : FVec F S12x64x128x64 .f32) (w : FVec F S128x12x64 .f32) : FVec F S12x64x128x128 .f32 :=
  addf (mulf (Host.dotGeneral dot_S12x64x128x64_S12x64x128x64_S12x64x128x128_3_3_2_2_01_01 none q (rKn q))
    (broadcastInDim S12x64x128x128 ![] bcast_S_S12x64x128x128 (constant S_ .f32 0x3E000000#32))) (rShift (rEmb q w))

/-- The diagonal. -/
def rEye : IVec S128x128 1 :=
  cmpi .eq (addi (iotaInDim S128x128 32 0) (broadcastInDim S128x128 ![] bcast_S_S128x128 (constantI S_ 32 0#32))) (iotaInDim S128x128 32 1)

/-- The logits with the diagonal replaced. -/
def rMask (m : IVec S128x128 1) (z : FVec F S_ .f32) (l : FVec F S12x64x128x128 .f32) : FVec F S12x64x128x128 .f32 :=
  select (broadcastInDim S12x64x128x128 ![2, 3] bcast_S128x128_S12x64x128x128_2_3 m) (broadcastInDim S12x64x128x128 ![] bcast_S_S12x64x128x128 z) l

/-- The largest logit of each row, everywhere in the row. -/
def rMx (l : FVec F S12x64x128x128 .f32) : FVec F S12x64x128x128 .f32 :=
  broadcastInDim S12x64x128x128 ![0, 1, 2, 3] bcast_S12x64x128x1_S12x64x128x128_0_1_2_3 (broadcastInDim S12x64x128x1 ![0, 1, 2] bcast_S12x64x128_S12x64x128x1_0_1_2
    (maximumf (broadcastInDim S12x64x128 ![] bcast_S_S12x64x128 (constant S_ .f32 0xFF800000#32))
      (Host.reduce FloatOps.maximumf l (constant S_ .f32 0xFF800000#32) reducesTo_S12x64x128x128_S12x64x128_d3 h_S_)))

/-- The exponentials over their sums. -/
def rNrm (e : FVec F S12x64x128x128 .f32) : FVec F S12x64x128x128 .f32 :=
  Host.divf e (broadcastInDim S12x64x128x128 ![0, 1, 2, 3] bcast_S12x64x128x1_S12x64x128x128_0_1_2_3 (broadcastInDim S12x64x128x1 ![0, 1, 2] bcast_S12x64x128_S12x64x128x1_0_1_2
    (Host.reduceAdd e (constant S_ .f32 0x00000000#32) reducesTo_S12x64x128x128_S12x64x128_d3 h_S_)))

/-- The windows' attention, as one list a head. -/
def rSo (l : FVec F S12x64x128x128 .f32) (v : FVec F S12x64x128x64 .f32) : FVec F S12x8192x64 .f32 :=
  shapeCast S12x8192x64 (Host.dotGeneral dot_S12x64x128x128_S12x64x128x64_S12x64x128x64_3_2_2_3_01_01 none (rNrm (Host.exp (subf l (rMx l)))) v) shapeCasts_S12x64x128x64_S12x8192x64

/-- Where the list's rows go: head and row. -/
def rAt (x : IVec S12x8192 32) (n : IVec S12 32) : IVec S12x8192x2 32 :=
  concatenate S12x8192x2 2 [⟨S12x8192x1, broadcastInDim S12x8192x1 ![0, 1] bcast_S12x8192_S12x8192x1_0_1 (broadcastInDim S12x8192 ![0, 1] bcast_S12x1_S12x8192_0_1
      (select (cmpi .slt (broadcastInDim S12x1 ![0] bcast_S12_S12x1_0 n) (broadcastInDim S12x1 ![] bcast_S_S12x1 (constantI S_ 32 0#32)))
        (addi (broadcastInDim S12x1 ![0] bcast_S12_S12x1_0 n) (broadcastInDim S12x1 ![] bcast_S_S12x1 (constantI S_ 32 12#32))) (broadcastInDim S12x1 ![0] bcast_S12_S12x1_0 n)))⟩,
    ⟨S12x8192x1, broadcastInDim S12x8192x1 ![0, 1] bcast_S12x8192_S12x8192x1_0_1
      (select (cmpi .slt x (broadcastInDim S12x8192 ![] bcast_S_S12x8192 (constantI S_ 32 0#32))) (addi x (broadcastInDim S12x8192 ![] bcast_S_S12x8192 (constantI S_ 32 8192#32))) x)⟩]
    concatenates_S12x8192x1_S12x8192x1_S12x8192x2_d2

/-- Rows added up where they go, from zero. -/
def rAdd (i : IVec S12x8192x2 32) (u : FVec F S12x8192x64 .f32) : FVec F S12x8192x64 .f32 :=
  Host.scatterAdd scatter_S12x8192x64_S12x8192x2_S12x8192x64_2_01_01_2 (broadcastInDim S12x8192x64 ![] bcast_S_S12x8192x64 (constant S_ .f32 0x00000000#32)) i u

/-- The sums over the counts. -/
def rOut (i : IVec S12x8192x2 32) (so : FVec F S12x8192x64 .f32) : FVec F S12x8192x64 .f32 :=
  Host.divf (rAdd i so) (addf (rAdd i (broadcastInDim S12x8192x64 ![] bcast_S_S12x8192x64 (constant S_ .f32 0x3F800000#32)))
    (broadcastInDim S12x8192x64 ![] bcast_S_S12x8192x64 (constant S_ .f32 0x3727C5AC#32)))

variable (V : Valuation τ sig (Elt F))

/-- The list of indices. -/
theorem ixA_v0 : after (ixAOps) V (main_v0 : DevRef τ sig) = rIx (V (main_arg0 : DevRef τ sig)) := by
  after_results
  rfl
/-- The column of indices. -/
theorem ixA_v1 : after (ixAOps) V (main_v1 : DevRef τ sig) = rCol (rIx (V (main_arg0 : DevRef τ sig))) := by
  after_results
  rfl
/-- The queries gathered. -/
theorem take_v2 : after (takeOps (.of main_arg1) (.of main_v1) main_call0) V (main_v2 : DevRef τ sig) = rTake (V (main_arg1 : DevRef τ sig)) (V (main_v1 : DevRef τ sig)) := by
  after_results_simp
  simp only [TRef.ofBuf_toBuf]
  rfl
/-- The queries by windows. -/
theorem ixB_v3 : after (ixBOps) V (main_v3 : DevRef τ sig) = rWin (V (main_v2 : DevRef τ sig)) := by
  after_results
  rfl
/-- The column of indices again. -/
theorem ixB_v4 : after (ixBOps) V (main_v4 : DevRef τ sig) = rCol (V (main_v0 : DevRef τ sig)) := by
  after_results
  rfl
/-- The values gathered. -/
theorem take_v5 : after (takeOps (.of main_arg2) (.of main_v4) main_call1) V (main_v5 : DevRef τ sig) = rTake (V (main_arg2 : DevRef τ sig)) (V (main_v4 : DevRef τ sig)) := by
  after_results_simp
  simp only [TRef.ofBuf_toBuf]
  rfl
/-- The values by windows. -/
theorem dots_v6 : after (dotsOps) V (main_v6 : DevRef τ sig) = rWin (V (main_v5 : DevRef τ sig)) := by
  after_results
  rfl
/-- The logits. -/
theorem dots_v28 : after (dotsOps) V (main_v28 : DevRef τ sig) = rLg (V (main_v3 : DevRef τ sig)) (V (main_arg3 : DevRef τ sig)) := by
  after_results
  rfl
/-- The diagonal. -/
theorem dots_v33 : after (dotsOps) V (main_v33 : DevRef τ sig) = rEye := by
  after_results
  rfl
/-- The diagonal's logit. -/
theorem dots_c5 : after (dotsOps) V (main_cst_5 : DevRef τ sig) = constant S_ .f32 0xC7435000#32 := by
  after_results
/-- The logits with the diagonal replaced. -/
theorem mask_v34 : after (maskOps (.of main_v33) (.of main_cst_5) (.of main_v28) main_call2) V (main_v34 : DevRef τ sig) = rMask (V (main_v33 : DevRef τ sig)) (V (main_cst_5 : DevRef τ sig)) (V (main_v28 : DevRef τ sig)) := by
  after_results_simp
  simp only [TRef.ofBuf_toBuf]
  rfl
/-- The attention. -/
theorem soft_v47 : after (softOps) V (main_v47 : DevRef τ sig) = rSo (V (main_v34 : DevRef τ sig)) (V (main_v6 : DevRef τ sig)) := by
  after_results
  rfl
/-- The heads' numbers. -/
theorem soft_v48 : after (softOps) V (main_v48 : DevRef τ sig) = iotaInDim S12 32 0 := by
  after_results
/-- The means. -/
theorem mean_v85 : after (meanOps) V (main_v85 : DevRef τ sig) = rOut (rAt (V (main_v0 : DevRef τ sig)) (V (main_v48 : DevRef τ sig))) (V (main_v47 : DevRef τ sig)) := by
  after_results
  rfl
/-- Part 0 keeps what later parts read. -/
theorem keep_0 : after (ixAOps) V (main_arg0 : DevRef τ sig) = V (main_arg0 : DevRef τ sig)
    ∧ after (ixAOps) V (main_arg1 : DevRef τ sig) = V (main_arg1 : DevRef τ sig)
    ∧ after (ixAOps) V (main_arg2 : DevRef τ sig) = V (main_arg2 : DevRef τ sig)
    ∧ after (ixAOps) V (main_arg3 : DevRef τ sig) = V (main_arg3 : DevRef τ sig) :=
  ⟨after_of_writes_sub _ V ixA_writes (by decide +kernel), after_of_writes_sub _ V ixA_writes (by decide +kernel), after_of_writes_sub _ V ixA_writes (by decide +kernel), after_of_writes_sub _ V ixA_writes (by decide +kernel)⟩
/-- Part 1 keeps what later parts read. -/
theorem keep_1 : after (takeOps (.of main_arg1) (.of main_v1) main_call0) V (main_arg0 : DevRef τ sig) = V (main_arg0 : DevRef τ sig)
    ∧ after (takeOps (.of main_arg1) (.of main_v1) main_call0) V (main_arg1 : DevRef τ sig) = V (main_arg1 : DevRef τ sig)
    ∧ after (takeOps (.of main_arg1) (.of main_v1) main_call0) V (main_arg2 : DevRef τ sig) = V (main_arg2 : DevRef τ sig)
    ∧ after (takeOps (.of main_arg1) (.of main_v1) main_call0) V (main_arg3 : DevRef τ sig) = V (main_arg3 : DevRef τ sig)
    ∧ after (takeOps (.of main_arg1) (.of main_v1) main_call0) V (main_v0 : DevRef τ sig) = V (main_v0 : DevRef τ sig) :=
  ⟨after_of_writes_sub _ V (take_writes _ _ _) (by decide +kernel), after_of_writes_sub _ V (take_writes _ _ _) (by decide +kernel), after_of_writes_sub _ V (take_writes _ _ _) (by decide +kernel), after_of_writes_sub _ V (take_writes _ _ _) (by decide +kernel), after_of_writes_sub _ V (take_writes _ _ _) (by decide +kernel)⟩
/-- Part 2 keeps what later parts read. -/
theorem keep_2 : after (ixBOps) V (main_arg0 : DevRef τ sig) = V (main_arg0 : DevRef τ sig)
    ∧ after (ixBOps) V (main_arg1 : DevRef τ sig) = V (main_arg1 : DevRef τ sig)
    ∧ after (ixBOps) V (main_arg2 : DevRef τ sig) = V (main_arg2 : DevRef τ sig)
    ∧ after (ixBOps) V (main_arg3 : DevRef τ sig) = V (main_arg3 : DevRef τ sig)
    ∧ after (ixBOps) V (main_v0 : DevRef τ sig) = V (main_v0 : DevRef τ sig) :=
  ⟨after_of_writes_sub _ V ixB_writes (by decide +kernel), after_of_writes_sub _ V ixB_writes (by decide +kernel), after_of_writes_sub _ V ixB_writes (by decide +kernel), after_of_writes_sub _ V ixB_writes (by decide +kernel), after_of_writes_sub _ V ixB_writes (by decide +kernel)⟩
/-- Part 3 keeps what later parts read. -/
theorem keep_3 : after (takeOps (.of main_arg2) (.of main_v4) main_call1) V (main_arg0 : DevRef τ sig) = V (main_arg0 : DevRef τ sig)
    ∧ after (takeOps (.of main_arg2) (.of main_v4) main_call1) V (main_arg1 : DevRef τ sig) = V (main_arg1 : DevRef τ sig)
    ∧ after (takeOps (.of main_arg2) (.of main_v4) main_call1) V (main_arg2 : DevRef τ sig) = V (main_arg2 : DevRef τ sig)
    ∧ after (takeOps (.of main_arg2) (.of main_v4) main_call1) V (main_arg3 : DevRef τ sig) = V (main_arg3 : DevRef τ sig)
    ∧ after (takeOps (.of main_arg2) (.of main_v4) main_call1) V (main_v0 : DevRef τ sig) = V (main_v0 : DevRef τ sig)
    ∧ after (takeOps (.of main_arg2) (.of main_v4) main_call1) V (main_v3 : DevRef τ sig) = V (main_v3 : DevRef τ sig) :=
  ⟨after_of_writes_sub _ V (take_writes _ _ _) (by decide +kernel), after_of_writes_sub _ V (take_writes _ _ _) (by decide +kernel), after_of_writes_sub _ V (take_writes _ _ _) (by decide +kernel), after_of_writes_sub _ V (take_writes _ _ _) (by decide +kernel), after_of_writes_sub _ V (take_writes _ _ _) (by decide +kernel), after_of_writes_sub _ V (take_writes _ _ _) (by decide +kernel)⟩
/-- Part 4 keeps what later parts read. -/
theorem keep_4 : after (dotsOps) V (main_arg0 : DevRef τ sig) = V (main_arg0 : DevRef τ sig)
    ∧ after (dotsOps) V (main_arg1 : DevRef τ sig) = V (main_arg1 : DevRef τ sig)
    ∧ after (dotsOps) V (main_arg2 : DevRef τ sig) = V (main_arg2 : DevRef τ sig)
    ∧ after (dotsOps) V (main_arg3 : DevRef τ sig) = V (main_arg3 : DevRef τ sig)
    ∧ after (dotsOps) V (main_v0 : DevRef τ sig) = V (main_v0 : DevRef τ sig) :=
  ⟨after_of_writes_sub _ V dots_writes (by decide +kernel), after_of_writes_sub _ V dots_writes (by decide +kernel), after_of_writes_sub _ V dots_writes (by decide +kernel), after_of_writes_sub _ V dots_writes (by decide +kernel), after_of_writes_sub _ V dots_writes (by decide +kernel)⟩
/-- Part 5 keeps what later parts read. -/
theorem keep_5 : after (maskOps (.of main_v33) (.of main_cst_5) (.of main_v28) main_call2) V (main_arg0 : DevRef τ sig) = V (main_arg0 : DevRef τ sig)
    ∧ after (maskOps (.of main_v33) (.of main_cst_5) (.of main_v28) main_call2) V (main_arg1 : DevRef τ sig) = V (main_arg1 : DevRef τ sig)
    ∧ after (maskOps (.of main_v33) (.of main_cst_5) (.of main_v28) main_call2) V (main_arg2 : DevRef τ sig) = V (main_arg2 : DevRef τ sig)
    ∧ after (maskOps (.of main_v33) (.of main_cst_5) (.of main_v28) main_call2) V (main_arg3 : DevRef τ sig) = V (main_arg3 : DevRef τ sig)
    ∧ after (maskOps (.of main_v33) (.of main_cst_5) (.of main_v28) main_call2) V (main_v0 : DevRef τ sig) = V (main_v0 : DevRef τ sig)
    ∧ after (maskOps (.of main_v33) (.of main_cst_5) (.of main_v28) main_call2) V (main_v6 : DevRef τ sig) = V (main_v6 : DevRef τ sig) :=
  ⟨after_of_writes_sub _ V (mask_writes _ _ _ _) (by decide +kernel), after_of_writes_sub _ V (mask_writes _ _ _ _) (by decide +kernel), after_of_writes_sub _ V (mask_writes _ _ _ _) (by decide +kernel), after_of_writes_sub _ V (mask_writes _ _ _ _) (by decide +kernel), after_of_writes_sub _ V (mask_writes _ _ _ _) (by decide +kernel), after_of_writes_sub _ V (mask_writes _ _ _ _) (by decide +kernel)⟩
/-- Part 6 keeps what later parts read. -/
theorem keep_6 : after (softOps) V (main_arg0 : DevRef τ sig) = V (main_arg0 : DevRef τ sig)
    ∧ after (softOps) V (main_arg1 : DevRef τ sig) = V (main_arg1 : DevRef τ sig)
    ∧ after (softOps) V (main_arg2 : DevRef τ sig) = V (main_arg2 : DevRef τ sig)
    ∧ after (softOps) V (main_arg3 : DevRef τ sig) = V (main_arg3 : DevRef τ sig)
    ∧ after (softOps) V (main_v0 : DevRef τ sig) = V (main_v0 : DevRef τ sig) :=
  ⟨after_of_writes_sub _ V soft_writes (by decide +kernel), after_of_writes_sub _ V soft_writes (by decide +kernel), after_of_writes_sub _ V soft_writes (by decide +kernel), after_of_writes_sub _ V soft_writes (by decide +kernel), after_of_writes_sub _ V soft_writes (by decide +kernel)⟩
/-- Part 7 keeps what later parts read. -/
theorem keep_7 : after (meanOps) V (main_arg0 : DevRef τ sig) = V (main_arg0 : DevRef τ sig)
    ∧ after (meanOps) V (main_arg1 : DevRef τ sig) = V (main_arg1 : DevRef τ sig)
    ∧ after (meanOps) V (main_arg2 : DevRef τ sig) = V (main_arg2 : DevRef τ sig)
    ∧ after (meanOps) V (main_arg3 : DevRef τ sig) = V (main_arg3 : DevRef τ sig) :=
  ⟨after_of_writes_sub _ V mean_writes (by decide +kernel), after_of_writes_sub _ V mean_writes (by decide +kernel), after_of_writes_sub _ V mean_writes (by decide +kernel), after_of_writes_sub _ V mean_writes (by decide +kernel)⟩

/-- What the program computes of its arguments. -/
def rAll (x : IVec S12x64x128 32) (q v : FVec F S12x8192x64 .f32) (w : FVec F S128x12x64 .f32) : FVec F S12x8192x64 .f32 :=
  rOut (rAt (rIx x) (iotaInDim S12 32 0)) (rSo (rMask rEye (constant S_ .f32 0xC7435000#32) (rLg (rWin (rTake q (rCol (rIx x)))) w)) (rWin (rTake v (rCol (rIx x)))))

/-- What the program's result and arguments hold at the end. -/
theorem values : after ops V (main_v85 : DevRef τ sig) = rAll (V (main_arg0 : DevRef τ sig)) (V (main_arg1 : DevRef τ sig)) (V (main_arg2 : DevRef τ sig)) (V (main_arg3 : DevRef τ sig))
    ∧ after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig) := by
  unfold ops rAll
  rw [after_app]
  have p_ixA_v0 := ixA_v0 V
  have p_ixA_v1 := ixA_v1 V
  obtain ⟨a0_0, a1_0, a2_0, a3_0⟩ := keep_0 V
  generalize after (ixAOps) V = V0 at *
  rw [after_app]
  have p_take_v2 := take_v2 V0
  obtain ⟨a0_1, a1_1, a2_1, a3_1, kv0_1⟩ := keep_1 V0
  generalize after (takeOps (.of main_arg1) (.of main_v1) main_call0) V0 = V1 at *
  rw [after_app]
  have p_ixB_v3 := ixB_v3 V1
  have p_ixB_v4 := ixB_v4 V1
  obtain ⟨a0_2, a1_2, a2_2, a3_2, kv0_2⟩ := keep_2 V1
  generalize after (ixBOps) V1 = V2 at *
  rw [after_app]
  have p_take_v5 := take_v5 V2
  obtain ⟨a0_3, a1_3, a2_3, a3_3, kv0_3, kv3_3⟩ := keep_3 V2
  generalize after (takeOps (.of main_arg2) (.of main_v4) main_call1) V2 = V3 at *
  rw [after_app]
  have p_dots_v6 := dots_v6 V3
  have p_dots_v28 := dots_v28 V3
  have p_dots_v33 := dots_v33 V3
  have p_dots_c5 := dots_c5 V3
  obtain ⟨a0_4, a1_4, a2_4, a3_4, kv0_4⟩ := keep_4 V3
  generalize after (dotsOps) V3 = V4 at *
  rw [after_app]
  have p_mask_v34 := mask_v34 V4
  obtain ⟨a0_5, a1_5, a2_5, a3_5, kv0_5, kv6_5⟩ := keep_5 V4
  generalize after (maskOps (.of main_v33) (.of main_cst_5) (.of main_v28) main_call2) V4 = V5 at *
  rw [after_app]
  have p_soft_v47 := soft_v47 V5
  have p_soft_v48 := soft_v48 V5
  obtain ⟨a0_6, a1_6, a2_6, a3_6, kv0_6⟩ := keep_6 V5
  generalize after (softOps) V5 = V6 at *
  have p_mean_v85 := mean_v85 V6
  obtain ⟨a0_7, a1_7, a2_7, a3_7⟩ := keep_7 V6
  generalize after (meanOps) V6 = V7 at *
  refine ⟨?_, ?_, ?_, ?_, ?_⟩
  · simp only [p_mean_v85, p_soft_v47, p_soft_v48, p_mask_v34, p_dots_v6, p_dots_v28, p_dots_v33, p_dots_c5, p_take_v5, p_ixB_v3, p_ixB_v4, p_take_v2, p_ixA_v0, p_ixA_v1,
      a0_0, a1_0, a2_0, a3_0, a0_1, a1_1, a2_1, a3_1, kv0_1, a0_2, a1_2, a2_2, a3_2, kv0_2, a0_3, a1_3, a2_3, a3_3, kv0_3, kv3_3, a0_4, a1_4, a2_4, a3_4, kv0_4, a0_5, a1_5, a2_5, a3_5, kv0_5, kv6_5, a0_6, a1_6, a2_6, a3_6, kv0_6, a0_7, a1_7, a2_7, a3_7]
  · rw [a0_7, a0_6, a0_5, a0_4, a0_3, a0_2, a0_1, a0_0]
  · rw [a1_7, a1_6, a1_5, a1_4, a1_3, a1_2, a1_1, a1_0]
  · rw [a2_7, a2_6, a2_5, a2_4, a2_3, a2_2, a2_1, a2_0]
  · rw [a3_7, a3_6, a3_5, a3_4, a3_3, a3_2, a3_1, a3_0]

/-- The run, read: the result, the arguments unchanged, every counter at zero. -/
theorem run_main (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v85) = rAll (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => ⟨(h c main_v85).trans (values _).1, (h c main_arg0).trans (values _).2.1,
      (h c main_arg1).trans (values _).2.2.1, (h c main_arg2).trans (values _).2.2.2.1, (h c main_arg3).trans (values _).2.2.2.2⟩,
    Idealize.ShloMosaic.sem_eq_zero_of_no_sems (by decide) r.2⟩) (run m ρ)

end Cert.AttnReferenceIdeal.Hand

end
-- ==== Proof.AtRefVal.lean ====
module

public import proofs.«01_k».proof.Proof.AtMath
public import proofs.«01_k».proof.Proof.AtRef
public import Idealize.ShloMosaic.Lib.Pipeline.ValueKit

@[expose] public section

set_option maxRecDepth 16384

noncomputable section

/-! The reference's attention, read at coordinates. -/

namespace Cert.AttnReferenceIdeal.Hand

open Cert.AttnReferenceIdeal Cert.AttnReferenceIdeal.Gen Cert.Attn Cert.Km
open Idealize.ShloMosaic Idealize.ShloMosaic.TcCoe

/-- A place in a head's list, from its window and slot. -/
def pos (c : Fin 64) (k : Fin 128) : Fin 8192 := ⟨c.val * 128 + k.val, by omega⟩

/-- The list of indices. -/
theorem rIx_at (x : IVec S12x64x128 32) (h : Fin 12) (p : Fin 8192) : rIx x (ix2 h p) = x (ix3 h ⟨p.val / 128, by omega⟩ ⟨p.val % 128, by omega⟩) := by
  pointwise [rIx]

/-- A list's rows by windows. -/
theorem rWin_at (a : FVec Ideal S12x8192x64 .f32) (h : Fin 12) (c : Fin 64) (k : Fin 128) (d : Fin 64) : rWin a (ix4 h c k d) = a (ix3 h (pos c k) d) := by
  pointwise [rWin]
  rfl

/-- The rows normalised. -/
theorem rKn_at (q : FVec Ideal S12x64x128x64 .f32) (h : Fin 12) (c : Fin 64) (k : Fin 128) (d : Fin 64) : rKn q (ix4 h c k d) = nrm (fun d => q (ix4 h c k d)) d := by
  pointwise [rKn]
  rfl

/-- The positional term is zero where the weights are. -/
theorem rEmb_at (q : FVec Ideal S12x64x128x64 .f32) (w : FVec Ideal S128x12x64 .f32) (hw : ∀ y, w y = 0) : rEmb q w = fun _ => 0 := by
  funext y
  obtain ⟨h, c, k, j, rfl⟩ : ∃ (h : Fin 12) (c : Fin 64) (k : Fin 128) (j : Fin 128), y = ix4 h c k j := ⟨y 0, y 1, y 2, y 3, by blk_ext⟩
  pointwise [rEmb]
  simp [hw]

/-- The diagonal. -/
theorem rEye_at (i j : Fin 128) : rEye (ix2 i j) = IntOp.cmpi .eq (BitVec.ofNat 32 i.val) (BitVec.ofNat 32 j.val) := by
  pointwise [rEye]
  exact congrArg (fun b => IntOp.cmpi .eq b _) (BitVec.add_zero _)

/-- The largest of a list, from a start, is at most what the start and all its entries are. -/
theorem foldl_max_le {α : Type} (f : α → EReal) (L : List α) (b z : EReal) : L.foldl (fun r n => max r (f n)) b ≤ z ↔ b ≤ z ∧ ∀ n ∈ L, f n ≤ z := by
  induction L generalizing b with
  | nil => simp
  | cons a L ih => rw [List.foldl_cons, ih, max_le_iff, List.forall_mem_cons, and_assoc]

/-- A maximum over some axes, where what it reduces at `j` are the entries of `r`. -/
theorem reduce_max {s t u : Shape} {axes : List (Fin s.rank)} (x : s.Idx → EReal) (i : u.Idx → EReal) (h : s.ReducesTo axes t) (hu : 0 < u.numel) (j : t.Idx)
    {n : ℕ} (r : Fin n → EReal) (b : EReal) (hi : ∀ y, i y = b) (hm : ∀ y, h.drop y = j → ∃ k, x y = r k) (ha : ∀ k, ∃ y, h.drop y = j ∧ x y = r k) :
    Host.reduce (FloatOps.maximumf (F := Ideal) (φ := .f32)) x i h hu j = Finset.fold max b r Finset.univ := by
  refine eq_of_forall_ge_iff fun z => ?_
  unfold Host.reduce
  rw [Finset.fold_max_le]
  refine (foldl_max_le (fun n => x (s.rowMajor.symm n)) _ _ z).trans ?_
  rw [hi]
  refine and_congr_right fun _ => ⟨fun H k _ => ?_, fun H n hn => ?_⟩
  · obtain ⟨y, e1, e2⟩ := ha k
    have := H (s.rowMajor y) (List.mem_filter.mpr ⟨List.mem_finRange _, by simpa using e1⟩)
    rw [← e2]
    simpa using this
  · obtain ⟨k, e⟩ := hm _ (by simpa using (List.mem_filter.mp hn).2)
    rw [e]
    exact H k (Finset.mem_univ _)

/-- The largest logit of a row. -/
theorem rMx_at (l : FVec Ideal S12x64x128x128 .f32) (h : Fin 12) (c : Fin 64) (i j : Fin 128) :
    rMx l (ix4 h c i j) = Finset.fold max (Ideal.ofBits FTy.f32 0xFF800000#32) (fun j => l (ix4 h c i j)) Finset.univ := by
  have e : ∀ z : FVec Ideal S12x64x128 .f32, broadcastInDim S12x64x128x128 ![0, 1, 2, 3] bcast_S12x64x128x1_S12x64x128x128_0_1_2_3 (broadcastInDim S12x64x128x1 ![0, 1, 2] bcast_S12x64x128_S12x64x128x1_0_1_2
    (maximumf (broadcastInDim S12x64x128 ![] bcast_S_S12x64x128 (constant S_ .f32 0xFF800000#32)) z)) (ix4 h c i j) = max (Ideal.ofBits FTy.f32 0xFF800000#32) (z (ix3 h c i)) := fun z => by
    pointwise []
  have r := reduce_max l (constant (F := Ideal) S_ .f32 0xFF800000#32) reducesTo_S12x64x128x128_S12x64x128_d3 h_S_ (ix3 h c i) (fun j => l (ix4 h c i j)) (Ideal.ofBits FTy.f32 0xFF800000#32) (fun y => rfl) (fun y hy => ?_) (fun k => ?_)
  · unfold rMx
    rw [e]
    exact (congrArg (max _) r).trans (max_eq_right ((Finset.le_fold_max _).mpr (Or.inl le_rfl)))
  · have h0 := Shape.ReducesTo.drop_apply_val reducesTo_S12x64x128x128_S12x64x128_d3 y 0
    have h1 := Shape.ReducesTo.drop_apply_val reducesTo_S12x64x128x128_S12x64x128_d3 y 1
    have h2 := Shape.ReducesTo.drop_apply_val reducesTo_S12x64x128x128_S12x64x128_d3 y 2
    rw [hy] at h0 h1 h2
    refine ⟨y 3, congrArg l ?_⟩
    funext a
    match a with
    | ⟨0, _⟩ => exact Fin.ext h0.symm
    | ⟨1, _⟩ => exact Fin.ext h1.symm
    | ⟨2, _⟩ => exact Fin.ext h2.symm
    | ⟨3, _⟩ => rfl
  · refine ⟨ix4 h c i k, ?_, rfl⟩
    funext a
    match a with
    | ⟨0, _⟩ => exact Fin.ext (Shape.ReducesTo.drop_apply_val reducesTo_S12x64x128x128_S12x64x128_d3 (ix4 h c i k) 0)
    | ⟨1, _⟩ => exact Fin.ext (Shape.ReducesTo.drop_apply_val reducesTo_S12x64x128x128_S12x64x128_d3 (ix4 h c i k) 1)
    | ⟨2, _⟩ => exact Fin.ext (Shape.ReducesTo.drop_apply_val reducesTo_S12x64x128x128_S12x64x128_d3 (ix4 h c i k) 2)

/-- The exponentials over their sums. -/
theorem rNrm_at (l : FVec Ideal S12x64x128x128 .f32) (h : Fin 12) (c : Fin 64) (i j : Fin 128) :
    rNrm l (ix4 h c i j) = Ideal.div (l (ix4 h c i j)) (∑ k, l (ix4 h c i k)) := by
  pointwise [rNrm]

/-- A block of an array that is one value everywhere. -/
theorem slice_all {s t : Shape} (off : Fin s.rank → Nat) (x : s.Idx → EReal) (h : s.Slices off t) (z : EReal) (hx : ∀ i, x i = z) (j : t.Idx) :
    extractStridedSlice t off x h j = z := hx _
/-- An array that is one value everywhere, under another shape. -/
theorem cast_all {s t : Shape} (x : s.Idx → EReal) (h : s.ShapeCasts t) (z : EReal) (hx : ∀ i, x i = z) (j : t.Idx) : shapeCast t x h j = z := hx _
/-- Two arrays that are one value everywhere, joined. -/
theorem join_all {s₁ s₂ t : Shape} (a : Fin t.rank) (x₁ : s₁.Idx → EReal) (x₂ : s₂.Idx → EReal) (h : Shape.Concatenates [s₁, s₂] t a) (z : EReal)
    (h₁ : ∀ i, x₁ i = z) (h₂ : ∀ i, x₂ i = z) (j : t.Idx) : concatenate t a [⟨s₁, x₁⟩, ⟨s₂, x₂⟩] h j = z :=
  concatenate_forall (P := fun y => y = z) t a [⟨s₁, x₁⟩, ⟨s₂, x₂⟩] h (fun p hp i => by
    rcases List.mem_cons.mp hp with rfl | hp
    · exact h₁ i
    · rcases List.mem_singleton.mp hp with rfl
      exact h₂ i) j
/-- Zero everywhere is zero. -/
theorem zeros_all {t : Shape} (h : S_.BroadcastsInDim t ![]) (j : t.Idx) : broadcastInDim t ![] h (constant (F := Ideal) S_ .f32 0x00000000#32) j = 0 := by
  show Ideal.ofBits FTy.f32 0x00000000#32 = 0
  simp

/-- A shifted term of zeros is zero. -/
theorem rShift_zero (y : S12x64x128x128.Idx) : rShift (F := Ideal) (fun _ => 0) y = 0 := by
  unfold rShift
  exact slice_all _ _ _ 0 (cast_all _ _ 0 (join_all _ _ _ _ 0 (cast_all _ _ 0 (join_all _ _ _ _ 0 (fun _ => rfl) (zeros_all _))) (zeros_all _))) y

/-- The logits. -/
theorem rLg_at (q : FVec Ideal S12x64x128x64 .f32) (w : FVec Ideal S128x12x64 .f32) (hw : ∀ y, w y = 0) (h : Fin 12) (c : Fin 64) (i j : Fin 128) :
    rLg q w (ix4 h c i j) = (∑ k, q (ix4 h c i k) * nrm (fun d => q (ix4 h c j d)) k) * Ideal.ofBits FTy.f32 0x3E000000#32 := by
  have e : ∀ (n : FVec Ideal S12x64x128x64 .f32) (z : FVec Ideal S12x64x128x128 .f32), addf (mulf (Host.dotGeneral dot_S12x64x128x64_S12x64x128x64_S12x64x128x128_3_3_2_2_01_01 none q n)
    (broadcastInDim S12x64x128x128 ![] bcast_S_S12x64x128x128 (constant S_ .f32 0x3E000000#32))) z (ix4 h c i j) = (∑ k, q (ix4 h c i k) * n (ix4 h c j k)) * Ideal.ofBits FTy.f32 0x3E000000#32 + z (ix4 h c i j) := fun n z => by
    pointwise []
  unfold rLg
  rw [e, rEmb_at q w hw, rShift_zero, add_zero]
  simp only [rKn_at]

/-- The masked logits are the window's. -/
theorem rMask_at (q : FVec Ideal S12x64x128x64 .f32) (w : FVec Ideal S128x12x64 .f32) (hw : ∀ y, w y = 0) (h : Fin 12) (c : Fin 64) (i j : Fin 128) :
    rMask rEye (constant S_ .f32 0xC7435000#32) (rLg q w) (ix4 h c i j) = lg (fun k d => q (ix4 h c k d)) i j := by
  have e : ∀ (m : IVec S128x128 1) (l : FVec Ideal S12x64x128x128 .f32), rMask m (constant S_ .f32 0xC7435000#32) l (ix4 h c i j)
      = Scalar.select (m (ix2 i j)) (Ideal.ofBits FTy.f32 0xC7435000#32) (l (ix4 h c i j)) := fun m l => by
    pointwise [rMask]
  rw [e, rEye_at, pick_eq, rLg_at q w hw]
  rfl

/-- The attention of a window. -/
theorem rSo_at (l : FVec Ideal S12x64x128x128 .f32) (v : FVec Ideal S12x64x128x64 .f32) (h : Fin 12) (p : Fin 8192) (d : Fin 64) :
    rSo l v (ix3 h p d) = ∑ j, sm (fun j => l (ix4 h ⟨p.val / 128, by omega⟩ ⟨p.val % 128, by omega⟩ j)) j * v (ix4 h ⟨p.val / 128, by omega⟩ j d) := by
  have e : ∀ n : FVec Ideal S12x64x128x128 .f32, shapeCast S12x8192x64 (Host.dotGeneral dot_S12x64x128x128_S12x64x128x64_S12x64x128x64_3_2_2_3_01_01 none n v) shapeCasts_S12x64x128x64_S12x8192x64 (ix3 h p d)
      = ∑ j, n (ix4 h ⟨p.val / 128, by omega⟩ ⟨p.val % 128, by omega⟩ j) * v (ix4 h ⟨p.val / 128, by omega⟩ j d) := fun n => by
    pointwise []
  have ee : ∀ c i j, Host.exp (subf l (rMx l)) (ix4 h c i j) = ew (fun j => l (ix4 h c i j)) j := fun c i j => by
    have e0 : ∀ m : FVec Ideal S12x64x128x128 .f32, Host.exp (subf l m) (ix4 h c i j) = Ideal.exp (l (ix4 h c i j) - m (ix4 h c i j)) := fun m => by
      pointwise []
    rw [e0, rMx_at]
    rfl
  unfold rSo
  rw [e]
  simp only [rNrm_at, ee]
  rfl

end Cert.AttnReferenceIdeal.Hand

end
-- ==== Proof.AtRefIdx.lean ====
module

public import proofs.«01_k».proof.Proof.AtRefVal

@[expose] public section

set_option maxRecDepth 16384

noncomputable section

/-! The reference's gathers and scattered sums, read at coordinates, where the indices are tokens. -/

namespace Cert.AttnReferenceIdeal.Hand

open Cert.AttnReferenceIdeal Cert.AttnReferenceIdeal.Gen Cert.Attn Cert.Km
open Idealize.ShloMosaic Idealize.ShloMosaic.TcCoe

/-- A number below 2 ^ 31 is not negative. -/
theorem slt_zero (b : BitVec 32) (hb : b.toNat < 8192) : IntOp.cmpi .slt b 0#32 = 0#1 := by
  have e : b.slt 0#32 = false := by
    rw [Bool.eq_false_iff, ne_eq, BitVec.slt_iff_toInt_lt, BitVec.toInt_eq_toNat_of_lt (by omega)]
    show ¬(b.toNat : ℤ) < 0
    omega
  simp only [IntOp.cmpi, e]
  rfl
/-- A token's number is at least zero. -/
theorem sge_zero (b : BitVec 32) (hb : b.toNat < 8192) : IntOp.cmpi .sge b 0#32 = 1#1 := by
  have e : (0#32).sle b = true := by
    rw [BitVec.sle_iff_toInt_le, BitVec.toInt_eq_toNat_of_lt (x := b) (by omega)]
    show (0 : ℤ) ≤ b.toNat
    omega
  simp only [IntOp.cmpi, e]
  rfl
/-- A token's number is at most 8191. -/
theorem sle_last (b : BitVec 32) (hb : b.toNat < 8192) : IntOp.cmpi .sle b 8191#32 = 1#1 := by
  have e : b.sle 8191#32 = true := by
    rw [BitVec.sle_iff_toInt_le, BitVec.toInt_eq_toNat_of_lt (x := b) (by omega)]
    show (b.toNat : ℤ) ≤ 8191
    omega
  simp only [IntOp.cmpi, e]
  rfl
/-- A number that is not negative is kept. -/
theorem wrap_eq (b a : BitVec 32) (hb : b.toNat < 8192) : Scalar.select (IntOp.cmpi .slt b 0#32) a b = b := by
  rw [slt_zero b hb]
  rfl

section Rows

variable (l : IVec S12x8192 32) (hl : ∀ y, (l y).toNat < 8192)
include hl

/-- The column of row numbers is kept. -/
theorem rWrap_at (h : Fin 12) (p : Fin 8192) : rWrap (rCol l) (ix3 h p 0) = l (ix2 h p) := by
  have e : rWrap (rCol l) (ix3 h p 0) = Scalar.select (IntOp.cmpi .slt (l (ix2 h p)) 0#32) (IntOp.addi (l (ix2 h p)) 8192#32) (l (ix2 h p)) := by
    pointwise [rWrap, rCol]
  rw [e]
  exact wrap_eq _ _ (hl _)

/-- Every column entry is a row's number. -/
theorem wrap_lt (y : S12x8192x1.Idx) : (rWrap (rCol l) y).toNat < 8192 := by
  obtain ⟨h, p, z, rfl⟩ : ∃ (h : Fin 12) (p : Fin 8192) (z : Fin 1), y = ix3 h p z := ⟨y 0, y 1, y 2, by blk_ext⟩
  have hz : z = 0 := Subsingleton.elim _ _
  subst hz
  rw [rWrap_at l hl]
  exact hl _

end Rows

/-- A conjunction of ones is one. -/
theorem foldl_one {α : Type} (f : α → BitVec 1) (L : List α) (hf : ∀ n, f n = 1#1) : L.foldl (fun r n => IntOp.andi r (f n)) 1#1 = 1#1 := by
  induction L with
  | nil => rfl
  | cons a L ih => rw [List.foldl_cons, hf a]; exact ih

/-- A conjunction over some axes of ones is one. -/
theorem reduce_one {s t u : Shape} {axes : List (Fin s.rank)} (x : s.Idx → BitVec 1) (i : u.Idx → BitVec 1) (h : s.ReducesTo axes t) (hu : 0 < u.numel) (j : t.Idx)
    (hi : ∀ y, i y = 1#1) (hx : ∀ y, x y = 1#1) : Host.reduce IntOp.andi x i h hu j = 1#1 := by
  unfold Host.reduce
  rw [hi]
  exact foldl_one (fun n => x (s.rowMajor.symm n)) _ fun n => hx _

/-- Every row's number is in range. -/
theorem rIn_at (y : IVec S12x8192x1 32) (hy : ∀ z, (y z).toNat < 8192) (j : S12x8192.Idx) : rIn y j = 1#1 := by
  unfold rIn
  refine reduce_one _ _ _ _ _ (fun _ => rfl) fun z => ?_
  show IntOp.andi (IntOp.cmpi .sge (y z) 0#32) (IntOp.cmpi .sle (y z) 8191#32) = 1#1
  rw [sge_zero _ (hy z), sle_last _ (hy z)]
  rfl

/-- The gather of rows, at row numbers in range. -/
theorem gather_at (a : FVec Ideal S12x8192x64 .f32) (ix : IVec S12x8192x1 32) (h : Fin 12) (p : Fin 8192) (d : Fin 64) (hx : (ix (ix3 h p 0)).toNat < 8192) :
    Host.gather gather_S12x8192x64_S12x8192x1_S12x8192x64_2_1_0_0_1_2_1164 a ix (ix3 h p d) = a (ix3 h (tok (ix (ix3 h p 0))) d) := by
  generalize hD : gather_S12x8192x64_S12x8192x1_S12x8192x64_2_1_0_0_1_2_1164 = D
  have hs : D.startIndexMap = [1] := by rw [← hD]; rfl
  have hb : D.operandBatchingDims = [0] := by rw [← hD]; rfl
  have hc : D.collapsedSliceDims = [1] := by rw [← hD]; rfl
  have si0 : ∀ q : Fin D.startIndexMap.length, q.val = 0 → D.siIdx (ix3 h p d) q = ix3 h p 0 := by
    subst hD
    intro q hq
    funext b
    refine Fin.ext ?_
    match b with
    | ⟨0, _⟩ => rfl
    | ⟨1, _⟩ => rfl
    | ⟨2, _⟩ => exact hq
  have bat : D.batchCoord (ix3 h p d) 0 = h.val := by
    subst hD
    rfl
  have off : D.offCoord (ix3 h p d) 2 = d.val := by
    subst hD
    rfl
  have sz : D.sliceSizes = ![1, 1, 64] := by rw [← hD]; rfl
  unfold Host.gather
  congr 1
  funext a
  refine Fin.ext ?_
  show D.start (ix3 h p d) ix a + D.batchCoord (ix3 h p d) a + D.offCoord (ix3 h p d) a = _
  match a with
  | ⟨0, _⟩ =>
    rw [GatherDims.offCoord_eq_zero _ _ _ (fun hk => ((GatherDims.mem_sKept _ _).mp hk).2 (by rw [hb]; exact List.mem_cons_self)), Nat.add_zero,
      GatherDims.start_batching _ _ _ _ (by rw [hb]; exact List.mem_cons_self), Nat.zero_add]
    exact bat
  | ⟨1, _⟩ =>
    rw [GatherDims.batchCoord_eq_zero _ _ _ (by rw [hb]; decide +revert), Nat.add_zero,
      GatherDims.offCoord_eq_zero _ _ _ (fun hk => ((GatherDims.mem_sKept _ _).mp hk).1 (by rw [hc]; exact List.mem_cons_self)), Nat.add_zero]
    unfold GatherDims.start
    rw [dif_pos (by rw [hs]; decide +revert), si0 _ (by simp only [hs]; rfl), sz, BitVec.toInt_eq_toNat_of_lt (by omega)]
    show min ((ix (ix3 h p 0)).toNat : ℤ).toNat (8192 - 1) = (ix (ix3 h p 0)).toNat % 8192
    omega
  | ⟨2, _⟩ =>
    rw [GatherDims.batchCoord_eq_zero _ _ _ (by rw [hb]; decide +revert), Nat.add_zero]
    unfold GatherDims.start
    rw [dif_neg (by rw [hs]; decide +revert), Nat.zero_add]
    exact off

/-- The rows gathered. -/
theorem rTake_at (a : FVec Ideal S12x8192x64 .f32) (l : IVec S12x8192 32) (hl : ∀ y, (l y).toNat < 8192) (h : Fin 12) (p : Fin 8192) (d : Fin 64) :
    rTake a (rCol l) (ix3 h p d) = a (ix3 h (tok (l (ix2 h p))) d) := by
  have e : ∀ (b : IVec S12x8192 1) (g : FVec Ideal S12x8192x64 .f32), select (broadcastInDim S12x8192x64 ![0, 1] bcast_S12x8192_S12x8192x64_0_1 b) g
    (broadcastInDim S12x8192x64 ![] bcast_S_S12x8192x64 (constant S_ .f32 0x7FC00000#32)) (ix3 h p d) = Scalar.select (b (ix2 h p)) (g (ix3 h p d)) (Ideal.ofBits FTy.f32 0x7FC00000#32) := fun b g => by
    pointwise []
  unfold rTake
  rw [e, rIn_at _ (wrap_lt l hl), gather_at a _ h p d (wrap_lt l hl _), rWrap_at l hl]
  rfl

/-- The head's number of where a row goes. -/
theorem rAt_head (l : IVec S12x8192 32) (h : Fin 12) (p : Fin 8192) : rAt l (iotaInDim S12 32 0) (ix3 h p 0) = BitVec.ofNat 32 h.val := by
  have e : rAt l (iotaInDim S12 32 0) (ix3 h p 0) = Scalar.select (IntOp.cmpi .slt (BitVec.ofNat 32 h.val) 0#32) (IntOp.addi (BitVec.ofNat 32 h.val) 12#32) (BitVec.ofNat 32 h.val) := by
    pointwise [rAt]
  have f : ∀ h : Fin 12, Scalar.select (IntOp.cmpi .slt (BitVec.ofNat 32 h.val) 0#32) (IntOp.addi (BitVec.ofNat 32 h.val) 12#32) (BitVec.ofNat 32 h.val) = BitVec.ofNat 32 h.val := by decide
  exact e.trans (f h)

/-- The row's number of where a row goes. -/
theorem rAt_row (l : IVec S12x8192 32) (hl : ∀ y, (l y).toNat < 8192) (h : Fin 12) (p : Fin 8192) : rAt l (iotaInDim S12 32 0) (ix3 h p 1) = l (ix2 h p) := by
  have e : rAt l (iotaInDim S12 32 0) (ix3 h p 1) = Scalar.select (IntOp.cmpi .slt (l (ix2 h p)) 0#32) (IntOp.addi (l (ix2 h p)) 8192#32) (l (ix2 h p)) := by
    pointwise [rAt]
  rw [e]
  exact wrap_eq _ _ (hl _)

/-- Where a row of the list lands. -/
theorem lands (ix : IVec S12x8192x2 32) (h : Fin 12) (p : Fin 8192) (d : Fin 64) (b : BitVec 32) (hb : b.toNat < 8192)
    (e0 : ix (ix3 h p 0) = BitVec.ofNat 32 h.val) (e1 : ix (ix3 h p 1) = b) :
    scatter_S12x8192x64_S12x8192x2_S12x8192x64_2_01_01_2.resultIdx? (ix3 h p d) ix = some (ix3 h (tok b) d) := by
  have v0 : ∀ a : Fin 12, (BitVec.ofNat 32 a.val).toInt = a.val := by decide
  generalize hD : scatter_S12x8192x64_S12x8192x2_S12x8192x64_2_01_01_2 = D
  have hs : D.scatterDimsToOperandDims = [0, 1] := by rw [← hD]; rfl
  have hc : D.insertedWindowDims = [0, 1] := by rw [← hD]; rfl
  have si0 : ∀ q : Fin D.scatterDimsToOperandDims.length, q.val = 0 → D.siIdx (ix3 h p d) q = ix3 h p 0 := by
    subst hD
    intro q hq
    funext b
    refine Fin.ext ?_
    match b with
    | ⟨0, _⟩ => rfl
    | ⟨1, _⟩ => rfl
    | ⟨2, _⟩ => exact hq
  have si1 : ∀ q : Fin D.scatterDimsToOperandDims.length, q.val = 1 → D.siIdx (ix3 h p d) q = ix3 h p 1 := by
    subst hD
    intro q hq
    funext b
    refine Fin.ext ?_
    match b with
    | ⟨0, _⟩ => rfl
    | ⟨1, _⟩ => rfl
    | ⟨2, _⟩ => exact hq
  have w0 : D.window (ix3 h p d) 0 = 0 := by subst hD; rfl
  have w1 : D.window (ix3 h p d) 1 = 0 := by subst hD; rfl
  have w2 : D.window (ix3 h p d) 2 = d.val := by subst hD; rfl
  have s0 : D.start (ix3 h p d) ix 0 = h.val := by
    unfold ScatterDims.start
    rw [dif_pos (by rw [hs]; decide +revert), si0 _ (by simp only [hs]; rfl), e0]
    exact v0 h
  have s1 : D.start (ix3 h p d) ix 1 = b.toNat := by
    unfold ScatterDims.start
    rw [dif_pos (by rw [hs]; decide +revert), si1 _ (by simp only [hs]; rfl), e1, BitVec.toInt_eq_toNat_of_lt (by omega)]
  have s2 : D.start (ix3 h p d) ix 2 = 0 := by
    unfold ScatterDims.start
    rw [dif_neg (by rw [hs]; decide +revert)]
  have hh := h.isLt
  have hd := d.isLt
  have g0 : D.start (ix3 h p d) ix 0 + D.window (ix3 h p d) 0 = h.val := by rw [s0, w0]; simp
  have g1 : D.start (ix3 h p d) ix 1 + D.window (ix3 h p d) 1 = b.toNat := by rw [s1, w1]; simp
  have g2 : D.start (ix3 h p d) ix 2 + D.window (ix3 h p d) 2 = d.val := by rw [s2, w2]; simp
  have hin : ∀ a, 0 ≤ D.start (ix3 h p d) ix a + D.window (ix3 h p d) a ∧ D.start (ix3 h p d) ix a + D.window (ix3 h p d) a < S12x8192x64.size a := fun a => by
    match a with
    | ⟨0, _⟩ => exact g0 ▸ ⟨by omega, by show (h.val : ℤ) < (12 : ℕ); omega⟩
    | ⟨1, _⟩ => exact g1 ▸ ⟨by omega, by show (b.toNat : ℤ) < (8192 : ℕ); omega⟩
    | ⟨2, _⟩ => exact g2 ▸ ⟨by omega, by show (d.val : ℤ) < (64 : ℕ); omega⟩
  unfold ScatterDims.resultIdx?
  rw [dif_pos hin]
  refine congrArg some ?_
  funext a
  refine Fin.ext ?_
  show (D.start (ix3 h p d) ix a + D.window (ix3 h p d) a).toNat = _
  match a with
  | ⟨0, _⟩ => exact (congrArg Int.toNat g0).trans (Int.toNat_natCast _)
  | ⟨1, _⟩ => exact (congrArg Int.toNat g1).trans ((Int.toNat_natCast _).trans (Nat.mod_eq_of_lt hb).symm)
  | ⟨2, _⟩ => exact (congrArg Int.toNat g2).trans (Int.toNat_natCast _)

/-- The rows added up. -/
theorem rAdd_at (l : IVec S12x8192 32) (hl : ∀ y, (l y).toNat < 8192) (u : FVec Ideal S12x8192x64 .f32) (h : Fin 12) (r : Fin 8192) (d : Fin 64) :
    rAdd (rAt l (iotaInDim S12 32 0)) u (ix3 h r d) = ∑ p, if tok (l (ix2 h p)) = r then u (ix3 h p d) else 0 := by
  have la : ∀ (h : Fin 12) (p : Fin 8192) (d : Fin 64), scatter_S12x8192x64_S12x8192x2_S12x8192x64_2_01_01_2.resultIdx? (ix3 h p d) (rAt l (iotaInDim S12 32 0)) = some (ix3 h (tok (l (ix2 h p))) d) :=
    fun h p d => lands _ h p d _ (hl _) (rAt_head l h p) (rAt_row l hl h p)
  have e : rAdd (rAt l (iotaInDim S12 32 0)) u = Ideal.hostScatterAdd scatter_S12x8192x64_S12x8192x2_S12x8192x64_2_01_01_2 (broadcastInDim S12x8192x64 ![] bcast_S_S12x8192x64 (constant (F := Ideal) S_ .f32 0x00000000#32)) (rAt l (iotaInDim S12 32 0)) u := rfl
  rw [e]
  unfold Ideal.hostScatterAdd
  rw [zeros_all, zero_add, ← Finset.sum_filter]
  refine (Finset.sum_nbij' (fun p : Fin 8192 => (ix3 h p d : S12x8192x64.Idx)) (fun y => y 1) ?_ ?_ ?_ ?_ ?_).symm
  · intro p hp
    have hp' := (Finset.mem_filter.mp hp).2
    exact Finset.mem_filter.mpr ⟨Finset.mem_univ _, by rw [la, hp']⟩
  · intro y hy
    obtain ⟨h', p, d', rfl⟩ : ∃ (h : Fin 12) (p : Fin 8192) (d : Fin 64), y = ix3 h p d := ⟨y 0, y 1, y 2, by blk_ext⟩
    have hy' := (Finset.mem_filter.mp hy).2
    rw [la] at hy'
    have h0 : h' = h := congrFun (Option.some.inj hy') 0
    have h1 : tok (l (ix2 h' p)) = r := congrFun (Option.some.inj hy') 1
    subst h0
    exact Finset.mem_filter.mpr ⟨Finset.mem_univ _, h1⟩
  · intro p _; rfl
  · intro y hy
    obtain ⟨h', p, d', rfl⟩ : ∃ (h : Fin 12) (p : Fin 8192) (d : Fin 64), y = ix3 h p d := ⟨y 0, y 1, y 2, by blk_ext⟩
    have hy' := (Finset.mem_filter.mp hy).2
    rw [la] at hy'
    have h0 : h' = h := congrFun (Option.some.inj hy') 0
    have h2 : d' = d := congrFun (Option.some.inj hy') 2
    subst h0 h2
    rfl
  · intro p _; rfl

/-- The sums over the counts. -/
theorem rOut_at (l : IVec S12x8192 32) (hl : ∀ y, (l y).toNat < 8192) (u : FVec Ideal S12x8192x64 .f32) (h : Fin 12) (r : Fin 8192) (d : Fin 64) :
    rOut (rAt l (iotaInDim S12 32 0)) u (ix3 h r d) = Ideal.div (∑ p, if tok (l (ix2 h p)) = r then u (ix3 h p d) else 0)
      ((∑ p, if tok (l (ix2 h p)) = r then Ideal.ofBits FTy.f32 0x3F800000#32 else 0) + Ideal.ofBits FTy.f32 0x3727C5AC#32) := by
  have e : ∀ a b : FVec Ideal S12x8192x64 .f32, Host.divf a (addf b (broadcastInDim S12x8192x64 ![] bcast_S_S12x8192x64 (constant S_ .f32 0x3727C5AC#32))) (ix3 h r d)
      = Ideal.div (a (ix3 h r d)) (b (ix3 h r d) + Ideal.ofBits FTy.f32 0x3727C5AC#32) := fun a b => by
    pointwise []
  unfold rOut
  rw [e, rAdd_at l hl, rAdd_at l hl]
  rfl

end Cert.AttnReferenceIdeal.Hand

end
-- ==== Proof.AtPre.lean ====
module

public import proofs.«01_k».proof.Proof.Gen.Pre_idx_pre
public import proofs.«01_k».proof.Pre_idx_pre
public import proofs.«01_k».proof.Proof.Gen.Pre_attn_pre
public import proofs.«01_k».proof.Pre_attn_pre
public import Idealize.ShloMosaic.Lib.Pipeline.ValueKit

@[expose] public section

set_option maxRecDepth 16384

noncomputable section

/-! What the two preconditions say of the arguments. -/

namespace Cert.Attn.Pre

open Idealize.ShloMosaic

/-- Both of a conjunction of bits hold. -/
theorem and_one : ∀ a b : BitVec 1, IntOp.andi a b = 1#1 → a = 1#1 ∧ b = 1#1 := by decide

/-- A conjunction over a list of bits holds only where each does. -/
theorem foldl_and {α : Type} (f : α → BitVec 1) (L : List α) (i : BitVec 1) (h : L.foldl (fun r n => IntOp.andi r (f n)) i = 1#1) :
    i = 1#1 ∧ ∀ n ∈ L, f n = 1#1 := by
  induction L generalizing i with
  | nil => exact ⟨h, fun n hn => absurd hn List.not_mem_nil⟩
  | cons a L ih =>
    obtain ⟨h1, h2⟩ := ih _ h
    obtain ⟨h3, h4⟩ := and_one _ _ h1
    refine ⟨h3, fun n hn => ?_⟩
    rcases List.mem_cons.mp hn with rfl | hn
    · exact h4
    · exact h2 n hn

/-- A conjunction over every axis holds only where each bit does. -/
theorem reduce_and {s t u : Shape} {axes : List (Fin s.rank)} (x : s.Idx → BitVec 1) (i : u.Idx → BitVec 1) (h : s.ReducesTo axes t) (hu : 0 < u.numel) (j : t.Idx)
    (hj : ∀ y, h.drop y = j) (e : Host.reduce IntOp.andi x i h hu j = 1#1) (y : s.Idx) : x y = 1#1 := by
  unfold Host.reduce at e
  have := (foldl_and (fun n => x (s.rowMajor.symm n)) _ _ e).2 (s.rowMajor y) (List.mem_filter.mpr ⟨List.mem_finRange _, by simpa using hj _⟩)
  simpa using this

/-- A word at least zero and below 8192, signed, is a number below 8192. -/
theorem word_lt (b : BitVec 32) (h0 : IntOp.cmpi .sge b 0#32 = 1#1) (h1 : IntOp.cmpi .slt b 8192#32 = 1#1) : b.toNat < 8192 := by
  simp only [IntOp.cmpi] at h0 h1
  have h0' : (0#32).sle b = true := by revert h0; cases (0#32).sle b <;> simp
  have h1' : b.slt 8192#32 = true := by revert h1; cases b.slt 8192#32 <;> simp
  rw [BitVec.sle_iff_toInt_le] at h0'
  rw [BitVec.slt_iff_toInt_lt] at h1'
  have eb := BitVec.toInt_eq_toNat_cond b
  have e0 : (0#32).toInt = 0 := rfl
  have e1 : (8192#32).toInt = 8192 := rfl
  have := b.isLt
  split at eb <;> omega

/-- Indices that satisfy the frames' precondition are each one of the 8192 tokens. -/
theorem idx_words {F : FTy → Type} [FloatOps F] (x : IVec Cert.Pre_idx_pre.S12x64x128 32) (q v : FVec F Cert.Pre_idx_pre.S12x8192x64 .f32) (w : FVec F Cert.Pre_idx_pre.S128x12x64 .f32)
    (h : Cert.Pre_idx_pre.fn x q v w = fun _ => 1#1) (y : Cert.Pre_idx_pre.S12x64x128.Idx) : (x y).toNat < 8192 := by
  have e := congrFun h (Shape.Idx.first Cert.Pre_idx_pre.Facts.h_S_)
  unfold Cert.Pre_idx_pre.fn at e
  obtain ⟨e1, e2⟩ := and_one _ _ e
  exact word_lt (x y) (reduce_and _ _ _ _ _ (fun y => funext fun a => a.elim0) e1 y) (reduce_and _ _ _ _ _ (fun y => funext fun a => a.elim0) e2 y)

open Cert.Pre_attn_pre Cert.Pre_attn_pre.Gen

variable {F : FTy → Type} [FloatOps F] (x : IVec S12x64x128 32) (q v : FVec F S12x8192x64 .f32) (w : FVec F S128x12x64 .f32)

/-- The three conjunctions of the value claim's precondition. -/
theorem parts (h : fn x q v w = fun _ => 1#1) :
    (∀ y, cmpi .sge x (broadcastInDim S12x64x128 ![] bcast_S_S12x64x128 (constantI S_ 32 0#32)) y = 1#1)
    ∧ (∀ y, cmpi .slt x (broadcastInDim S12x64x128 ![] bcast_S_S12x64x128 (constantI S_ 32 8192#32)) y = 1#1)
    ∧ ∀ y, cmpf .oeq w (broadcastInDim S128x12x64 ![] bcast_S_S128x12x64 (constant S_ .f32 0x00000000#32)) y = 1#1 := by
  have e := congrFun h (Shape.Idx.first h_S_)
  unfold fn at e
  obtain ⟨e1, e2⟩ := and_one _ _ e
  obtain ⟨e3, e4⟩ := and_one _ _ e1
  exact ⟨reduce_and _ _ _ _ _ (fun y => funext fun a => a.elim0) e3, reduce_and _ _ _ _ _ (fun y => funext fun a => a.elim0) e4,
    reduce_and _ _ _ _ _ (fun y => funext fun a => a.elim0) e2⟩

/-- Every index is one of the 8192 tokens. -/
theorem words (h : fn x q v w = fun _ => 1#1) (y : S12x64x128.Idx) : (x y).toNat < 8192 :=
  word_lt (x y) ((parts x q v w h).1 y) ((parts x q v w h).2.1 y)

/-- Every weight is zero. -/
theorem weights (q v : FVec Ideal S12x8192x64 .f32) (w : FVec Ideal S128x12x64 .f32) (h : fn x q v w = fun _ => 1#1) (y : S128x12x64.Idx) : w y = 0 := by
  have e := (parts x q v w h).2.2 y
  have e' : FloatOps.cmpf (F := Ideal) (φ := .f32) .oeq (w y) (Ideal.ofBits FTy.f32 0x00000000#32) = 1#1 := e
  rw [Ideal.cmpf_def] at e'
  have hz : Ideal.ofBits FTy.f32 0x00000000#32 = 0 := by simp
  rw [hz] at e'
  by_contra hn
  simp [Ideal.cmp, hn] at e'

end Cert.Attn.Pre

end
-- ==== Proof.AtValue.lean ====
module

public import proofs.«01_k».proof.Proof.AtVal
public import proofs.«01_k».proof.Proof.AtFrameAttnIdeal
public import proofs.«01_k».proof.Proof.AtRefIdx
public import proofs.«01_k».proof.Proof.AtPre
public import proofs.«01_k».proof.Defs
public import proofs.«01_k».proof.Proof.Gen.AttnReferenceIdeal

@[expose] public section

set_option maxRecDepth 16384

noncomputable section

/-! The attention call's result is its reference's. -/

namespace Cert.AttnIdeal.At

open Cert.AttnIdeal Cert.AttnIdeal.Gen Cert.Attn
open Idealize.ShloMosaic Idealize.ShloMosaic.TcCoe Idealize.SL.Sem

/-- The call's run, read: the result and the arguments. -/
theorem run_values (m : (ℓ : Loc nD τ sig) → Buf (Elt Ideal) ℓ) (ρ : Dev nD → PrngReg)
    (hI : ∀ (c : Dev nD) (y : S12x64x128.Idx), BitVec.toNat (w := 32) (m ((c : Thread nD τ).loc main_arg0) y) < 8192) :
    θ_run defs (onTc (τ := τ) (main (F := Ideal))) ⟨m, fun _ => 0, ρ⟩ (fun r => ∀ c : Dev nD,
      r.2.mem ((c.tc : Thread nD τ).loc main_v0) = gOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1.1 c).1 3).trans (arr3 (fun c b => m ((c : Thread nD τ).loc b)) c (hI c)), h.2.1 c⟩)
    (θ_run_and (run_quiescent m ρ (tokens_of m hI)) (frame m ρ (tokens_of m hI)))

end Cert.AttnIdeal.At

namespace Cert.Proof

open Cert.Km Cert.Attn Cert.AttnIdeal.At Cert.AttnReferenceIdeal.Hand
open Idealize.ShloMosaic Idealize.ShloMosaic.TcCoe Idealize.SL.Sem

/-- A window's rows, as the reference gathers them. -/
theorem rows_eq (I : IVec Cert.AttnReferenceIdeal.S12x64x128 32) (A : FVec Ideal Cert.AttnReferenceIdeal.S12x8192x64 .f32) (hI : ∀ y, (I y).toNat < 8192)
    (h : Fin 12) (c : Fin 64) (k : Fin 128) (d : Fin 64) : rWin (rTake A (rCol (rIx I))) (ix4 h c k d) = hR I A h c k d := by
  have e : ∀ (n : Fin 64) (j : Fin 128), n = c → j = k → A (ix3 h (tok (I (ix3 h n j))) d) = hR I A h c k d := fun n j hn hj => by subst hn hj; rfl
  rw [rWin_at, rTake_at A (rIx I) (fun y => hI _), rIx_at]
  refine e _ _ (Fin.ext ?_) (Fin.ext ?_)
  · show (c.val * 128 + k.val) / 128 = c.val
    omega
  · show (c.val * 128 + k.val) % 128 = k.val
    omega

/-- The attention agrees. -/
theorem attn_eq (I : IVec Cert.AttnReferenceIdeal.S12x64x128 32) (Q W : FVec Ideal Cert.AttnReferenceIdeal.S12x8192x64 .f32) (Z : FVec Ideal Cert.AttnReferenceIdeal.S128x12x64 .f32)
    (hI : ∀ y, (I y).toNat < 8192) (hZ : ∀ y, Z y = 0) : rAll I Q W Z = gOut I Q W := by
  funext y
  obtain ⟨h, r, d, rfl⟩ : ∃ (h : Fin 12) (r : Fin 8192) (d : Fin 64), y = ix3 h r d := ⟨y 0, y 1, y 2, by blk_ext⟩
  have hso : ∀ p : Fin 8192, rSo (rMask rEye (constant Cert.AttnReferenceIdeal.S_ .f32 0xC7435000#32) (rLg (rWin (rTake Q (rCol (rIx I)))) Z)) (rWin (rTake W (rCol (rIx I)))) (ix3 h p d)
      = att (hR I Q h ⟨p.val / 128, by omega⟩) (hR I W h ⟨p.val / 128, by omega⟩) ⟨p.val % 128, by omega⟩ d := fun p => by
    rw [rSo_at]
    unfold att
    refine Finset.sum_congr rfl fun j _ => ?_
    rw [rows_eq I W hI]
    refine congrArg (fun l : Fin 128 → EReal => sm l j * hR I W h ⟨p.val / 128, by omega⟩ j d) (funext fun i => ?_)
    rw [rMask_at _ _ hZ]
    exact congrArg (fun L : Fin 128 → Fin 64 → EReal => lg L _ i) (funext fun k => funext fun d => rows_eq I Q hI _ _ _ _)
  unfold rAll
  rw [rOut_at (rIx I) (fun y => hI _)]
  show _ = mean (hT I h) (fun c k => att (hR I Q h c) (hR I W h c) k d) r
  unfold mean
  rw [total_all, total_all]
  simp only [hso, rIx_at]
  rfl

/-- Over the extended reals the attention call and its reference end with equal results. -/
theorem attn_value : Cert.algebraic_AttnIdeal_AttnReferenceIdeal_pre_attn_pre (hAttnIdeal := Cert.AttnIdeal.Gen.facts) (hAttnReferenceIdeal := Cert.AttnReferenceIdeal.Gen.facts)
    (hPre_attn_pre := Cert.Pre_attn_pre.Gen.facts) := fun m g m' g' hp hm =>
  ⟨fun c => gOut (m ((c.tc : Thread Cert.AttnIdeal.nD Cert.AttnIdeal.τ).loc Cert.AttnIdeal.main_arg0)) (m ((c.tc : Thread Cert.AttnIdeal.nD Cert.AttnIdeal.τ).loc Cert.AttnIdeal.main_arg1))
      (m ((c.tc : Thread Cert.AttnIdeal.nD Cert.AttnIdeal.τ).loc Cert.AttnIdeal.main_arg2)),
    run_values m g (fun c y => Cert.Attn.Pre.words _ _ _ _ (hp c) y),
    (θ_run _ _ _).mono (fun r h c => by
      obtain ⟨h0, h1, h2, h3⟩ := hm c
      refine ⟨((h.1 c).1).trans ?_, (h.1 c).2⟩
      rw [h0, h1, h2, h3]
      exact attn_eq _ _ _ _ (fun y => Cert.Attn.Pre.words _ _ _ _ (hp c) y) (fun y => Cert.Attn.Pre.weights _ _ _ _ (hp c) y))
      (run_main m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnReferenceIdeal
public import proofs.«01_k».proof.Proof.Gen.Pre_idx_pre
public import proofs.«01_k».proof.Proof.Gen.Pre_attn_pre
public import proofs.«01_k».proof.Proof.KmFrameKernel
public import proofs.«01_k».proof.Proof.Value
public import proofs.«01_k».proof.Proof.AtFrameAttn
public import proofs.«01_k».proof.Proof.AtValue
public import Idealize.ShloMosaic.Adequacy
public import Idealize.ShloMosaic.Init

@[expose] public section

noncomputable section

namespace Cert.Proof

open Idealize.ShloMosaic Idealize.ShloMosaic.TcCoe Idealize.SL.Sem

/-- All the claims. -/
theorem claim : Cert.Claim :=
  ⟨Cert.Kernel.Gen.facts, Cert.KernelIdeal.Gen.facts, Cert.ReferenceIdeal.Gen.facts, Cert.Attn.Gen.facts, Cert.AttnIdeal.Gen.facts, Cert.AttnReferenceIdeal.Gen.facts,
    Cert.Pre_idx_pre.Gen.facts, Cert.Pre_attn_pre.Gen.facts,
    fun m g _ => Cert.Kernel.Km.frame m g, fun m g _ => Cert.KernelIdeal.Km.frame m g,
    fun m g _ => (θ_run _ _ _).mono (fun r h => ⟨fun c => (h.1 c).2.2, h.2⟩) (Cert.ReferenceIdeal.Hand.run_main m g),
    fun m g hp => Cert.Attn.At.frame m g (Cert.Attn.At.tokens_of m fun c y => Cert.Attn.Pre.idx_words _ _ _ _ (hp c) y),
    fun m g hp => Cert.AttnIdeal.At.frame m g (Cert.AttnIdeal.At.tokens_of m fun c y => Cert.Attn.Pre.idx_words _ _ _ _ (hp c) y),
    fun m g hp => Cert.AttnIdeal.At.frame m g (Cert.AttnIdeal.At.tokens_of m fun c y => Cert.Attn.Pre.words _ _ _ _ (hp c) y),
    fun m g _ => (θ_run _ _ _).mono (fun r h => ⟨fun c => (h.1 c).2, h.2⟩) (Cert.AttnReferenceIdeal.Hand.run_main m g),
    fun m g _ => (θ_run _ _ _).mono (fun r h => ⟨fun c => (h.1 c).2, h.2⟩) (Cert.AttnReferenceIdeal.Hand.run_main m g),
    trivial, value, trivial, attn_value⟩

end Cert.Proof

end
